-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_representable [hPre_representable : Cert.Pre_representable.Facts] (m : (ℓ : Loc Cert.KernelIdeal.nD Cert.KernelIdeal.τ Cert.KernelIdeal.sig) → Buf (Elt Ideal) ℓ) : Prop :=
  ∀ c : Dev Cert.KernelIdeal.nD,
    (Cert.Pre_representable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_representable [hPre_representable : Cert.Pre_representable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_representable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_representable [hKernelIdeal : Cert.KernelIdeal.Facts] [hPre_representable : Cert.Pre_representable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_representable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_representable [hReferenceIdeal : Cert.ReferenceIdeal.Facts] [hPre_representable : Cert.Pre_representable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_representable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "half_mask" .f32 0xFEFFFFFF#32 ⊥

def algebraic_KernelIdeal_ReferenceIdeal_pre_representable [hKernelIdeal : Cert.KernelIdeal.Facts] [hReferenceIdeal : Cert.ReferenceIdeal.Facts] [hPre_representable : Cert.Pre_representable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_representable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_v14_0) = v1 c
          ∧ r.2.mem ((c.tc : Thread Cert.ReferenceIdeal.nD Cert.ReferenceIdeal.τ).loc Cert.ReferenceIdeal.main_v164) = v2 c
          ∧ r.2.mem ((c.tc : Thread Cert.ReferenceIdeal.nD Cert.ReferenceIdeal.τ).loc Cert.ReferenceIdeal.main_v29_0) = v3 c
          ∧ r.2.mem ((c.tc : Thread Cert.ReferenceIdeal.nD Cert.ReferenceIdeal.τ).loc Cert.ReferenceIdeal.main_v165) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_representable : Cert.Pre_representable.Facts),
    quiescent_Kernel (hKernel := hKernel)
    ∧ quiescent_KernelIdeal (hKernelIdeal := hKernelIdeal)
    ∧ quiescent_KernelIdeal_pre_representable (hKernelIdeal := hKernelIdeal) (hPre_representable := hPre_representable)
    ∧ quiescent_ReferenceIdeal (hReferenceIdeal := hReferenceIdeal)
    ∧ quiescent_ReferenceIdeal_pre_representable (hReferenceIdeal := hReferenceIdeal) (hPre_representable := hPre_representable)
    ∧ preserves_Kernel_KernelIdeal
    ∧ algebraic_KernelIdeal_ReferenceIdeal_pre_representable (hKernelIdeal := hKernelIdeal) (hReferenceIdeal := hReferenceIdeal) (hPre_representable := hPre_representable)
-- ==== Pre_representable.lean ====
abbrev S4x4x32x64 : Shape := ⟨4, ![4, 4, 32, 64]⟩
abbrev S4x4x8x64 : Shape := ⟨4, ![4, 4, 8, 64]⟩
abbrev S4x131072x8x64 : Shape := ⟨4, ![4, 131072, 8, 64]⟩
abbrev S4 : Shape := ⟨1, ![4]⟩
abbrev S8 : Shape := ⟨1, ![8]⟩
abbrev S_ : Shape := ⟨0, ![]⟩

class Facts : Prop where
  bcast_S_S4 : S_.BroadcastsInDim S4 (![] : Fin 0 → Fin S4.rank)
  bcast_S_S8 : S_.BroadcastsInDim S8 (![] : Fin 0 → Fin S8.rank)
  reducesTo_S4_S_d0 : S4.ReducesTo [0] S_
  h_S_ : 0 < S_.numel
  reducesTo_S8_S_d0 : S8.ReducesTo [0] S_

variable [Facts]

def fn_part1 {F : FTy → Type} [FloatOps F] (main_v15 : IVec S8 1) (main_v16 : IVec S_ 1) : IVec S_ 1 :=
  let main_c_6 : IVec S_ 1 := constantI S_ 1 1#1
  let main_v17 : IVec S_ 1 := (fun x v => Host.reduce IntOp.andi x v reducesTo_S8_S_d0 h_S_) main_v15 main_c_6
  let main_v18 : IVec S_ 1 := andi main_v16 main_v17
  main_v18

def fn {F : FTy → Type} [FloatOps F] (main_arg0 : FVec F S4x4x32x64 .bf16) (main_arg1 : FVec F S4x4x8x64 .bf16) (main_arg2 : FVec F S4x4x8x64 .bf16) (main_arg3 : FVec F S4x131072x8x64 .fp8e4m3) (main_arg4 : FVec F S4x131072x8x64 .fp8e4m3) (main_arg5 : IVec S4 32) (main_arg6 : IVec S8 32) (main_arg7 : IVec S8 32) : IVec S_ 1 :=
  let main_c : IVec S_ 32 := constantI S_ 32 2147484672#32
  let main_v0 : IVec S4 32 := broadcastInDim S4 ![] bcast_S_S4 main_c
  let main_v1 : IVec S4 1 := cmpi .sge main_arg5 main_v0
  let main_c_0 : IVec S_ 32 := constantI S_ 32 2147483644#32
  let main_v2 : IVec S4 32 := broadcastInDim S4 ![] bcast_S_S4 main_c_0
  let main_v3 : IVec S4 1 := cmpi .sle main_arg5 main_v2
  let main_v4 : IVec S4 1 := andi main_v1 main_v3
  let main_c_1 : IVec S_ 32 := constantI S_ 32 4294967044#32
  let main_v5 : IVec S8 32 := broadcastInDim S8 ![] bcast_S_S8 main_c_1
  let main_v6 : IVec S8 1 := cmpi .sge main_arg6 main_v5
  let main_c_2 : IVec S_ 32 := constantI S_ 32 252#32
  let main_v7 : IVec S8 32 := broadcastInDim S8 ![] bcast_S_S8 main_c_2
  let main_v8 : IVec S8 1 := cmpi .sle main_arg6 main_v7
  let main_v9 : IVec S8 1 := andi main_v6 main_v8
  let main_c_3 : IVec S_ 32 := constantI S_ 32 4294967044#32
  let main_v10 : IVec S8 32 := broadcastInDim S8 ![] bcast_S_S8 main_c_3
  let main_v11 : IVec S8 1 := cmpi .sge main_arg7 main_v10
  let main_v12 : IVec S8 1 := andi main_v9 main_v11
  let main_c_4 : IVec S_ 32 := constantI S_ 32 252#32
  let main_v13 : IVec S8 32 := broadcastInDim S8 ![] bcast_S_S8 main_c_4
  let main_v14 : IVec S8 1 := cmpi .sle main_arg7 main_v13
  let main_v15 : IVec S8 1 := andi main_v12 main_v14
  let main_c_5 : IVec S_ 1 := constantI S_ 1 1#1
  let main_v16 : IVec S_ 1 := (fun x v => Host.reduce IntOp.andi x v reducesTo_S4_S_d0 h_S_) main_v4 main_c_5
  fn_part1 (F := F) main_v15 main_v16
-- ==== Kernel.lean ====
abbrev S4x4x32x64 : Shape := ⟨4, ![4, 4, 32, 64]⟩
abbrev S4x4x8x64 : Shape := ⟨4, ![4, 4, 8, 64]⟩
abbrev S4x131072x8x64 : Shape := ⟨4, ![4, 131072, 8, 64]⟩
abbrev S4 : Shape := ⟨1, ![4]⟩
abbrev S8 : Shape := ⟨1, ![8]⟩
abbrev S4x8x64x131072 : Shape := ⟨4, ![4, 8, 64, 131072]⟩
abbrev S4x512x131072 : Shape := ⟨3, ![4, 512, 131072]⟩
abbrev S1x8 : Shape := ⟨2, ![1, 8]⟩
abbrev S4x512x1152 : Shape := ⟨3, ![4, 512, 1152]⟩
abbrev S1 : Shape := ⟨1, ![1]⟩
abbrev S_ : Shape := ⟨0, ![]⟩
abbrev S1x512x1152 : Shape := ⟨3, ![1, 512, 1152]⟩
abbrev S512x1152 : Shape := ⟨2, ![512, 1152]⟩
abbrev S8x128 : Shape := ⟨2, ![8, 128]⟩
abbrev S1x128 : Shape := ⟨2, ![1, 128]⟩
abbrev S8x64 : Shape := ⟨2, ![8, 64]⟩
abbrev S1x1x8x64 : Shape := ⟨4, ![1, 1, 8, 64]⟩
abbrev S128x64 : Shape := ⟨2, ![128, 64]⟩
abbrev S64x128 : Shape := ⟨2, ![64, 128]⟩
abbrev S64x1152 : Shape := ⟨2, ![64, 1152]⟩
abbrev S1x4x16x64 : Shape := ⟨4, ![1, 4, 16, 64]⟩
abbrev S4x16x64 : Shape := ⟨3, ![4, 16, 64]⟩
abbrev S64x64 : Shape := ⟨2, ![64, 64]⟩
abbrev S64x256 : Shape := ⟨2, ![64, 256]⟩
abbrev S1x256x1152 : Shape := ⟨3, ![1, 256, 1152]⟩
abbrev S256x1152 : Shape := ⟨2, ![256, 1152]⟩
abbrev S64x1 : Shape := ⟨2, ![64, 1]⟩
abbrev S64 : Shape := ⟨1, ![64]⟩

abbrev nBuf : Space → Nat
  | .hbm => 17
  | .vmem => 10
  | .smem => 3
  | _ => 0

abbrev bufTy : (tb : Table) → Fin (tcTables nBuf tb) → BufTy
  | .hbm, ⟨0, _⟩ => ⟨S4x4x32x64, .bf16⟩
  | .hbm, ⟨1, _⟩ => ⟨S4x4x8x64, .bf16⟩
  | .hbm, ⟨2, _⟩ => ⟨S4x4x8x64, .bf16⟩
  | .hbm, ⟨3, _⟩ => ⟨S4x131072x8x64, .fp8e4m3⟩
  | .hbm, ⟨4, _⟩ => ⟨S4x131072x8x64, .fp8e4m3⟩
  | .hbm, ⟨5, _⟩ => ⟨S4, .i32⟩
  | .hbm, ⟨6, _⟩ => ⟨S8, .i32⟩
  | .hbm, ⟨7, _⟩ => ⟨S8, .i32⟩
  | .hbm, ⟨8, _⟩ => ⟨S4x8x64x131072, .fp8e4m3⟩
  | .hbm, ⟨9, _⟩ => ⟨S4x512x131072, .fp8e4m3⟩
  | .hbm, ⟨10, _⟩ => ⟨S4x8x64x131072, .fp8e4m3⟩
  | .hbm, ⟨11, _⟩ => ⟨S4x512x131072, .fp8e4m3⟩
  | .hbm, ⟨12, _⟩ => ⟨S4x4x32x64, .bf16⟩
  | .hbm, ⟨13, _⟩ => ⟨S4x4x8x64, .fp8e4m3⟩
  | .hbm, ⟨14, _⟩ => ⟨S1x8, .f32⟩
  | .hbm, ⟨15, _⟩ => ⟨S4x4x8x64, .fp8e4m3⟩
  | .hbm, ⟨16, _⟩ => ⟨S1x8, .f32⟩
  | .local _ .vmem, ⟨0, _⟩ => ⟨S4x4x32x64, .bf16⟩
  | .local _ .vmem, ⟨1, _⟩ => ⟨S4x4x8x64, .bf16⟩
  | .local _ .vmem, ⟨2, _⟩ => ⟨S4x4x8x64, .bf16⟩
  | .local _ .vmem, ⟨3, _⟩ => ⟨S4x4x32x64, .bf16⟩
  | .local _ .vmem, ⟨4, _⟩ => ⟨S4x4x8x64, .fp8e4m3⟩
  | .local _ .vmem, ⟨5, _⟩ => ⟨S1x8, .f32⟩
  | .local _ .vmem, ⟨6, _⟩ => ⟨S4x4x8x64, .fp8e4m3⟩
  | .local _ .vmem, ⟨7, _⟩ => ⟨S1x8, .f32⟩
  | .local _ .vmem, ⟨8, _⟩ => ⟨S4x512x1152, .fp8e4m3⟩
  | .local _ .vmem, ⟨9, _⟩ => ⟨S4x512x1152, .fp8e4m3⟩
  | .local _ .smem, ⟨0, _⟩ => ⟨S4, .i32⟩
  | .local _ .smem, ⟨1, _⟩ => ⟨S8, .i32⟩
  | .local _ .smem, ⟨2, _⟩ => ⟨S8, .i32⟩
  | _, _ => ⟨S4x4x32x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg6_0 : Ref sig .tc := ⟨.vmem, 3, rfl⟩
abbrev cc0_stg7_0 : Ref sig .tc := ⟨.vmem, 4, rfl⟩
abbrev cc0_stg8_0 : Ref sig .tc := ⟨.vmem, 5, rfl⟩
abbrev cc0_stg9_0 : Ref sig .tc := ⟨.vmem, 6, rfl⟩
abbrev cc0_stg10_0 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

def k0_mult1 (v0 : BitVec 32) : BitVec 32 :=
  let c129920_i32 : BitVec 32 := 129920#32
  let c0_i32 : BitVec 32 := 0#32
  let c1024_i32 : BitVec 32 := 1024#32
  let v1 : BitVec 32 := Scalar.subi v0 c1024_i32
  let c1_i32 : BitVec 32 := 1#32
  let v2 : BitVec 32 := Scalar.addi v1 c1_i32
  let c7_i32 : BitVec 32 := 7#32
  let v3 : BitVec 32 := Scalar.shrsi v2 c7_i32
  let c7_i32_0 : BitVec 32 := 7#32
  let v4 : BitVec 32 := Scalar.shli v3 c7_i32_0
  let v5 : BitVec 32 := Scalar.maxsi c0_i32 v4
  let v6 : BitVec 32 := Scalar.minsi c129920_i32 v5
  v6

def k0_off1 (v0 : BitVec 32) : Fin 3 → Nat :=
  let c0_i32_1 : BitVec 32 := 0#32
  let c0_i32_6 : BitVec 32 := 0#32
  let c129920_i32 : BitVec 32 := 129920#32
  let c0_i32 : BitVec 32 := 0#32
  let c1024_i32 : BitVec 32 := 1024#32
  let v1 : BitVec 32 := Scalar.subi v0 c1024_i32
  let c1_i32 : BitVec 32 := 1#32
  let v2 : BitVec 32 := Scalar.addi v1 c1_i32
  let c7_i32 : BitVec 32 := 7#32
  let v3 : BitVec 32 := Scalar.shrsi v2 c7_i32
  let c7_i32_0 : BitVec 32 := 7#32
  let v4 : BitVec 32 := Scalar.shli v3 c7_i32_0
  let v5 : BitVec 32 := Scalar.maxsi c0_i32 v4
  let v6 : BitVec 32 := Scalar.minsi c129920_i32 v5
  let v7 : BitVec 32 := v6
  ![0, 0, v7.toNat]
def k0_mult2 (v20 : BitVec 32) : BitVec 32 :=
  let c129920_i32_18 : BitVec 32 := 129920#32
  let c0_i32_17 : BitVec 32 := 0#32
  let c1024_i32_13 : BitVec 32 := 1024#32
  let v21 : BitVec 32 := Scalar.subi v20 c1024_i32_13
  let c1_i32_14 : BitVec 32 := 1#32
  let v22 : BitVec 32 := Scalar.addi v21 c1_i32_14
  let c7_i32_15 : BitVec 32 := 7#32
  let v23 : BitVec 32 := Scalar.shrsi v22 c7_i32_15
  let c7_i32_16 : BitVec 32 := 7#32
  let v24 : BitVec 32 := Scalar.shli v23 c7_i32_16
  let v25 : BitVec 32 := Scalar.maxsi c0_i32_17 v24
  let v26 : BitVec 32 := Scalar.minsi c129920_i32_18 v25
  v26

def k0_off2 (v20 : BitVec 32) : Fin 3 → Nat :=
  let c1_i32_19 : BitVec 32 := 1#32
  let c0_i32_23 : BitVec 32 := 0#32
  let c129920_i32_18 : BitVec 32 := 129920#32
  let c0_i32_17 : BitVec 32 := 0#32
  let c1024_i32_13 : BitVec 32 := 1024#32
  let v21 : BitVec 32 := Scalar.subi v20 c1024_i32_13
  let c1_i32_14 : BitVec 32 := 1#32
  let v22 : BitVec 32 := Scalar.addi v21 c1_i32_14
  let c7_i32_15 : BitVec 32 := 7#32
  let v23 : BitVec 32 := Scalar.shrsi v22 c7_i32_15
  let c7_i32_16 : BitVec 32 := 7#32
  let v24 : BitVec 32 := Scalar.shli v23 c7_i32_16
  let v25 : BitVec 32 := Scalar.maxsi c0_i32_17 v24
  let v26 : BitVec 32 := Scalar.minsi c129920_i32_18 v25
  let v27 : BitVec 32 := v26
  ![1, 0, v27.toNat]
def k0_mult3 (v40 : BitVec 32) : BitVec 32 :=
  let c129920_i32_34 : BitVec 32 := 129920#32
  let c0_i32_33 : BitVec 32 := 0#32
  let c1024_i32_29 : BitVec 32 := 1024#32
  let v41 : BitVec 32 := Scalar.subi v40 c1024_i32_29
  let c1_i32_30 : BitVec 32 := 1#32
  let v42 : BitVec 32 := Scalar.addi v41 c1_i32_30
  let c7_i32_31 : BitVec 32 := 7#32
  let v43 : BitVec 32 := Scalar.shrsi v42 c7_i32_31
  let c7_i32_32 : BitVec 32 := 7#32
  let v44 : BitVec 32 := Scalar.shli v43 c7_i32_32
  let v45 : BitVec 32 := Scalar.maxsi c0_i32_33 v44
  let v46 : BitVec 32 := Scalar.minsi c129920_i32_34 v45
  v46

def k0_off3 (v40 : BitVec 32) : Fin 3 → Nat :=
  let c2_i32_35 : BitVec 32 := 2#32
  let c0_i32_39 : BitVec 32 := 0#32
  let c129920_i32_34 : BitVec 32 := 129920#32
  let c0_i32_33 : BitVec 32 := 0#32
  let c1024_i32_29 : BitVec 32 := 1024#32
  let v41 : BitVec 32 := Scalar.subi v40 c1024_i32_29
  let c1_i32_30 : BitVec 32 := 1#32
  let v42 : BitVec 32 := Scalar.addi v41 c1_i32_30
  let c7_i32_31 : BitVec 32 := 7#32
  let v43 : BitVec 32 := Scalar.shrsi v42 c7_i32_31
  let c7_i32_32 : BitVec 32 := 7#32
  let v44 : BitVec 32 := Scalar.shli v43 c7_i32_32
  let v45 : BitVec 32 := Scalar.maxsi c0_i32_33 v44
  let v46 : BitVec 32 := Scalar.minsi c129920_i32_34 v45
  let v47 : BitVec 32 := v46
  ![2, 0, v47.toNat]
def k0_mult4 (v60 : BitVec 32) : BitVec 32 :=
  let c129920_i32_50 : BitVec 32 := 129920#32
  let c0_i32_49 : BitVec 32 := 0#32
  let c1024_i32_45 : BitVec 32 := 1024#32
  let v61 : BitVec 32 := Scalar.subi v60 c1024_i32_45
  let c1_i32_46 : BitVec 32 := 1#32
  let v62 : BitVec 32 := Scalar.addi v61 c1_i32_46
  let c7_i32_47 : BitVec 32 := 7#32
  let v63 : BitVec 32 := Scalar.shrsi v62 c7_i32_47
  let c7_i32_48 : BitVec 32 := 7#32
  let v64 : BitVec 32 := Scalar.shli v63 c7_i32_48
  let v65 : BitVec 32 := Scalar.maxsi c0_i32_49 v64
  let v66 : BitVec 32 := Scalar.minsi c129920_i32_50 v65
  v66

def k0_off4 (v60 : BitVec 32) : Fin 3 → Nat :=
  let c3_i32_51 : BitVec 32 := 3#32
  let c0_i32_55 : BitVec 32 := 0#32
  let c129920_i32_50 : BitVec 32 := 129920#32
  let c0_i32_49 : BitVec 32 := 0#32
  let c1024_i32_45 : BitVec 32 := 1024#32
  let v61 : BitVec 32 := Scalar.subi v60 c1024_i32_45
  let c1_i32_46 : BitVec 32 := 1#32
  let v62 : BitVec 32 := Scalar.addi v61 c1_i32_46
  let c7_i32_47 : BitVec 32 := 7#32
  let v63 : BitVec 32 := Scalar.shrsi v62 c7_i32_47
  let c7_i32_48 : BitVec 32 := 7#32
  let v64 : BitVec 32 := Scalar.shli v63 c7_i32_48
  let v65 : BitVec 32 := Scalar.maxsi c0_i32_49 v64
  let v66 : BitVec 32 := Scalar.minsi c129920_i32_50 v65
  let v67 : BitVec 32 := v66
  ![3, 0, v67.toNat]

def k0_chk4 (v60 : BitVec 32) : Prop :=
  (128 ∣ (k0_mult4 v60).toNat) ∧
  (∀ a, (k0_off4 v60) a + S1x512x1152.size a ≤ S4x512x131072.size a) ∧
  (∀ (hinb : ∀ a, (k0_off4 v60) a + S1x512x1152.size a ≤ S4x512x131072.size a), (Rect.unit (s := S4x512x131072) (k0_off4 v60) S1x512x1152.size hinb).WholeWords (EltTy.packing .fp8e4m3))
theorem k0_mult4_dvd : ∀ (v60 : BitVec 32) (k0_hw4 : k0_chk4 v60), 128 ∣ (k0_mult4 v60).toNat := fun v60 k0_hw4 => k0_hw4.1
theorem k0_off4_inb : ∀ (v60 : BitVec 32) (k0_hw4 : k0_chk4 v60), ∀ a, (k0_off4 v60) a + S1x512x1152.size a ≤ S4x512x131072.size a := fun v60 k0_hw4 => k0_hw4.2.1
theorem k0_off4_wordsfp8e4m3 : ∀ (v60 : BitVec 32) (k0_hw4 : k0_chk4 v60), (Rect.unit (s := S4x512x131072) (k0_off4 v60) S1x512x1152.size (k0_off4_inb v60 k0_hw4)).WholeWords (EltTy.packing .fp8e4m3) := fun v60 k0_hw4 => k0_hw4.2.2 (k0_off4_inb v60 k0_hw4)

def k0_off5 (v0 : BitVec 32) : Fin 3 → Nat :=
  let c0_i32_209 : BitVec 32 := 0#32
  let c0_i32_214 : BitVec 32 := 0#32
  let c129920_i32 : BitVec 32 := 129920#32
  let c0_i32 : BitVec 32 := 0#32
  let c1024_i32 : BitVec 32 := 1024#32
  let v1 : BitVec 32 := Scalar.subi v0 c1024_i32
  let c1_i32 : BitVec 32 := 1#32
  let v2 : BitVec 32 := Scalar.addi v1 c1_i32
  let c7_i32 : BitVec 32 := 7#32
  let v3 : BitVec 32 := Scalar.shrsi v2 c7_i32
  let c7_i32_0 : BitVec 32 := 7#32
  let v4 : BitVec 32 := Scalar.shli v3 c7_i32_0
  let v5 : BitVec 32 := Scalar.maxsi c0_i32 v4
  let v6 : BitVec 32 := Scalar.minsi c129920_i32 v5
  let v7 : BitVec 32 := v6
  ![0, 0, v7.toNat]

def k0_chk1 (v0 : BitVec 32) : Prop :=
  (128 ∣ (k0_mult1 v0).toNat) ∧
  (∀ a, (k0_off1 v0) a + S1x512x1152.size a ≤ S4x512x131072.size a) ∧
  (∀ (hinb : ∀ a, (k0_off1 v0) a + S1x512x1152.size a ≤ S4x512x131072.size a), (Rect.unit (s := S4x512x131072) (k0_off1 v0) S1x512x1152.size hinb).WholeWords (EltTy.packing .fp8e4m3)) ∧
  (∀ a, (k0_off5 v0) a + S1x512x1152.size a ≤ S4x512x131072.size a) ∧
  (∀ (hinb : ∀ a, (k0_off5 v0) a + S1x512x1152.size a ≤ S4x512x131072.size a), (Rect.unit (s := S4x512x131072) (k0_off5 v0) S1x512x1152.size hinb).WholeWords (EltTy.packing .fp8e4m3))
theorem k0_mult1_dvd : ∀ (v0 : BitVec 32) (k0_hw1 : k0_chk1 v0), 128 ∣ (k0_mult1 v0).toNat := fun v0 k0_hw1 => k0_hw1.1
theorem k0_off1_inb : ∀ (v0 : BitVec 32) (k0_hw1 : k0_chk1 v0), ∀ a, (k0_off1 v0) a + S1x512x1152.size a ≤ S4x512x131072.size a := fun v0 k0_hw1 => k0_hw1.2.1
theorem k0_off1_wordsfp8e4m3 : ∀ (v0 : BitVec 32) (k0_hw1 : k0_chk1 v0), (Rect.unit (s := S4x512x131072) (k0_off1 v0) S1x512x1152.size (k0_off1_inb v0 k0_hw1)).WholeWords (EltTy.packing .fp8e4m3) := fun v0 k0_hw1 => k0_hw1.2.2.1 (k0_off1_inb v0 k0_hw1)
theorem k0_off5_inb : ∀ (v0 : BitVec 32) (k0_hw1 : k0_chk1 v0), ∀ a, (k0_off5 v0) a + S1x512x1152.size a ≤ S4x512x131072.size a := fun v0 k0_hw1 => k0_hw1.2.2.2.1
theorem k0_off5_wordsfp8e4m3 : ∀ (v0 : BitVec 32) (k0_hw1 : k0_chk1 v0), (Rect.unit (s := S4x512x131072) (k0_off5 v0) S1x512x1152.size (k0_off5_inb v0 k0_hw1)).WholeWords (EltTy.packing .fp8e4m3) := fun v0 k0_hw1 => k0_hw1.2.2.2.2 (k0_off5_inb v0 k0_hw1)

def k0_off6 (v20 : BitVec 32) : Fin 3 → Nat :=
  let c1_i32_379 : BitVec 32 := 1#32
  let c0_i32_384 : BitVec 32 := 0#32
  let c129920_i32_18 : BitVec 32 := 129920#32
  let c0_i32_17 : BitVec 32 := 0#32
  let c1024_i32_13 : BitVec 32 := 1024#32
  let v21 : BitVec 32 := Scalar.subi v20 c1024_i32_13
  let c1_i32_14 : BitVec 32 := 1#32
  let v22 : BitVec 32 := Scalar.addi v21 c1_i32_14
  let c7_i32_15 : BitVec 32 := 7#32
  let v23 : BitVec 32 := Scalar.shrsi v22 c7_i32_15
  let c7_i32_16 : BitVec 32 := 7#32
  let v24 : BitVec 32 := Scalar.shli v23 c7_i32_16
  let v25 : BitVec 32 := Scalar.maxsi c0_i32_17 v24
  let v26 : BitVec 32 := Scalar.minsi c129920_i32_18 v25
  let v27 : BitVec 32 := v26
  ![1, 0, v27.toNat]

def k0_chk2 (v20 : BitVec 32) : Prop :=
  (128 ∣ (k0_mult2 v20).toNat) ∧
  (∀ a, (k0_off2 v20) a + S1x512x1152.size a ≤ S4x512x131072.size a) ∧
  (∀ (hinb : ∀ a, (k0_off2 v20) a + S1x512x1152.size a ≤ S4x512x131072.size a), (Rect.unit (s := S4x512x131072) (k0_off2 v20) S1x512x1152.size hinb).WholeWords (EltTy.packing .fp8e4m3)) ∧
  (∀ a, (k0_off6 v20) a + S1x512x1152.size a ≤ S4x512x131072.size a) ∧
  (∀ (hinb : ∀ a, (k0_off6 v20) a + S1x512x1152.size a ≤ S4x512x131072.size a), (Rect.unit (s := S4x512x131072) (k0_off6 v20) S1x512x1152.size hinb).WholeWords (EltTy.packing .fp8e4m3))
theorem k0_mult2_dvd : ∀ (v20 : BitVec 32) (k0_hw2 : k0_chk2 v20), 128 ∣ (k0_mult2 v20).toNat := fun v20 k0_hw2 => k0_hw2.1
theorem k0_off2_inb : ∀ (v20 : BitVec 32) (k0_hw2 : k0_chk2 v20), ∀ a, (k0_off2 v20) a + S1x512x1152.size a ≤ S4x512x131072.size a := fun v20 k0_hw2 => k0_hw2.2.1
theorem k0_off2_wordsfp8e4m3 : ∀ (v20 : BitVec 32) (k0_hw2 : k0_chk2 v20), (Rect.unit (s := S4x512x131072) (k0_off2 v20) S1x512x1152.size (k0_off2_inb v20 k0_hw2)).WholeWords (EltTy.packing .fp8e4m3) := fun v20 k0_hw2 => k0_hw2.2.2.1 (k0_off2_inb v20 k0_hw2)
theorem k0_off6_inb : ∀ (v20 : BitVec 32) (k0_hw2 : k0_chk2 v20), ∀ a, (k0_off6 v20) a + S1x512x1152.size a ≤ S4x512x131072.size a := fun v20 k0_hw2 => k0_hw2.2.2.2.1
theorem k0_off6_wordsfp8e4m3 : ∀ (v20 : BitVec 32) (k0_hw2 : k0_chk2 v20), (Rect.unit (s := S4x512x131072) (k0_off6 v20) S1x512x1152.size (k0_off6_inb v20 k0_hw2)).WholeWords (EltTy.packing .fp8e4m3) := fun v20 k0_hw2 => k0_hw2.2.2.2.2 (k0_off6_inb v20 k0_hw2)

def k0_off7 (v40 : BitVec 32) : Fin 3 → Nat :=
  let c2_i32_551 : BitVec 32 := 2#32
  let c0_i32_556 : BitVec 32 := 0#32
  let c129920_i32_34 : BitVec 32 := 129920#32
  let c0_i32_33 : BitVec 32 := 0#32
  let c1024_i32_29 : BitVec 32 := 1024#32
  let v41 : BitVec 32 := Scalar.subi v40 c1024_i32_29
  let c1_i32_30 : BitVec 32 := 1#32
  let v42 : BitVec 32 := Scalar.addi v41 c1_i32_30
  let c7_i32_31 : BitVec 32 := 7#32
  let v43 : BitVec 32 := Scalar.shrsi v42 c7_i32_31
  let c7_i32_32 : BitVec 32 := 7#32
  let v44 : BitVec 32 := Scalar.shli v43 c7_i32_32
  let v45 : BitVec 32 := Scalar.maxsi c0_i32_33 v44
  let v46 : BitVec 32 := Scalar.minsi c129920_i32_34 v45
  let v47 : BitVec 32 := v46
  ![2, 0, v47.toNat]

def k0_chk3 (v40 : BitVec 32) : Prop :=
  (128 ∣ (k0_mult3 v40).toNat) ∧
  (∀ a, (k0_off3 v40) a + S1x512x1152.size a ≤ S4x512x131072.size a) ∧
  (∀ (hinb : ∀ a, (k0_off3 v40) a + S1x512x1152.size a ≤ S4x512x131072.size a), (Rect.unit (s := S4x512x131072) (k0_off3 v40) S1x512x1152.size hinb).WholeWords (EltTy.packing .fp8e4m3)) ∧
  (∀ a, (k0_off7 v40) a + S1x512x1152.size a ≤ S4x512x131072.size a) ∧
  (∀ (hinb : ∀ a, (k0_off7 v40) a + S1x512x1152.size a ≤ S4x512x131072.size a), (Rect.unit (s := S4x512x131072) (k0_off7 v40) S1x512x1152.size hinb).WholeWords (EltTy.packing .fp8e4m3))
theorem k0_mult3_dvd : ∀ (v40 : BitVec 32) (k0_hw3 : k0_chk3 v40), 128 ∣ (k0_mult3 v40).toNat := fun v40 k0_hw3 => k0_hw3.1
theorem k0_off3_inb : ∀ (v40 : BitVec 32) (k0_hw3 : k0_chk3 v40), ∀ a, (k0_off3 v40) a + S1x512x1152.size a ≤ S4x512x131072.size a := fun v40 k0_hw3 => k0_hw3.2.1
theorem k0_off3_wordsfp8e4m3 : ∀ (v40 : BitVec 32) (k0_hw3 : k0_chk3 v40), (Rect.unit (s := S4x512x131072) (k0_off3 v40) S1x512x1152.size (k0_off3_inb v40 k0_hw3)).WholeWords (EltTy.packing .fp8e4m3) := fun v40 k0_hw3 => k0_hw3.2.2.1 (k0_off3_inb v40 k0_hw3)
theorem k0_off7_inb : ∀ (v40 : BitVec 32) (k0_hw3 : k0_chk3 v40), ∀ a, (k0_off7 v40) a + S1x512x1152.size a ≤ S4x512x131072.size a := fun v40 k0_hw3 => k0_hw3.2.2.2.1
theorem k0_off7_wordsfp8e4m3 : ∀ (v40 : BitVec 32) (k0_hw3 : k0_chk3 v40), (Rect.unit (s := S4x512x131072) (k0_off7 v40) S1x512x1152.size (k0_off7_inb v40 k0_hw3)).WholeWords (EltTy.packing .fp8e4m3) := fun v40 k0_hw3 => k0_hw3.2.2.2.2 (k0_off7_inb v40 k0_hw3)

abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S8 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S8 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x4x32x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x4x8x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x4x8x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x4x32x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x4x8x64 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x4x8x64 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== KernelIdeal.lean ====
variable {F : FTy → Type} [FloatOps F] [Named F]
def κ : String → Option EReal := fun
  | "half_mask" => some ⊥
  | "log2e" => some (((Real.log 2)⁻¹ : ℝ) : EReal)
  | _ => none
-- ==== ReferenceIdeal.lean ====
abbrev S4x4x32x64 : Shape := ⟨4, ![4, 4, 32, 64]⟩
abbrev S4x4x8x64 : Shape := ⟨4, ![4, 4, 8, 64]⟩
abbrev S4x131072x8x64 : Shape := ⟨4, ![4, 131072, 8, 64]⟩
abbrev S4 : Shape := ⟨1, ![4]⟩
abbrev S8 : Shape := ⟨1, ![8]⟩
abbrev S_ : Shape := ⟨0, ![]⟩
abbrev S8x1 : Shape := ⟨2, ![8, 1]⟩
abbrev S1x1x8x1 : Shape := ⟨4, ![1, 1, 8, 1]⟩
abbrev S1 : Shape := ⟨1, ![1]⟩
abbrev S1x1024x8x64 : Shape := ⟨4, ![1, 1024, 8, 64]⟩
abbrev S4x1024x8x64 : Shape := ⟨4, ![4, 1024, 8, 64]⟩
abbrev S4x4x8x4x64 : Shape := ⟨5, ![4, 4, 8, 4, 64]⟩
abbrev S1x8x1x1x1 : Shape := ⟨5, ![1, 8, 1, 1, 1]⟩
abbrev S4x8x1024x4x4 : Shape := ⟨5, ![4, 8, 1024, 4, 4]⟩
abbrev S4x8x4x4x1024 : Shape := ⟨5, ![4, 8, 4, 4, 1024]⟩
abbrev S4x8x4x4x4 : Shape := ⟨5, ![4, 8, 4, 4, 4]⟩
abbrev S4x1 : Shape := ⟨2, ![4, 1]⟩
abbrev S1x4 : Shape := ⟨2, ![1, 4]⟩
abbrev S4x4 : Shape := ⟨2, ![4, 4]⟩
abbrev S4x1x1 : Shape := ⟨3, ![4, 1, 1]⟩
abbrev S1024 : Shape := ⟨1, ![1024]⟩
abbrev S1x1x1024 : Shape := ⟨3, ![1, 1, 1024]⟩
abbrev S4x1x1024 : Shape := ⟨3, ![4, 1, 1024]⟩
abbrev S4x4x1 : Shape := ⟨3, ![4, 4, 1]⟩
abbrev S4x4x1024 : Shape := ⟨3, ![4, 4, 1024]⟩
abbrev S4x1x4 : Shape := ⟨3, ![4, 1, 4]⟩
abbrev S4x4x4 : Shape := ⟨3, ![4, 4, 4]⟩
abbrev S4x1x1x4x1024 : Shape := ⟨5, ![4, 1, 1, 4, 1024]⟩
abbrev S4x1x1x4x4 : Shape := ⟨5, ![4, 1, 1, 4, 4]⟩
abbrev S4x8x4x4x1028 : Shape := ⟨5, ![4, 8, 4, 4, 1028]⟩
abbrev S4x8x4x4 : Shape := ⟨4, ![4, 8, 4, 4]⟩
abbrev S4x8x4x4x1 : Shape := ⟨5, ![4, 8, 4, 4, 1]⟩
abbrev S4x8x64x4x4 : Shape := ⟨5, ![4, 8, 64, 4, 4]⟩
abbrev S1x8 : Shape := ⟨2, ![1, 8]⟩

abbrev nBuf : Space → Nat
  | .hbm => 263
  | .vmem => 8
  | .smem => 0
  | _ => 0

abbrev hbmTy0_0 (i : Nat) : BufTy := match i % 128 with
  | 0 => ⟨S4x4x32x64, .bf16⟩
  | 1 => ⟨S4x4x8x64, .bf16⟩
  | 2 => ⟨S4x4x8x64, .bf16⟩
  | 3 => ⟨S4x131072x8x64, .fp8e4m3⟩
  | 4 => ⟨S4x131072x8x64, .fp8e4m3⟩
  | 5 => ⟨S4, .i32⟩
  | 6 => ⟨S8, .i32⟩
  | 7 => ⟨S8, .i32⟩
  | 8 => ⟨S8, .i32⟩
  | 9 => ⟨S_, .f32⟩
  | 10 => ⟨S8, .f32⟩
  | 11 => ⟨S8, .f32⟩
  | 12 => ⟨S8, .f32⟩
  | 13 => ⟨S8x1, .f32⟩
  | 14 => ⟨S4x4x8x64, .f32⟩
  | 15 => ⟨S1x1x8x1, .f32⟩
  | 16 => ⟨S4x4x8x64, .f32⟩
  | 17 => ⟨S4x4x8x64, .f32⟩
  | 18 => ⟨S_, .f32⟩
  | 19 => ⟨S_, .f32⟩
  | 20 => ⟨S_, .f32⟩
  | 21 => ⟨S4x4x8x64, .f32⟩
  | 22 => ⟨S4x4x8x64, .f32⟩
  | 23 => ⟨S_, .f32⟩
  | 24 => ⟨S4x4x8x64, .f32⟩
  | 25 => ⟨S4x4x8x64, .f32⟩
  | 26 => ⟨S4x4x8x64, .fp8e4m3⟩
  | 27 => ⟨S_, .f32⟩
  | 28 => ⟨S8, .f32⟩
  | 29 => ⟨S8, .f32⟩
  | 30 => ⟨S8, .f32⟩
  | 31 => ⟨S4x4x8x64, .fp8e4m3⟩
  | 32 => ⟨S8, .f32⟩
  | 33 => ⟨S8, .i32⟩
  | 34 => ⟨S_, .f32⟩
  | 35 => ⟨S8, .f32⟩
  | 36 => ⟨S8, .f32⟩
  | 37 => ⟨S8, .f32⟩
  | 38 => ⟨S8x1, .f32⟩
  | 39 => ⟨S4x4x8x64, .f32⟩
  | 40 => ⟨S1x1x8x1, .f32⟩
  | 41 => ⟨S4x4x8x64, .f32⟩
  | 42 => ⟨S4x4x8x64, .f32⟩
  | 43 => ⟨S_, .f32⟩
  | 44 => ⟨S_, .f32⟩
  | 45 => ⟨S_, .f32⟩
  | 46 => ⟨S4x4x8x64, .f32⟩
  | 47 => ⟨S4x4x8x64, .f32⟩
  | 48 => ⟨S_, .f32⟩
  | 49 => ⟨S4x4x8x64, .f32⟩
  | 50 => ⟨S4x4x8x64, .f32⟩
  | 51 => ⟨S4x4x8x64, .fp8e4m3⟩
  | 52 => ⟨S_, .f32⟩
  | 53 => ⟨S8, .f32⟩
  | 54 => ⟨S8, .f32⟩
  | 55 => ⟨S8, .f32⟩
  | 56 => ⟨S4x4x8x64, .fp8e4m3⟩
  | 57 => ⟨S8, .f32⟩
  | 58 => ⟨S_, .i32⟩
  | 59 => ⟨S4, .i32⟩
  | 60 => ⟨S4, .i32⟩
  | 61 => ⟨S_, .i32⟩
  | 62 => ⟨S_, .i32⟩
  | 63 => ⟨S_, .i32⟩
  | 64 => ⟨S4, .i32⟩
  | 65 => ⟨S4, .i32⟩
  | 66 => ⟨S_, .i32⟩
  | 67 => ⟨S4, .i32⟩
  | 68 => ⟨S4, .i32⟩
  | 69 => ⟨S1, .i32⟩
  | 70 => ⟨S_, .i32⟩
  | 71 => ⟨S_, .i32⟩
  | 72 => ⟨S_, .i1⟩
  | 73 => ⟨S_, .i32⟩
  | 74 => ⟨S_, .i32⟩
  | 75 => ⟨S_, .i32⟩
  | 76 => ⟨S_, .i32⟩
  | 77 => ⟨S_, .i32⟩
  | 78 => ⟨S_, .i32⟩
  | 79 => ⟨S1x1024x8x64, .fp8e4m3⟩
  | 80 => ⟨S1, .i32⟩
  | 81 => ⟨S_, .i32⟩
  | 82 => ⟨S_, .i32⟩
  | 83 => ⟨S_, .i1⟩
  | 84 => ⟨S_, .i32⟩
  | 85 => ⟨S_, .i32⟩
  | 86 => ⟨S_, .i32⟩
  | 87 => ⟨S_, .i32⟩
  | 88 => ⟨S_, .i32⟩
  | 89 => ⟨S_, .i32⟩
  | 90 => ⟨S1x1024x8x64, .fp8e4m3⟩
  | 91 => ⟨S1, .i32⟩
  | 92 => ⟨S_, .i32⟩
  | 93 => ⟨S_, .i32⟩
  | 94 => ⟨S_, .i1⟩
  | 95 => ⟨S_, .i32⟩
  | 96 => ⟨S_, .i32⟩
  | 97 => ⟨S_, .i32⟩
  | 98 => ⟨S_, .i32⟩
  | 99 => ⟨S_, .i32⟩
  | 100 => ⟨S_, .i32⟩
  | 101 => ⟨S1x1024x8x64, .fp8e4m3⟩
  | 102 => ⟨S1, .i32⟩
  | 103 => ⟨S_, .i32⟩
  | 104 => ⟨S_, .i32⟩
  | 105 => ⟨S_, .i1⟩
  | 106 => ⟨S_, .i32⟩
  | 107 => ⟨S_, .i32⟩
  | 108 => ⟨S_, .i32⟩
  | 109 => ⟨S_, .i32⟩
  | 110 => ⟨S_, .i32⟩
  | 111 => ⟨S_, .i32⟩
  | 112 => ⟨S1x1024x8x64, .fp8e4m3⟩
  | 113 => ⟨S4x1024x8x64, .fp8e4m3⟩
  | 114 => ⟨S1, .i32⟩
  | 115 => ⟨S_, .i32⟩
  | 116 => ⟨S_, .i32⟩
  | 117 => ⟨S_, .i1⟩
  | 118 => ⟨S_, .i32⟩
  | 119 => ⟨S_, .i32⟩
  | 120 => ⟨S_, .i32⟩
  | 121 => ⟨S_, .i32⟩
  | 122 => ⟨S_, .i32⟩
  | 123 => ⟨S_, .i32⟩
  | 124 => ⟨S1x1024x8x64, .fp8e4m3⟩
  | 125 => ⟨S1, .i32⟩
  | 126 => ⟨S_, .i32⟩
  | 127 => ⟨S_, .i32⟩
  | _ => ⟨S4x4x32x64, .bf16⟩

abbrev hbmTy0_1 (i : Nat) : BufTy := match i % 128 with
  | 0 => ⟨S_, .i1⟩
  | 1 => ⟨S_, .i32⟩
  | 2 => ⟨S_, .i32⟩
  | 3 => ⟨S_, .i32⟩
  | 4 => ⟨S_, .i32⟩
  | 5 => ⟨S_, .i32⟩
  | 6 => ⟨S_, .i32⟩
  | 7 => ⟨S1x1024x8x64, .fp8e4m3⟩
  | 8 => ⟨S1, .i32⟩
  | 9 => ⟨S_, .i32⟩
  | 10 => ⟨S_, .i32⟩
  | 11 => ⟨S_, .i1⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S1x1024x8x64, .fp8e4m3⟩
  | 19 => ⟨S1, .i32⟩
  | 20 => ⟨S_, .i32⟩
  | 21 => ⟨S_, .i32⟩
  | 22 => ⟨S_, .i1⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S1x1024x8x64, .fp8e4m3⟩
  | 30 => ⟨S4x1024x8x64, .fp8e4m3⟩
  | 31 => ⟨S4x1024x8x64, .bf16⟩
  | 32 => ⟨S4x1024x8x64, .bf16⟩
  | 33 => ⟨S4x4x8x64, .bf16⟩
  | 34 => ⟨S4x4x8x64, .bf16⟩
  | 35 => ⟨S4x4x8x4x64, .bf16⟩
  | 36 => ⟨S_, .f32⟩
  | 37 => ⟨S8, .f32⟩
  | 38 => ⟨S8, .f32⟩
  | 39 => ⟨S1x8x1x1x1, .f32⟩
  | 40 => ⟨S4x8x1024x4x4, .f32⟩
  | 41 => ⟨S4x8x4x4x1024, .f32⟩
  | 42 => ⟨S4x8x4x4x1024, .f32⟩
  | 43 => ⟨S4x8x4x4x1024, .f32⟩
  | 44 => ⟨S4x8x4x4x4, .f32⟩
  | 45 => ⟨S4x8x4x4x4, .f32⟩
  | 46 => ⟨S4x8x4x4x4, .f32⟩
  | 47 => ⟨S4x8x4x4x4, .f32⟩
  | 48 => ⟨S4x1, .i32⟩
  | 49 => ⟨S4, .i32⟩
  | 50 => ⟨S1x4, .i32⟩
  | 51 => ⟨S4x4, .i32⟩
  | 52 => ⟨S4x4, .i32⟩
  | 53 => ⟨S4x4, .i32⟩
  | 54 => ⟨S4x1x1, .i32⟩
  | 55 => ⟨S1024, .i32⟩
  | 56 => ⟨S1x1x1024, .i32⟩
  | 57 => ⟨S4x1x1024, .i32⟩
  | 58 => ⟨S4x1x1024, .i32⟩
  | 59 => ⟨S4x1x1024, .i32⟩
  | 60 => ⟨S4x1x1, .i32⟩
  | 61 => ⟨S4x1x1024, .i32⟩
  | 62 => ⟨S4x1x1024, .i1⟩
  | 63 => ⟨S4x4x1, .i32⟩
  | 64 => ⟨S_, .i32⟩
  | 65 => ⟨S4x4x1, .i32⟩
  | 66 => ⟨S4x4x1, .i32⟩
  | 67 => ⟨S4x4x1024, .i32⟩
  | 68 => ⟨S4x4x1024, .i32⟩
  | 69 => ⟨S4x4x1024, .i1⟩
  | 70 => ⟨S4x4x1024, .i1⟩
  | 71 => ⟨S4x4x1024, .i1⟩
  | 72 => ⟨S4x1x4, .i32⟩
  | 73 => ⟨S4x4x1, .i32⟩
  | 74 => ⟨S4x4x4, .i32⟩
  | 75 => ⟨S4x4x4, .i32⟩
  | 76 => ⟨S4x4x4, .i1⟩
  | 77 => ⟨S4x4x1, .i32⟩
  | 78 => ⟨S_, .i32⟩
  | 79 => ⟨S4x4x1, .i32⟩
  | 80 => ⟨S4x4x1, .i32⟩
  | 81 => ⟨S4x4x4, .i32⟩
  | 82 => ⟨S4x4x4, .i32⟩
  | 83 => ⟨S4x4x4, .i1⟩
  | 84 => ⟨S4x4x4, .i1⟩
  | 85 => ⟨S4x1x1x4x1024, .i1⟩
  | 86 => ⟨S_, .f32⟩
  | 87 => ⟨S_, .f32⟩
  | 88 => ⟨S4x8x4x4x1024, .i1⟩
  | 89 => ⟨S4x8x4x4x1024, .f32⟩
  | 90 => ⟨S4x8x4x4x1024, .f32⟩
  | 91 => ⟨S4x1x1x4x4, .i1⟩
  | 92 => ⟨S_, .f32⟩
  | 93 => ⟨S_, .f32⟩
  | 94 => ⟨S4x8x4x4x4, .i1⟩
  | 95 => ⟨S4x8x4x4x4, .f32⟩
  | 96 => ⟨S4x8x4x4x4, .f32⟩
  | 97 => ⟨S4x8x4x4x1028, .f32⟩
  | 98 => ⟨S_, .f32⟩
  | 99 => ⟨S4x8x4x4, .f32⟩
  | 100 => ⟨S4x8x4x4x1, .f32⟩
  | 101 => ⟨S4x8x4x4x1028, .f32⟩
  | 102 => ⟨S4x8x4x4x1028, .f32⟩
  | 103 => ⟨S4x8x4x4x1028, .f32⟩
  | 104 => ⟨S_, .f32⟩
  | 105 => ⟨S4x8x4x4, .f32⟩
  | 106 => ⟨S4x8x4x4x1, .f32⟩
  | 107 => ⟨S_, .f32⟩
  | 108 => ⟨S4x8x4x4x1, .f32⟩
  | 109 => ⟨S4x8x4x4x1, .i1⟩
  | 110 => ⟨S4x8x4x4x1028, .f32⟩
  | 111 => ⟨S4x8x4x4x1028, .f32⟩
  | 112 => ⟨S_, .f32⟩
  | 113 => ⟨S_, .f32⟩
  | 114 => ⟨S4x8x4x4x1028, .i1⟩
  | 115 => ⟨S4x8x4x4x1028, .f32⟩
  | 116 => ⟨S4x8x4x4x1028, .f32⟩
  | 117 => ⟨S1x8x1x1x1, .f32⟩
  | 118 => ⟨S4x8x4x4x1024, .f32⟩
  | 119 => ⟨S4x8x4x4x1024, .f32⟩
  | 120 => ⟨S4x8x4x4x1024, .f32⟩
  | 121 => ⟨S4x8x4x4x1024, .bf16⟩
  | 122 => ⟨S4x8x4x4x4, .f32⟩
  | 123 => ⟨S4x8x4x4x4, .f32⟩
  | 124 => ⟨S4x8x4x4x4, .f32⟩
  | 125 => ⟨S4x8x4x4x4, .bf16⟩
  | 126 => ⟨S4x8x64x4x4, .f32⟩
  | 127 => ⟨S4x4x8x4x64, .f32⟩
  | _ => ⟨S4x4x32x64, .bf16⟩

abbrev hbmTy0_2 (i : Nat) : BufTy := match i % 128 with
  | 0 => ⟨S4x8x64x4x4, .f32⟩
  | 1 => ⟨S4x4x8x4x64, .f32⟩
  | 2 => ⟨S4x4x8x4x64, .f32⟩
  | 3 => ⟨S4x4x32x64, .f32⟩
  | 4 => ⟨S4x4x32x64, .bf16⟩
  | 5 => ⟨S1x8, .f32⟩
  | 6 => ⟨S1x8, .f32⟩
  | _ => ⟨S4x4x32x64, .bf16⟩

abbrev hbmTy (i : Nat) : BufTy := match i / 128 with
  | 0 => hbmTy0_0 i
  | 1 => hbmTy0_1 i
  | 2 => hbmTy0_2 i
  | _ => ⟨S4x4x32x64, .bf16⟩

abbrev bufTy : (tb : Table) → Fin (tcTables nBuf tb) → BufTy
  | .hbm, ⟨i, _⟩ => hbmTy i
  | .local _ .vmem, ⟨0, _⟩ => ⟨S4x1024x8x64, .fp8e4m3⟩
  | .local _ .vmem, ⟨1, _⟩ => ⟨S4x1024x8x64, .fp8e4m3⟩
  | .local _ .vmem, ⟨2, _⟩ => ⟨S4x4x8x64, .fp8e4m3⟩
  | .local _ .vmem, ⟨3, _⟩ => ⟨S4x4x8x64, .fp8e4m3⟩
  | .local _ .vmem, ⟨4, _⟩ => ⟨S4x1024x8x64, .bf16⟩
  | .local _ .vmem, ⟨5, _⟩ => ⟨S4x1024x8x64, .bf16⟩
  | .local _ .vmem, ⟨6, _⟩ => ⟨S4x4x8x64, .bf16⟩
  | .local _ .vmem, ⟨7, _⟩ => ⟨S4x4x8x64, .bf16⟩
  | _, _ => ⟨S4x4x32x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14_0 : Ref sig .tc := ⟨.hbm, 31, rfl⟩
abbrev main_v14_1 : Ref sig .tc := ⟨.hbm, 32, rfl⟩
abbrev main_v15 : Ref sig .tc := ⟨.hbm, 33, rfl⟩
abbrev main_cst_3 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_cst_5 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_v24 : Ref sig .tc := ⟨.hbm, 50, rfl⟩
abbrev main_v25 : Ref sig .tc := ⟨.hbm, 51, rfl⟩
abbrev main_cst_6 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29_0 : Ref sig .tc := ⟨.hbm, 56, rfl⟩
abbrev main_v29_1 : Ref sig .tc := ⟨.hbm, 57, rfl⟩
abbrev main_c : Ref sig .tc := ⟨.hbm, 58, rfl⟩
abbrev main_v30 : Ref sig .tc := ⟨.hbm, 59, rfl⟩
abbrev main_v31 : Ref sig .tc := ⟨.hbm, 60, rfl⟩
abbrev main_c_7 : Ref sig .tc := ⟨.hbm, 61, rfl⟩
abbrev main_c_8 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_c_9 : Ref sig .tc := ⟨.hbm, 71, rfl⟩
abbrev main_v35 : Ref sig .tc := ⟨.hbm, 72, rfl⟩
abbrev main_c_10 : Ref sig .tc := ⟨.hbm, 73, rfl⟩
abbrev main_v36 : Ref sig .tc := ⟨.hbm, 74, rfl⟩
abbrev main_v37 : Ref sig .tc := ⟨.hbm, 75, rfl⟩
abbrev main_c_11 : Ref sig .tc := ⟨.hbm, 76, rfl⟩
abbrev main_c_12 : Ref sig .tc := ⟨.hbm, 77, rfl⟩
abbrev main_c_13 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_c_14 : Ref sig .tc := ⟨.hbm, 82, rfl⟩
abbrev main_v41 : Ref sig .tc := ⟨.hbm, 83, rfl⟩
abbrev main_c_15 : Ref sig .tc := ⟨.hbm, 84, rfl⟩
abbrev main_v42 : Ref sig .tc := ⟨.hbm, 85, rfl⟩
abbrev main_v43 : Ref sig .tc := ⟨.hbm, 86, rfl⟩
abbrev main_c_16 : Ref sig .tc := ⟨.hbm, 87, rfl⟩
abbrev main_c_17 : Ref sig .tc := ⟨.hbm, 88, rfl⟩
abbrev main_c_18 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_c_19 : Ref sig .tc := ⟨.hbm, 93, rfl⟩
abbrev main_v47 : Ref sig .tc := ⟨.hbm, 94, rfl⟩
abbrev main_c_20 : Ref sig .tc := ⟨.hbm, 95, rfl⟩
abbrev main_v48 : Ref sig .tc := ⟨.hbm, 96, rfl⟩
abbrev main_v49 : Ref sig .tc := ⟨.hbm, 97, rfl⟩
abbrev main_c_21 : Ref sig .tc := ⟨.hbm, 98, rfl⟩
abbrev main_c_22 : Ref sig .tc := ⟨.hbm, 99, rfl⟩
abbrev main_c_23 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_c_24 : Ref sig .tc := ⟨.hbm, 104, rfl⟩
abbrev main_v53 : Ref sig .tc := ⟨.hbm, 105, rfl⟩
abbrev main_c_25 : Ref sig .tc := ⟨.hbm, 106, rfl⟩
abbrev main_v54 : Ref sig .tc := ⟨.hbm, 107, rfl⟩
abbrev main_v55 : Ref sig .tc := ⟨.hbm, 108, rfl⟩
abbrev main_c_26 : Ref sig .tc := ⟨.hbm, 109, rfl⟩
abbrev main_c_27 : Ref sig .tc := ⟨.hbm, 110, rfl⟩
abbrev main_c_28 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_c_29 : Ref sig .tc := ⟨.hbm, 116, rfl⟩
abbrev main_v60 : Ref sig .tc := ⟨.hbm, 117, rfl⟩
abbrev main_c_30 : Ref sig .tc := ⟨.hbm, 118, rfl⟩
abbrev main_v61 : Ref sig .tc := ⟨.hbm, 119, rfl⟩
abbrev main_v62 : Ref sig .tc := ⟨.hbm, 120, rfl⟩
abbrev main_c_31 : Ref sig .tc := ⟨.hbm, 121, rfl⟩
abbrev main_c_32 : Ref sig .tc := ⟨.hbm, 122, rfl⟩
abbrev main_c_33 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_c_34 : Ref sig .tc := ⟨.hbm, 127, rfl⟩
abbrev main_v66 : Ref sig .tc := ⟨.hbm, 128, rfl⟩
abbrev main_c_35 : Ref sig .tc := ⟨.hbm, 129, rfl⟩
abbrev main_v67 : Ref sig .tc := ⟨.hbm, 130, rfl⟩
abbrev main_v68 : Ref sig .tc := ⟨.hbm, 131, rfl⟩
abbrev main_c_36 : Ref sig .tc := ⟨.hbm, 132, rfl⟩
abbrev main_c_37 : Ref sig .tc := ⟨.hbm, 133, rfl⟩
abbrev main_c_38 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_c_39 : Ref sig .tc := ⟨.hbm, 138, rfl⟩
abbrev main_v72 : Ref sig .tc := ⟨.hbm, 139, rfl⟩
abbrev main_c_40 : Ref sig .tc := ⟨.hbm, 140, rfl⟩
abbrev main_v73 : Ref sig .tc := ⟨.hbm, 141, rfl⟩
abbrev main_v74 : Ref sig .tc := ⟨.hbm, 142, rfl⟩
abbrev main_c_41 : Ref sig .tc := ⟨.hbm, 143, rfl⟩
abbrev main_c_42 : Ref sig .tc := ⟨.hbm, 144, rfl⟩
abbrev main_c_43 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_c_44 : Ref sig .tc := ⟨.hbm, 149, rfl⟩
abbrev main_v78 : Ref sig .tc := ⟨.hbm, 150, rfl⟩
abbrev main_c_45 : Ref sig .tc := ⟨.hbm, 151, rfl⟩
abbrev main_v79 : Ref sig .tc := ⟨.hbm, 152, rfl⟩
abbrev main_v80 : Ref sig .tc := ⟨.hbm, 153, rfl⟩
abbrev main_c_46 : Ref sig .tc := ⟨.hbm, 154, rfl⟩
abbrev main_c_47 : Ref sig .tc := ⟨.hbm, 155, rfl⟩
abbrev main_c_48 : Ref sig .tc := ⟨.hbm, 156, rfl⟩
abbrev main_v81 : Ref sig .tc := ⟨.hbm, 157, rfl⟩
abbrev main_v82 : Ref sig .tc := ⟨.hbm, 158, rfl⟩
abbrev main_v83_0 : Ref sig .tc := ⟨.hbm, 159, rfl⟩
abbrev main_v83_1 : Ref sig .tc := ⟨.hbm, 160, rfl⟩
abbrev main_v83_2 : Ref sig .tc := ⟨.hbm, 161, rfl⟩
abbrev main_v83_3 : Ref sig .tc := ⟨.hbm, 162, rfl⟩
abbrev main_v84 : Ref sig .tc := ⟨.hbm, 163, rfl⟩
abbrev main_cst_49 : Ref sig .tc := ⟨.hbm, 164, rfl⟩
abbrev main_v85 : Ref sig .tc := ⟨.hbm, 165, rfl⟩
abbrev main_v86 : Ref sig .tc := ⟨.hbm, 166, rfl⟩
abbrev main_v87 : Ref sig .tc := ⟨.hbm, 167, rfl⟩
abbrev main_v88 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_v98 : Ref sig .tc := ⟨.hbm, 178, rfl⟩
abbrev main_v99 : Ref sig .tc := ⟨.hbm, 179, rfl⟩
abbrev main_v100 : Ref sig .tc := ⟨.hbm, 180, rfl⟩
abbrev main_v101 : Ref sig .tc := ⟨.hbm, 181, rfl⟩
abbrev main_v102 : Ref sig .tc := ⟨.hbm, 182, rfl⟩
abbrev main_v103 : Ref sig .tc := ⟨.hbm, 183, rfl⟩
abbrev main_v104 : Ref sig .tc := ⟨.hbm, 184, rfl⟩
abbrev main_v105 : Ref sig .tc := ⟨.hbm, 185, rfl⟩
abbrev main_v106 : Ref sig .tc := ⟨.hbm, 186, rfl⟩
abbrev main_v107 : Ref sig .tc := ⟨.hbm, 187, rfl⟩
abbrev main_v108 : Ref sig .tc := ⟨.hbm, 188, rfl⟩
abbrev main_v109 : Ref sig .tc := ⟨.hbm, 189, rfl⟩
abbrev main_v110 : Ref sig .tc := ⟨.hbm, 190, rfl⟩
abbrev main_v111 : Ref sig .tc := ⟨.hbm, 191, rfl⟩
abbrev main_c_50 : Ref sig .tc := ⟨.hbm, 192, rfl⟩
abbrev main_v112 : Ref sig .tc := ⟨.hbm, 193, rfl⟩
abbrev main_v113 : Ref sig .tc := ⟨.hbm, 194, rfl⟩
abbrev main_v114 : Ref sig .tc := ⟨.hbm, 195, rfl⟩
abbrev main_v115 : Ref sig .tc := ⟨.hbm, 196, rfl⟩
abbrev main_v116 : Ref sig .tc := ⟨.hbm, 197, rfl⟩
abbrev main_v117 : Ref sig .tc := ⟨.hbm, 198, rfl⟩
abbrev main_v118 : Ref sig .tc := ⟨.hbm, 199, rfl⟩
abbrev main_v119 : Ref sig .tc := ⟨.hbm, 200, rfl⟩
abbrev main_v120 : Ref sig .tc := ⟨.hbm, 201, rfl⟩
abbrev main_v121 : Ref sig .tc := ⟨.hbm, 202, rfl⟩
abbrev main_v122 : Ref sig .tc := ⟨.hbm, 203, rfl⟩
abbrev main_v123 : Ref sig .tc := ⟨.hbm, 204, rfl⟩
abbrev main_v124 : Ref sig .tc := ⟨.hbm, 205, rfl⟩
abbrev main_c_51 : Ref sig .tc := ⟨.hbm, 206, rfl⟩
abbrev main_v125 : Ref sig .tc := ⟨.hbm, 207, rfl⟩
abbrev main_v126 : Ref sig .tc := ⟨.hbm, 208, rfl⟩
abbrev main_v127 : Ref sig .tc := ⟨.hbm, 209, rfl⟩
abbrev main_v128 : Ref sig .tc := ⟨.hbm, 210, rfl⟩
abbrev main_v129 : Ref sig .tc := ⟨.hbm, 211, rfl⟩
abbrev main_v130 : Ref sig .tc := ⟨.hbm, 212, rfl⟩
abbrev main_v131 : Ref sig .tc := ⟨.hbm, 213, rfl⟩
abbrev main_cst_52 : Ref sig .tc := ⟨.hbm, 214, rfl⟩
abbrev main_call3_v0 : Ref sig .tc := ⟨.hbm, 215, rfl⟩
abbrev main_call3_v1 : Ref sig .tc := ⟨.hbm, 216, rfl⟩
abbrev main_call3_v2 : Ref sig .tc := ⟨.hbm, 217, rfl⟩
abbrev main_v132 : Ref sig .tc := ⟨.hbm, 218, rfl⟩
abbrev main_v133 : Ref sig .tc := ⟨.hbm, 219, rfl⟩
abbrev main_cst_53 : Ref sig .tc := ⟨.hbm, 220, rfl⟩
abbrev main_call4_v0 : Ref sig .tc := ⟨.hbm, 221, rfl⟩
abbrev main_call4_v1 : Ref sig .tc := ⟨.hbm, 222, rfl⟩
abbrev main_call4_v2 : Ref sig .tc := ⟨.hbm, 223, rfl⟩
abbrev main_v134 : Ref sig .tc := ⟨.hbm, 224, rfl⟩
abbrev main_v135 : Ref sig .tc := ⟨.hbm, 225, rfl⟩
abbrev main_cst_54 : Ref sig .tc := ⟨.hbm, 226, rfl⟩
abbrev main_v136 : Ref sig .tc := ⟨.hbm, 227, rfl⟩
abbrev main_v137 : Ref sig .tc := ⟨.hbm, 228, rfl⟩
abbrev main_v138 : Ref sig .tc := ⟨.hbm, 229, rfl⟩
abbrev main_v139 : Ref sig .tc := ⟨.hbm, 230, rfl⟩
abbrev main_v140 : Ref sig .tc := ⟨.hbm, 231, rfl⟩
abbrev main_cst_55 : Ref sig .tc := ⟨.hbm, 232, rfl⟩
abbrev main_v141 : Ref sig .tc := ⟨.hbm, 233, rfl⟩
abbrev main_v142 : Ref sig .tc := ⟨.hbm, 234, rfl⟩
abbrev main_cst_56 : Ref sig .tc := ⟨.hbm, 235, rfl⟩
abbrev main_v143 : Ref sig .tc := ⟨.hbm, 236, rfl⟩
abbrev main_v144 : Ref sig .tc := ⟨.hbm, 237, rfl⟩
abbrev main_v145 : Ref sig .tc := ⟨.hbm, 238, rfl⟩
abbrev main_v146 : Ref sig .tc := ⟨.hbm, 239, rfl⟩
abbrev main_cst_57 : Ref sig .tc := ⟨.hbm, 240, rfl⟩
abbrev main_call5_v0 : Ref sig .tc := ⟨.hbm, 241, rfl⟩
abbrev main_call5_v1 : Ref sig .tc := ⟨.hbm, 242, rfl⟩
abbrev main_call5_v2 : Ref sig .tc := ⟨.hbm, 243, rfl⟩
abbrev main_v147 : Ref sig .tc := ⟨.hbm, 244, rfl⟩
abbrev main_v148 : Ref sig .tc := ⟨.hbm, 245, rfl⟩
abbrev main_v149 : Ref sig .tc := ⟨.hbm, 246, rfl⟩
abbrev main_v150 : Ref sig .tc := ⟨.hbm, 247, rfl⟩
abbrev main_v151 : Ref sig .tc := ⟨.hbm, 248, rfl⟩
abbrev main_v152 : Ref sig .tc := ⟨.hbm, 249, rfl⟩
abbrev main_v153 : Ref sig .tc := ⟨.hbm, 250, rfl⟩
abbrev main_v154 : Ref sig .tc := ⟨.hbm, 251, rfl⟩
abbrev main_v155 : Ref sig .tc := ⟨.hbm, 252, rfl⟩
abbrev main_v156 : Ref sig .tc := ⟨.hbm, 253, rfl⟩
abbrev main_v157 : Ref sig .tc := ⟨.hbm, 254, rfl⟩
abbrev main_v158 : Ref sig .tc := ⟨.hbm, 255, rfl⟩
abbrev main_v159 : Ref sig .tc := ⟨.hbm, 256, rfl⟩
abbrev main_v160 : Ref sig .tc := ⟨.hbm, 257, rfl⟩
abbrev main_v161 : Ref sig .tc := ⟨.hbm, 258, rfl⟩
abbrev main_v162 : Ref sig .tc := ⟨.hbm, 259, rfl⟩
abbrev main_v163 : Ref sig .tc := ⟨.hbm, 260, rfl⟩
abbrev main_v164 : Ref sig .tc := ⟨.hbm, 261, rfl⟩
abbrev main_v165 : Ref sig .tc := ⟨.hbm, 262, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S4x1024x8x64 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1024x8x64 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x4x8x64 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x4x8x64 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1024x8x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x1024x8x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x4x8x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x4x8x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.K.Runs.lean ====
/- What the run of the program is stated over: @main up to its one region, the arrays there, each window's
   block, the staging and scratch memrefs, the side conditions the body assumes. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

/-- The host operations before the call allocate nothing. -/
theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(Pipeline.RDat.FramePost.arr_in h c 3 rfl).trans ((hA c 3).trans (V_main_arg0 m c)),
      (Pipeline.RDat.FramePost.arr_in h c 4 rfl).trans ((hA c 4).trans (V_main_arg1 m c)),
      (Pipeline.RDat.FramePost.arr_in h c 5 rfl).trans ((hA c 5).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      (Pipeline.RDat.FramePost.arr_in h c 0 rfl).trans ((hA c 0).trans (V_main_arg5 m c)),
      (Pipeline.RDat.FramePost.arr_in h c 1 rfl).trans ((hA c 1).trans (V_main_arg6 m c)),
      (Pipeline.RDat.FramePost.arr_in h c 2 rfl).trans ((hA c 2).trans (V_main_arg7 m c))⟩) h

/-! ## The kernel body on any staging memrefs: a subtype the run finds -/

/-- Each window's current staging memref at point `t`, spelled as the pipeline passes it (`bodyAt0`), and its wholeness. -/
abbrev ms0_0 (t : Fin cfg0.N) : Memref sig .tc .smem S4 .i32 := win0_0.stage (cfg0.slots t 0)
abbrev hs0_0 (t : Fin cfg0.N) : (ms0_0 t).IsWhole := hstage0_0 0
abbrev ms0_1 (t : Fin cfg0.N) : Memref sig .tc .smem S8 .i32 := win0_1.stage (cfg0.slots t 1)
abbrev hs0_1 (t : Fin cfg0.N) : (ms0_1 t).IsWhole := hstage0_1 0
abbrev ms0_2 (t : Fin cfg0.N) : Memref sig .tc .smem S8 .i32 := win0_2.stage (cfg0.slots t 2)
abbrev hs0_2 (t : Fin cfg0.N) : (ms0_2 t).IsWhole := hstage0_2 0
abbrev ms0_3 (t : Fin cfg0.N) : Memref sig .tc .vmem S4x4x32x64 .bf16 := win0_3.stage (cfg0.slots t 3)
abbrev hs0_3 (t : Fin cfg0.N) : (ms0_3 t).IsWhole := hstage0_3 0
abbrev ms0_4 (t : Fin cfg0.N) : Memref sig .tc .vmem S4x4x8x64 .bf16 := win0_4.stage (cfg0.slots t 4)
abbrev hs0_4 (t : Fin cfg0.N) : (ms0_4 t).IsWhole := hstage0_4 0
abbrev ms0_5 (t : Fin cfg0.N) : Memref sig .tc .vmem S4x4x8x64 .bf16 := win0_5.stage (cfg0.slots t 5)
abbrev hs0_5 (t : Fin cfg0.N) : (ms0_5 t).IsWhole := hstage0_5 0
abbrev ms0_6 (t : Fin cfg0.N) : Memref sig .tc .vmem S4x4x32x64 .bf16 := win0_6.stage (cfg0.slots t 6)
abbrev hs0_6 (t : Fin cfg0.N) : (ms0_6 t).IsWhole := hstage0_6 0
abbrev ms0_7 (t : Fin cfg0.N) : Memref sig .tc .vmem S4x4x8x64 .fp8e4m3 := win0_7.stage (cfg0.slots t 7)
abbrev hs0_7 (t : Fin cfg0.N) : (ms0_7 t).IsWhole := hstage0_7 0
abbrev ms0_8 (t : Fin cfg0.N) : Memref sig .tc .vmem S1x8 .f32 := win0_8.stage (cfg0.slots t 8)
abbrev hs0_8 (t : Fin cfg0.N) : (ms0_8 t).IsWhole := hstage0_8 0
abbrev ms0_9 (t : Fin cfg0.N) : Memref sig .tc .vmem S4x4x8x64 .fp8e4m3 := win0_9.stage (cfg0.slots t 9)
abbrev hs0_9 (t : Fin cfg0.N) : (ms0_9 t).IsWhole := hstage0_9 0
abbrev ms0_10 (t : Fin cfg0.N) : Memref sig .tc .vmem S1x8 .f32 := win0_10.stage (cfg0.slots t 10)
abbrev hs0_10 (t : Fin cfg0.N) : (ms0_10 t).IsWhole := hstage0_10 0

/-! ## The side conditions the body assumes, as the frame's hypothesis -/

/-- The side conditions the body ASSUMES of words it loads from its input SMEM windows, or inside a counted
    loop of the loop's carried counter at every trip (the printed `TpuEff.assume
    (kK_chkN …)`: facts computed from the words that no program decides for every word), at EVERY point, over the
    words of the argument blocks there — spelled as each case's run reads them (`View.readAt` through the window's
    memref at its held contents), each under the conditions of the branches it sits inside. The frame holds
    under it; Proof.lean proves it from the certificate's
    precondition (`hyps_of_pre`; `View.readAt_apply` and `Memref.IsWhole.read_unread` rewrite a conjunct to the
    predicate at the block's word). -/
def Hyps (m : (ℓ : Loc nD τ sig) → Buf (Elt F) ℓ) : Prop :=
  ∀ (c : Dev nD) (t : Fin cfg0.N),
    k0_chk1 ((ms0_0 t).view.readAt (Elt F) (Rect.unit (s := S4) ![0] S1.size inb_S4_S1_0).toLoadRect ((hs0_0 t).unread (iblk m c 0 t)) (Shape.Idx.first (numel1_S1.symm ▸ Nat.one_pos)))
    ∧ k0_chk2 ((ms0_0 t).view.readAt (Elt F) (Rect.unit (s := S4) ![1] S1.size inb_S4_S1_1).toLoadRect ((hs0_0 t).unread (iblk m c 0 t)) (Shape.Idx.first (numel1_S1.symm ▸ Nat.one_pos)))
    ∧ k0_chk3 ((ms0_0 t).view.readAt (Elt F) (Rect.unit (s := S4) ![2] S1.size inb_S4_S1_2).toLoadRect ((hs0_0 t).unread (iblk m c 0 t)) (Shape.Idx.first (numel1_S1.symm ▸ Nat.one_pos)))
    ∧ k0_chk4 ((ms0_0 t).view.readAt (Elt F) (Rect.unit (s := S4) ![3] S1.size inb_S4_S1_3).toLoadRect ((hs0_0 t).unread (iblk m c 0 t)) (Shape.Idx.first (numel1_S1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`. -/
abbrev Hyps.p0 (m : (ℓ : Loc nD τ sig) → Buf (Elt F) ℓ) (c : Dev nD) (t : Fin cfg0.N) : Prop :=
  k0_chk1 ((ms0_0 t).view.readAt (Elt F) (Rect.unit (s := S4) ![0] S1.size inb_S4_S1_0).toLoadRect ((hs0_0 t).unread (iblk m c 0 t)) (Shape.Idx.first (numel1_S1.symm ▸ Nat.one_pos)))
variable {m} in
/-- Conjunct 0 read off the side conditions. -/
theorem Hyps.c0 (hH : Hyps m) (c : Dev nD) (t : Fin cfg0.N) :
    k0_chk1 ((ms0_0 t).view.readAt (Elt F) (Rect.unit (s := S4) ![0] S1.size inb_S4_S1_0).toLoadRect ((hs0_0 t).unread (iblk m c 0 t)) (Shape.Idx.first (numel1_S1.symm ▸ Nat.one_pos))) := (hH c t).1
/-- Conjunct 1 of `Gen.Hyps` at point `t`: the side condition `k0_chk2` the body assumes as `k0_hw2`. -/
abbrev Hyps.p1 (m : (ℓ : Loc nD τ sig) → Buf (Elt F) ℓ) (c : Dev nD) (t : Fin cfg0.N) : Prop :=
  k0_chk2 ((ms0_0 t).view.readAt (Elt F) (Rect.unit (s := S4) ![1] S1.size inb_S4_S1_1).toLoadRect ((hs0_0 t).unread (iblk m c 0 t)) (Shape.Idx.first (numel1_S1.symm ▸ Nat.one_pos)))
variable {m} in
/-- Conjunct 1 read off the side conditions. -/
theorem Hyps.c1 (hH : Hyps m) (c : Dev nD) (t : Fin cfg0.N) :
    k0_chk2 ((ms0_0 t).view.readAt (Elt F) (Rect.unit (s := S4) ![1] S1.size inb_S4_S1_1).toLoadRect ((hs0_0 t).unread (iblk m c 0 t)) (Shape.Idx.first (numel1_S1.symm ▸ Nat.one_pos))) := (hH c t).2.1
/-- Conjunct 2 of `Gen.Hyps` at point `t`: the side condition `k0_chk3` the body assumes as `k0_hw3`. -/
abbrev Hyps.p2 (m : (ℓ : Loc nD τ sig) → Buf (Elt F) ℓ) (c : Dev nD) (t : Fin cfg0.N) : Prop :=
  k0_chk3 ((ms0_0 t).view.readAt (Elt F) (Rect.unit (s := S4) ![2] S1.size inb_S4_S1_2).toLoadRect ((hs0_0 t).unread (iblk m c 0 t)) (Shape.Idx.first (numel1_S1.symm ▸ Nat.one_pos)))
variable {m} in
/-- Conjunct 2 read off the side conditions. -/
theorem Hyps.c2 (hH : Hyps m) (c : Dev nD) (t : Fin cfg0.N) :
    k0_chk3 ((ms0_0 t).view.readAt (Elt F) (Rect.unit (s := S4) ![2] S1.size inb_S4_S1_2).toLoadRect ((hs0_0 t).unread (iblk m c 0 t)) (Shape.Idx.first (numel1_S1.symm ▸ Nat.one_pos))) := (hH c t).2.2.1
/-- Conjunct 3 of `Gen.Hyps` at point `t`: the side condition `k0_chk4` the body assumes as `k0_hw4`. -/
abbrev Hyps.p3 (m : (ℓ : Loc nD τ sig) → Buf (Elt F) ℓ) (c : Dev nD) (t : Fin cfg0.N) : Prop :=
  k0_chk4 ((ms0_0 t).view.readAt (Elt F) (Rect.unit (s := S4) ![3] S1.size inb_S4_S1_3).toLoadRect ((hs0_0 t).unread (iblk m c 0 t)) (Shape.Idx.first (numel1_S1.symm ▸ Nat.one_pos)))
variable {m} in
/-- Conjunct 3 read off the side conditions. -/
theorem Hyps.c3 (hH : Hyps m) (c : Dev nD) (t : Fin cfg0.N) :
    k0_chk4 ((ms0_0 t).view.readAt (Elt F) (Rect.unit (s := S4) ![3] S1.size inb_S4_S1_3).toLoadRect ((hs0_0 t).unread (iblk m c 0 t)) (Shape.Idx.first (numel1_S1.symm ▸ Nat.one_pos))) := (hH c t).2.2.2
variable {m} in
/-- The side conditions, all together, from a proof of each. -/
theorem Hyps.of
    (p0 : ∀ (c : Dev nD) (t : Fin cfg0.N), Hyps.p0 m c t)
    (p1 : ∀ (c : Dev nD) (t : Fin cfg0.N), Hyps.p1 m c t)
    (p2 : ∀ (c : Dev nD) (t : Fin cfg0.N), Hyps.p2 m c t)
    (p3 : ∀ (c : Dev nD) (t : Fin cfg0.N), Hyps.p3 m c t) :
    Hyps m := fun c t =>
  And.intro (p0 c t) (And.intro (p1 c t) (And.intro (p2 c t) (p3 c t)))

/-- The scratch operands: whole scoped buffers of the kernel's own, passed beside the windows. -/
abbrev scM0_0 : Memref sig .tc .vmem S4x512x1152 .fp8e4m3 := Memref.whole cc0_scratch0
abbrev scM0_1 : Memref sig .tc .vmem S4x512x1152 .fp8e4m3 := Memref.whole cc0_scratch1
/-- The operands left in HBM that the body copies into scratch itself, whole. -/
abbrev hbM0_0 : Memref sig .tc .hbm S4x512x131072 .fp8e4m3 := Memref.whole main_v1
abbrev hbM0_1 : Memref sig .tc .hbm S4x512x131072 .fp8e4m3 := Memref.whole main_v3
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 8 → SemLoc sig := fun j => (![SemLoc.dma 11, SemLoc.dma 12, SemLoc.dma 13, SemLoc.dma 14, SemLoc.dma 15, SemLoc.dma 16, SemLoc.dma 17, SemLoc.dma 18] : Fin 8 → SemLoc sig) j
/-- The body's own semaphores are distinct and lie outside the pipeline's. -/
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0) := by
  rw [Pipeline.ownSems0_eq_of_list c osem0 [0, 1, 2, 3, 4, 5, 6, 7] (by decide) (by decide)]; rfl
/-- The HBM operands the body moves, as references: unscoped, no window's array (`Pipeline.restRefs`). -/
def H0 : Finset (Ref sig .tc) := {main_v1, main_v3}
/-- The operands left in HBM are among the references the pipeline does not touch. -/
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v1) ∗ hbPt0 c hbM0_1 (V m c main_v3)) := by
  rw [BI.bigSep_eq_bigSepL_of_eq [main_v1, main_v3] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0) ∗ iprop(hbPt0 c hbM0_0 (V m c main_v1) ∗ hbPt0 c hbM0_1 (V m c main_v3))) := by
  rw [Pipeline.ΦD_eq, scopedRest0_eq, ownSems00_eq, hbmPts0_eq]; simp only [scM0_0, scM0_1, owns_whole]; try rfl

end Cert.Kernel.Hand

end
-- ==== Proof.K.Run.lean ====
/- The run of the body of the program. -/
module

public import proofs.«01_k».proof.Proof.K.Runs

@[expose] public section

-- membership in a rectangle of production extents (`View.cover_of_tiled`): the elaborator's structural look
-- recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: checking it walks past the default budget)
set_option maxHeartbeats 1796000 in set_option sl_exec.dmaWindow true in set_option sl_exec.dmaWindowSet true in
/-- The body's triple: on whole staging memrefs — the inputs' at their contents,
    the FORGOTTEN outputs' (6, 7, 8, 9, 10) at anything, handed back at some contents nothing names —
    the body runs to the continuation holding the inputs' as they were, the scratch at some contents: the printed functions are their skeletons (`Gen.*_eq_skeleton`),
    which `sl_exec` runs (Lib/Exec.lean). -/
theorem kernelRun0_A (c : Dev nD) (arg0 : Memref sig .tc .smem S4 .i32) (harg0 : arg0.IsWhole) (arg1 : Memref sig .tc .smem S8 .i32) (harg1 : arg1.IsWhole) (arg2 : Memref sig .tc .smem S8 .i32) (harg2 : arg2.IsWhole) (arg3 : Memref sig .tc .vmem S4x4x32x64 .bf16) (harg3 : arg3.IsWhole) (arg4 : Memref sig .tc .vmem S4x4x8x64 .bf16) (harg4 : arg4.IsWhole) (arg5 : Memref sig .tc .vmem S4x4x8x64 .bf16) (harg5 : arg5.IsWhole) (arg8 : Memref sig .tc .vmem S4x4x32x64 .bf16) (harg8 : arg8.IsWhole) (arg9 : Memref sig .tc .vmem S4x4x8x64 .fp8e4m3) (harg9 : arg9.IsWhole) (arg10 : Memref sig .tc .vmem S1x8 .f32) (harg10 : arg10.IsWhole) (arg11 : Memref sig .tc .vmem S4x4x8x64 .fp8e4m3) (harg11 : arg11.IsWhole) (arg12 : Memref sig .tc .vmem S1x8 .f32) (harg12 : arg12.IsWhole) (arg13 : Memref sig .tc .vmem S4x512x1152 .fp8e4m3) (harg13 : arg13.IsWhole) (arg14 : Memref sig .tc .vmem S4x512x1152 .fp8e4m3) (harg14 : arg14.IsWhole)
    (x0 : Vec F S4 .i32) (x1 : Vec F S8 .i32) (x2 : Vec F S8 .i32) (x3 : Vec F S4x4x32x64 .bf16) (x4 : Vec F S4x4x8x64 .bf16) (x5 : Vec F S4x4x8x64 .bf16) (fh0 : HbBuf0 (F := F) c hbM0_0) (fh1 : HbBuf0 (F := F) c hbM0_1) (k0_hw1 : k0_chk1 (arg0.view.readAt (Elt F) (Rect.unit (s := S4) ![0] S1.size inb_S4_S1_0).toLoadRect (harg0.unread x0) (Shape.Idx.first (numel1_S1.symm ▸ Nat.one_pos)))) (k0_hw2 : k0_chk2 (arg0.view.readAt (Elt F) (Rect.unit (s := S4) ![1] S1.size inb_S4_S1_1).toLoadRect (harg0.unread x0) (Shape.Idx.first (numel1_S1.symm ▸ Nat.one_pos)))) (k0_hw3 : k0_chk3 (arg0.view.readAt (Elt F) (Rect.unit (s := S4) ![2] S1.size inb_S4_S1_2).toLoadRect (harg0.unread x0) (Shape.Idx.first (numel1_S1.symm ▸ Nat.one_pos)))) (k0_hw4 : k0_chk4 (arg0.view.readAt (Elt F) (Rect.unit (s := S4) ![3] S1.size inb_S4_S1_3).toLoadRect (harg0.unread x0) (Shape.Idx.first (numel1_S1.symm ▸ Nat.one_pos)))) :
      ∀ (W : Waits sig Unit) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ hbPt0 c hbM0_0 fh0 ∗ hbPt0 c hbM0_1 fh1 ∗ owes (c : Thread nD τ) 0 W
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_window_attn arg0 harg0 arg1 harg1 arg2 harg2 arg3 harg3 arg4 harg4 arg5 harg5 (Memref.whole main_v1) (Memref.isWhole_whole _) (Memref.whole main_v3) (Memref.isWhole_whole _) arg8 harg8 arg9 harg9 arg10 harg10 arg11 harg11 arg12 harg12 arg13 harg13 arg14 harg14 cc0_scratch2) K := by
    intro W K
    simp only [cc0_window_attn_eq_skeleton]; unfold cc0_window_attn_skel
    simp only [k0_part52_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, Hq0, Hq1, Hq2, Hq3, Hq4, Hq5, Hq6, Hq7, Hh0, Hh1, HW, Hk⟩
    obtain rfl := harg0.eq_unread hf0; obtain rfl := harg1.eq_unread hf1; obtain rfl := harg2.eq_unread hf2; obtain rfl := harg3.eq_unread hf3; obtain rfl := harg4.eq_unread hf4; obtain rfl := harg5.eq_unread hf5
    sl_exec (disch := first | sl_exact k0_hw1 | sl_exact k0_hw2 | sl_exact k0_hw3 | sl_exact k0_hw4)
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]
    · iexists _, _; isplitr; swap; · iexact HS1
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    isplitl [Hh1]; · iexact Hh1
    iexists _; iexact HW

end Cert.Kernel.Hand

end
-- ==== Proof.K.Frame.lean ====
/- The frame of the program. -/
module

public import proofs.«01_k».proof.Proof.K.Run
public import Idealize.ShloMosaic.Lib.Claim

@[expose] public section

-- membership in a rectangle of production extents (`View.cover_of_tiled`): the elaborator's structural look
-- recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## The pipeline's proof data -/

/-- The output windows this certificate FORGETS (6, 7, 8, 9, 10): nothing reads what the kernel leaves in them, so nothing
    of it is named (Lib/Pipeline/Dat.lean `Dat.toRForget`). -/
def forgets0 : Fin 11 → Bool := fun w => w.val == 6 || w.val == 7 || w.val == 8 || w.val == 9 || w.val == 10

/-- The proof data of the one pipeline on core `c`: the arrays as the region finds them (`V`); after the body at
    point `t` each input's buffer at its block and the outputs, FORGOTTEN, at `Dat.unnamed`; the invariant
    (Lib/Pipeline/Frame.lean `ΦD`: the scoped rest, the generator register, the own cells at zero, the HBM operands at
    their launch contents); nothing owed; full shares. -/
def dats (hH : Hyps m) (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦD osem0 spec0 H0 (V m) c
  q _ := fullShare
  owed _ := 0

/-- The proof data's arrays are the region-entry contents: the proof data's definition projected (`dsimp`), so that
    `V` — a fold over @main's host prefix, long for some programs — is never unfolded to check it. -/
theorem A_eq (hH : Hyps m) (c : Dev nD) (w : Fin cfg0.W) : (dats m hH 0 c).A w = V m c (Pipeline.arrRef spec0 w) := by
  dsimp only [dats]

/-- What the body leaves, window by window (the proof data's `match` reduced by `dsimp`). -/
theorem after0_0 (hH : Hyps m) (c : Dev nD) (t : Fin cfg0.N) : (dats m hH 0 c).after 0 t = iblk m c 0 t := by dsimp only [dats]
/-- The body leaves input window 1 as it was. -/
theorem after0_1 (hH : Hyps m) (c : Dev nD) (t : Fin cfg0.N) : (dats m hH 0 c).after 1 t = iblk m c 1 t := by dsimp only [dats]
/-- The body leaves input window 2 as it was. -/
theorem after0_2 (hH : Hyps m) (c : Dev nD) (t : Fin cfg0.N) : (dats m hH 0 c).after 2 t = iblk m c 2 t := by dsimp only [dats]
/-- The body leaves input window 3 as it was. -/
theorem after0_3 (hH : Hyps m) (c : Dev nD) (t : Fin cfg0.N) : (dats m hH 0 c).after 3 t = iblk m c 3 t := by dsimp only [dats]
/-- The body leaves input window 4 as it was. -/
theorem after0_4 (hH : Hyps m) (c : Dev nD) (t : Fin cfg0.N) : (dats m hH 0 c).after 4 t = iblk m c 4 t := by dsimp only [dats]
/-- The body leaves input window 5 as it was. -/
theorem after0_5 (hH : Hyps m) (c : Dev nD) (t : Fin cfg0.N) : (dats m hH 0 c).after 5 t = iblk m c 5 t := by dsimp only [dats]

/-- Each input's current staging buffer holds its block at every point, fetched there or not (`beforeK_W_of`). -/
theorem before0_0 (hH : Hyps m) (c : Dev nD) (t : Fin cfg0.N) (d) : (dats m hH 0 c).before 0 t d = iblk m c 0 t :=
  before0_0_of m (dats m hH 0 c) (A_eq m hH c 0) (after0_0 m hH c) t d
/-- Input window 1 holds its block before the body runs. -/
theorem before0_1 (hH : Hyps m) (c : Dev nD) (t : Fin cfg0.N) (d) : (dats m hH 0 c).before 1 t d = iblk m c 1 t :=
  before0_1_of m (dats m hH 0 c) (A_eq m hH c 1) (after0_1 m hH c) t d
/-- Input window 2 holds its block before the body runs. -/
theorem before0_2 (hH : Hyps m) (c : Dev nD) (t : Fin cfg0.N) (d) : (dats m hH 0 c).before 2 t d = iblk m c 2 t :=
  before0_2_of m (dats m hH 0 c) (A_eq m hH c 2) (after0_2 m hH c) t d
/-- Input window 3 holds its block before the body runs. -/
theorem before0_3 (hH : Hyps m) (c : Dev nD) (t : Fin cfg0.N) (d) : (dats m hH 0 c).before 3 t d = iblk m c 3 t :=
  before0_3_of m (dats m hH 0 c) (A_eq m hH c 3) (after0_3 m hH c) t d
/-- Input window 4 holds its block before the body runs. -/
theorem before0_4 (hH : Hyps m) (c : Dev nD) (t : Fin cfg0.N) (d) : (dats m hH 0 c).before 4 t d = iblk m c 4 t :=
  before0_4_of m (dats m hH 0 c) (A_eq m hH c 4) (after0_4 m hH c) t d
/-- Input window 5 holds its block before the body runs. -/
theorem before0_5 (hH : Hyps m) (c : Dev nD) (t : Fin cfg0.N) (d) : (dats m hH 0 c).before 5 t d = iblk m c 5 t :=
  before0_5_of m (dats m hH 0 c) (A_eq m hH c 5) (after0_5 m hH c) t d

/-! ## The body obligation, at a generic point -/

/-- What the body is called with at point `t` (Lib/Pipeline.lean `BodyObligation`'s precondition, the windows one by one), -/
def bodyPre (hH : Hyps m) (c : Dev nD) (t : Fin cfg0.N) : sProp 𝕄 :=
  iprop((dats m hH 0 c).Φ t.castSucc ∗ (dats m hH 0 c).owesAt () t.castSucc
    ∗ (∃ d, owns (c : Thread nD τ) (ms0_0 t) fullShare ((dats m hH 0 c).before 0 t d))
    ∗ (∃ d, owns (c : Thread nD τ) (ms0_1 t) fullShare ((dats m hH 0 c).before 1 t d))
    ∗ (∃ d, owns (c : Thread nD τ) (ms0_2 t) fullShare ((dats m hH 0 c).before 2 t d))
    ∗ (∃ d, owns (c : Thread nD τ) (ms0_3 t) fullShare ((dats m hH 0 c).before 3 t d))
    ∗ (∃ d, owns (c : Thread nD τ) (ms0_4 t) fullShare ((dats m hH 0 c).before 4 t d))
    ∗ (∃ d, owns (c : Thread nD τ) (ms0_5 t) fullShare ((dats m hH 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (hH : Hyps m) (c : Dev nD) (t : Fin cfg0.N) : sProp 𝕄 :=
  iprop((dats m hH 0 c).Φ t.succ ∗ (dats m hH 0 c).owesAt () t.succ
    ∗ owns (c : Thread nD τ) (ms0_0 t) fullShare ((dats m hH 0 c).after 0 t)
    ∗ owns (c : Thread nD τ) (ms0_1 t) fullShare ((dats m hH 0 c).after 1 t)
    ∗ owns (c : Thread nD τ) (ms0_2 t) fullShare ((dats m hH 0 c).after 2 t)
    ∗ owns (c : Thread nD τ) (ms0_3 t) fullShare ((dats m hH 0 c).after 3 t)
    ∗ owns (c : Thread nD τ) (ms0_4 t) fullShare ((dats m hH 0 c).after 4 t)
    ∗ owns (c : Thread nD τ) (ms0_5 t) fullShare ((dats m hH 0 c).after 5 t)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 1200000 in
/-- The body at any point: the inputs' memrefs hold their blocks (`before0_W`); so the
    run applies; the invariant (`PhiD0_eq`) hands the body its scratch, the register, its DMA cells at zero and the HBM operands, and takes them back as they were; the core's `owes` goes in at whatever the points before recorded and comes back with this point's waits, within the next point's bound (everything). -/
theorem sound_body (hH : Hyps m) (c : Dev nD) (t : Fin cfg0.N) :
    bodyPre m hH c t ⊢ wp frame (wpE (defs₀ (F := F)) Variants.none c none) Set.univ (bodyAt0 t) (fun _ => bodyPost m hH c t) := by
  unfold bodyPre bodyPost bodyAt0
  simp only [before0_0, before0_1, before0_2, before0_3, before0_4, before0_5]
  rw [show (dats m hH 0 c).Φ t.succ = (dats m hH 0 c).Φ t.castSucc from rfl,
    after0_0, after0_1, after0_2, after0_3, after0_4, after0_5]
  rw [show (dats m hH 0 c).Φ t.castSucc = Pipeline.ΦD osem0 spec0 H0 (V m) c from rfl, PhiD0_eq]
  unfold Dat.owesAt Pipeline.owesWithin
  rw [show (dats m hH 0 c).owed t.castSucc = 0 from rfl, show (dats m hH 0 c).owed t.succ = 0 from rfl]
  iintro ⟨⟨⟨HS0, HS1⟩, Hg, ⟨Hq0, Hq1, Hq2, Hq3, Hq4, Hq5, Hq6, Hq7⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun0_A c _ _ _ _ _ _ _ _ _ _ _ _ _ _ _ _ _ _ _ _ _ _ _ _ _ _ (iblk m c 0 t) (iblk m c 1 t) (iblk m c 2 t) (iblk m c 3 t) (iblk m c 4 t) (iblk m c 5 t) (V m c main_v1) (V m c main_v3) (Hyps.c0 hH c t) (Hyps.c1 hH c t) (Hyps.c2 hH c t) (Hyps.c3 hH c t)) W _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [HS0]; · iexact HS0
  isplitl [HS1]; · iexact HS1
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hh0]; · iexact Hh0
  isplitl [Hh1]; · iexact Hh1
  isplitl [HW]; · iexact HW
  iintro ⟨H0, H1, H2, H3, H4, H5, H6, H7, H8, H9, H10, HS0, HS1, Hq0, Hq1, Hq2, Hq3, Hq4, Hq5, Hq6, Hq7, Hh0, Hh1, ⟨%W', HW'⟩⟩
  isplitl [HS0 HS1 Hg Hq0 Hq1 Hq2 Hq3 Hq4 Hq5 Hq6 Hq7 Hh0 Hh1]
  · isplitl [HS0 HS1]
    · isplitl [HS0]; · iexact HS0
      iexact HS1
    isplitl [Hg]
    · iexact Hg
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitl [Hh0]; · iexact Hh0
    iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (hH : Hyps m) (c : Dev nD) : BodyObligation (dats (F := F) m hH 0 c) (defs₀ (F := F)) Variants.none () Set.univ forgets0 := fun t => by
  rw [bigSep_W0, bigSep_W0, defs₀_row]
  exact triple_restated (sound_body m hH c t) rfl .rfl fun _ => .rfl

/-! ## The run and the frame -/

-- `θ_run_frame_dma_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hH : Hyps m) : θ_run defs (onTc (τ := τ) (main (F := F))) (s₀ m ρ) (fun r => (Pipeline.RDat.FramePost (cfgs 0) (fun c => (dats m hH 0 c).toRForget forgets0) (V m)) r ∧ r.2.sem = fun _ => 0) :=
  Pipeline.θ_run_frame_dma_forget (Q' := _) cfgs (dats m hH) (0 : Fin 1) launch0 osem0 defs₀ Variants.none forgets0 ownSemFacts0 H0 H0_sub m ρ main
    (hbody := fun c => (body_obligation m hH c).loose) (hshare := fun c => (dats m hH 0 c).share_full fun _ => rfl)
    (howed := fun _ _ => rfl) (V := V m) (hmain := hmain m Variants.none) (hA := A_eq m hH) (hin := fun _ => .rfl) (hout := fun _ => .rfl)

/-- At the compiled mesh, for any values, from any memory with zero counters: every weakly fair execution of @main on the
    TensorCores terminates, and every final state has every INPUT array of the pipeline unchanged, nothing stated of the
    FORGOTTEN outputs (windows 6, 7, 8, 9, 10) (Lib/Pipeline/Frame.lean `RDat.FramePost` over the proof data with those windows
    forgotten, Dat.lean `Dat.toRForget`), and every other unscoped buffer at its region-entry contents. -/
theorem run_main (hH : Hyps m) : θ_run defs (onTc (τ := τ) (main (F := F))) (s₀ m ρ) (Pipeline.RDat.FramePost (cfgs 0) (fun c => (dats m hH 0 c).toRForget forgets0) (V m)) :=
  (θ_run defs _ _).mono (fun _ h => h.1) (run_main_quiescent m ρ hH)

/-- `frame` without the counters: the argument arrays end unchanged. -/
theorem unchanged (hH : Hyps m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (fun c => (dats m hH 0 c).toRForget forgets0) (A_eq m hH) (run_main m ρ hH)

/-- The frame, at any reading of the floats: every run ends without fault and leaves the eight arguments as they were, given the
    side conditions of the copies at every point. -/
theorem frame (hH : Hyps m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ hH) ((θ_run defs _ _).mono (fun _ h => h.2) (run_main_quiescent m ρ hH))

end Cert.Kernel.Hand

end
-- ==== Proof.KI.Runs.lean ====
/- What the run of the idealized program is stated over: @main up to its one region, the arrays there, each window's
   block, the staging and scratch memrefs, the side conditions the body assumes. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

/-- The host operations before the call allocate nothing. -/
theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(Pipeline.RDat.FramePost.arr_in h c 3 rfl).trans ((hA c 3).trans (V_main_arg0 m c)),
      (Pipeline.RDat.FramePost.arr_in h c 4 rfl).trans ((hA c 4).trans (V_main_arg1 m c)),
      (Pipeline.RDat.FramePost.arr_in h c 5 rfl).trans ((hA c 5).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      (Pipeline.RDat.FramePost.arr_in h c 0 rfl).trans ((hA c 0).trans (V_main_arg5 m c)),
      (Pipeline.RDat.FramePost.arr_in h c 1 rfl).trans ((hA c 1).trans (V_main_arg6 m c)),
      (Pipeline.RDat.FramePost.arr_in h c 2 rfl).trans ((hA c 2).trans (V_main_arg7 m c))⟩) h

/-! ## The kernel body on any staging memrefs: a subtype the run finds -/

/-- Each window's current staging memref at point `t`, spelled as the pipeline passes it (`bodyAt0`), and its wholeness. -/
abbrev ms0_0 (t : Fin cfg0.N) : Memref sig .tc .smem S4 .i32 := win0_0.stage (cfg0.slots t 0)
abbrev hs0_0 (t : Fin cfg0.N) : (ms0_0 t).IsWhole := hstage0_0 0
abbrev ms0_1 (t : Fin cfg0.N) : Memref sig .tc .smem S8 .i32 := win0_1.stage (cfg0.slots t 1)
abbrev hs0_1 (t : Fin cfg0.N) : (ms0_1 t).IsWhole := hstage0_1 0
abbrev ms0_2 (t : Fin cfg0.N) : Memref sig .tc .smem S8 .i32 := win0_2.stage (cfg0.slots t 2)
abbrev hs0_2 (t : Fin cfg0.N) : (ms0_2 t).IsWhole := hstage0_2 0
abbrev ms0_3 (t : Fin cfg0.N) : Memref sig .tc .vmem S4x4x32x64 .bf16 := win0_3.stage (cfg0.slots t 3)
abbrev hs0_3 (t : Fin cfg0.N) : (ms0_3 t).IsWhole := hstage0_3 0
abbrev ms0_4 (t : Fin cfg0.N) : Memref sig .tc .vmem S4x4x8x64 .bf16 := win0_4.stage (cfg0.slots t 4)
abbrev hs0_4 (t : Fin cfg0.N) : (ms0_4 t).IsWhole := hstage0_4 0
abbrev ms0_5 (t : Fin cfg0.N) : Memref sig .tc .vmem S4x4x8x64 .bf16 := win0_5.stage (cfg0.slots t 5)
abbrev hs0_5 (t : Fin cfg0.N) : (ms0_5 t).IsWhole := hstage0_5 0
abbrev ms0_6 (t : Fin cfg0.N) : Memref sig .tc .vmem S4x4x32x64 .bf16 := win0_6.stage (cfg0.slots t 6)
abbrev hs0_6 (t : Fin cfg0.N) : (ms0_6 t).IsWhole := hstage0_6 0
abbrev ms0_7 (t : Fin cfg0.N) : Memref sig .tc .vmem S4x4x8x64 .fp8e4m3 := win0_7.stage (cfg0.slots t 7)
abbrev hs0_7 (t : Fin cfg0.N) : (ms0_7 t).IsWhole := hstage0_7 0
abbrev ms0_8 (t : Fin cfg0.N) : Memref sig .tc .vmem S1x8 .f32 := win0_8.stage (cfg0.slots t 8)
abbrev hs0_8 (t : Fin cfg0.N) : (ms0_8 t).IsWhole := hstage0_8 0
abbrev ms0_9 (t : Fin cfg0.N) : Memref sig .tc .vmem S4x4x8x64 .fp8e4m3 := win0_9.stage (cfg0.slots t 9)
abbrev hs0_9 (t : Fin cfg0.N) : (ms0_9 t).IsWhole := hstage0_9 0
abbrev ms0_10 (t : Fin cfg0.N) : Memref sig .tc .vmem S1x8 .f32 := win0_10.stage (cfg0.slots t 10)
abbrev hs0_10 (t : Fin cfg0.N) : (ms0_10 t).IsWhole := hstage0_10 0

/-! ## The side conditions the body assumes, as the frame's hypothesis -/

/-- The side conditions the body ASSUMES of words it loads from its input SMEM windows, or inside a counted
    loop of the loop's carried counter at every trip (the printed `TpuEff.assume
    (kK_chkN …)`: facts computed from the words that no program decides for every word), at EVERY point, over the
    words of the argument blocks there — spelled as each case's run reads them (`View.readAt` through the window's
    memref at its held contents), each under the conditions of the branches it sits inside. The frame holds
    under it; Proof.lean proves it from the certificate's
    precondition (`hyps_of_pre`; `View.readAt_apply` and `Memref.IsWhole.read_unread` rewrite a conjunct to the
    predicate at the block's word). -/
def Hyps (m : (ℓ : Loc nD τ sig) → Buf (Elt F) ℓ) : Prop :=
  ∀ (c : Dev nD) (t : Fin cfg0.N),
    k0_chk1 ((ms0_0 t).view.readAt (Elt F) (Rect.unit (s := S4) ![0] S1.size inb_S4_S1_0).toLoadRect ((hs0_0 t).unread (iblk m c 0 t)) (Shape.Idx.first (numel1_S1.symm ▸ Nat.one_pos)))
    ∧ k0_chk2 ((ms0_0 t).view.readAt (Elt F) (Rect.unit (s := S4) ![1] S1.size inb_S4_S1_1).toLoadRect ((hs0_0 t).unread (iblk m c 0 t)) (Shape.Idx.first (numel1_S1.symm ▸ Nat.one_pos)))
    ∧ k0_chk3 ((ms0_0 t).view.readAt (Elt F) (Rect.unit (s := S4) ![2] S1.size inb_S4_S1_2).toLoadRect ((hs0_0 t).unread (iblk m c 0 t)) (Shape.Idx.first (numel1_S1.symm ▸ Nat.one_pos)))
    ∧ k0_chk4 ((ms0_0 t).view.readAt (Elt F) (Rect.unit (s := S4) ![3] S1.size inb_S4_S1_3).toLoadRect ((hs0_0 t).unread (iblk m c 0 t)) (Shape.Idx.first (numel1_S1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`. -/
abbrev Hyps.p0 (m : (ℓ : Loc nD τ sig) → Buf (Elt F) ℓ) (c : Dev nD) (t : Fin cfg0.N) : Prop :=
  k0_chk1 ((ms0_0 t).view.readAt (Elt F) (Rect.unit (s := S4) ![0] S1.size inb_S4_S1_0).toLoadRect ((hs0_0 t).unread (iblk m c 0 t)) (Shape.Idx.first (numel1_S1.symm ▸ Nat.one_pos)))
variable {m} in
/-- Conjunct 0 read off the side conditions. -/
theorem Hyps.c0 (hH : Hyps m) (c : Dev nD) (t : Fin cfg0.N) :
    k0_chk1 ((ms0_0 t).view.readAt (Elt F) (Rect.unit (s := S4) ![0] S1.size inb_S4_S1_0).toLoadRect ((hs0_0 t).unread (iblk m c 0 t)) (Shape.Idx.first (numel1_S1.symm ▸ Nat.one_pos))) := (hH c t).1
/-- Conjunct 1 of `Gen.Hyps` at point `t`: the side condition `k0_chk2` the body assumes as `k0_hw2`. -/
abbrev Hyps.p1 (m : (ℓ : Loc nD τ sig) → Buf (Elt F) ℓ) (c : Dev nD) (t : Fin cfg0.N) : Prop :=
  k0_chk2 ((ms0_0 t).view.readAt (Elt F) (Rect.unit (s := S4) ![1] S1.size inb_S4_S1_1).toLoadRect ((hs0_0 t).unread (iblk m c 0 t)) (Shape.Idx.first (numel1_S1.symm ▸ Nat.one_pos)))
variable {m} in
/-- Conjunct 1 read off the side conditions. -/
theorem Hyps.c1 (hH : Hyps m) (c : Dev nD) (t : Fin cfg0.N) :
    k0_chk2 ((ms0_0 t).view.readAt (Elt F) (Rect.unit (s := S4) ![1] S1.size inb_S4_S1_1).toLoadRect ((hs0_0 t).unread (iblk m c 0 t)) (Shape.Idx.first (numel1_S1.symm ▸ Nat.one_pos))) := (hH c t).2.1
/-- Conjunct 2 of `Gen.Hyps` at point `t`: the side condition `k0_chk3` the body assumes as `k0_hw3`. -/
abbrev Hyps.p2 (m : (ℓ : Loc nD τ sig) → Buf (Elt F) ℓ) (c : Dev nD) (t : Fin cfg0.N) : Prop :=
  k0_chk3 ((ms0_0 t).view.readAt (Elt F) (Rect.unit (s := S4) ![2] S1.size inb_S4_S1_2).toLoadRect ((hs0_0 t).unread (iblk m c 0 t)) (Shape.Idx.first (numel1_S1.symm ▸ Nat.one_pos)))
variable {m} in
/-- Conjunct 2 read off the side conditions. -/
theorem Hyps.c2 (hH : Hyps m) (c : Dev nD) (t : Fin cfg0.N) :
    k0_chk3 ((ms0_0 t).view.readAt (Elt F) (Rect.unit (s := S4) ![2] S1.size inb_S4_S1_2).toLoadRect ((hs0_0 t).unread (iblk m c 0 t)) (Shape.Idx.first (numel1_S1.symm ▸ Nat.one_pos))) := (hH c t).2.2.1
/-- Conjunct 3 of `Gen.Hyps` at point `t`: the side condition `k0_chk4` the body assumes as `k0_hw4`. -/
abbrev Hyps.p3 (m : (ℓ : Loc nD τ sig) → Buf (Elt F) ℓ) (c : Dev nD) (t : Fin cfg0.N) : Prop :=
  k0_chk4 ((ms0_0 t).view.readAt (Elt F) (Rect.unit (s := S4) ![3] S1.size inb_S4_S1_3).toLoadRect ((hs0_0 t).unread (iblk m c 0 t)) (Shape.Idx.first (numel1_S1.symm ▸ Nat.one_pos)))
variable {m} in
/-- Conjunct 3 read off the side conditions. -/
theorem Hyps.c3 (hH : Hyps m) (c : Dev nD) (t : Fin cfg0.N) :
    k0_chk4 ((ms0_0 t).view.readAt (Elt F) (Rect.unit (s := S4) ![3] S1.size inb_S4_S1_3).toLoadRect ((hs0_0 t).unread (iblk m c 0 t)) (Shape.Idx.first (numel1_S1.symm ▸ Nat.one_pos))) := (hH c t).2.2.2
variable {m} in
/-- The side conditions, all together, from a proof of each. -/
theorem Hyps.of
    (p0 : ∀ (c : Dev nD) (t : Fin cfg0.N), Hyps.p0 m c t)
    (p1 : ∀ (c : Dev nD) (t : Fin cfg0.N), Hyps.p1 m c t)
    (p2 : ∀ (c : Dev nD) (t : Fin cfg0.N), Hyps.p2 m c t)
    (p3 : ∀ (c : Dev nD) (t : Fin cfg0.N), Hyps.p3 m c t) :
    Hyps m := fun c t =>
  And.intro (p0 c t) (And.intro (p1 c t) (And.intro (p2 c t) (p3 c t)))

/-- The scratch operands: whole scoped buffers of the kernel's own, passed beside the windows. -/
abbrev scM0_0 : Memref sig .tc .vmem S4x512x1152 .fp8e4m3 := Memref.whole cc0_scratch0
abbrev scM0_1 : Memref sig .tc .vmem S4x512x1152 .fp8e4m3 := Memref.whole cc0_scratch1
/-- The operands left in HBM that the body copies into scratch itself, whole. -/
abbrev hbM0_0 : Memref sig .tc .hbm S4x512x131072 .fp8e4m3 := Memref.whole main_v1
abbrev hbM0_1 : Memref sig .tc .hbm S4x512x131072 .fp8e4m3 := Memref.whole main_v3
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 8 → SemLoc sig := fun j => (![SemLoc.dma 11, SemLoc.dma 12, SemLoc.dma 13, SemLoc.dma 14, SemLoc.dma 15, SemLoc.dma 16, SemLoc.dma 17, SemLoc.dma 18] : Fin 8 → SemLoc sig) j
/-- The body's own semaphores are distinct and lie outside the pipeline's. -/
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0) := by
  rw [Pipeline.ownSems0_eq_of_list c osem0 [0, 1, 2, 3, 4, 5, 6, 7] (by decide) (by decide)]; rfl
/-- The HBM operands the body moves, as references: unscoped, no window's array (`Pipeline.restRefs`). -/
def H0 : Finset (Ref sig .tc) := {main_v1, main_v3}
/-- The operands left in HBM are among the references the pipeline does not touch. -/
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v1) ∗ hbPt0 c hbM0_1 (V m c main_v3)) := by
  rw [BI.bigSep_eq_bigSepL_of_eq [main_v1, main_v3] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0) ∗ iprop(hbPt0 c hbM0_0 (V m c main_v1) ∗ hbPt0 c hbM0_1 (V m c main_v3))) := by
  rw [Pipeline.ΦD_eq, scopedRest0_eq, ownSems00_eq, hbmPts0_eq]; simp only [scM0_0, scM0_1, owns_whole]; try rfl

end Cert.KernelIdeal.Hand

end
-- ==== Proof.KI.Run.lean ====
/- The run of the body of the idealized program. -/
module

public import proofs.«01_k».proof.Proof.KI.Runs

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- A piece written to the attention output, to the codes, to a row of scales: a rectangle and its values. -/
abbrev Piece6 (F : FTy → Type) := View.Piece (Elt F) S4x4x32x64 .bf16
abbrev Piece7 (F : FTy → Type) := View.Piece (Elt F) S4x4x8x64 .fp8e4m3
abbrev Piece8 (F : FTy → Type) := View.Piece (Elt F) S1x8 .f32

-- (the run's proof term is large: checking it walks past the default budget)
set_option maxHeartbeats 1796000 in set_option sl_exec.dmaWindow true in set_option sl_exec.dmaWindowSet true in
/-- The body's triple: on whole staging memrefs — the inputs' at their contents, the outputs' at anything — the body runs to
    the continuation holding the inputs' as they were, the scratch at some contents and each output written with a list of
    pieces (the witness), which for the attention output may depend on the contents `g0`, `g1` the scratch buffers had. -/
def bodyRun (c : Dev nD) (arg0 : Memref sig .tc .smem S4 .i32) (harg0 : arg0.IsWhole) (arg1 : Memref sig .tc .smem S8 .i32) (harg1 : arg1.IsWhole) (arg2 : Memref sig .tc .smem S8 .i32) (harg2 : arg2.IsWhole) (arg3 : Memref sig .tc .vmem S4x4x32x64 .bf16) (harg3 : arg3.IsWhole) (arg4 : Memref sig .tc .vmem S4x4x8x64 .bf16) (harg4 : arg4.IsWhole) (arg5 : Memref sig .tc .vmem S4x4x8x64 .bf16) (harg5 : arg5.IsWhole) (arg8 : Memref sig .tc .vmem S4x4x32x64 .bf16) (harg8 : arg8.IsWhole) (arg9 : Memref sig .tc .vmem S4x4x8x64 .fp8e4m3) (harg9 : arg9.IsWhole) (arg10 : Memref sig .tc .vmem S1x8 .f32) (harg10 : arg10.IsWhole) (arg11 : Memref sig .tc .vmem S4x4x8x64 .fp8e4m3) (harg11 : arg11.IsWhole) (arg12 : Memref sig .tc .vmem S1x8 .f32) (harg12 : arg12.IsWhole) (arg13 : Memref sig .tc .vmem S4x512x1152 .fp8e4m3) (harg13 : arg13.IsWhole) (arg14 : Memref sig .tc .vmem S4x512x1152 .fp8e4m3) (harg14 : arg14.IsWhole)
    (x0 : Vec F S4 .i32) (x1 : Vec F S8 .i32) (x2 : Vec F S8 .i32) (x3 : Vec F S4x4x32x64 .bf16) (x4 : Vec F S4x4x8x64 .bf16) (x5 : Vec F S4x4x8x64 .bf16) (fh0 : HbBuf0 (F := F) c hbM0_0) (fh1 : HbBuf0 (F := F) c hbM0_1) (k0_hw1 : k0_chk1 (arg0.view.readAt (Elt F) (Rect.unit (s := S4) ![0] S1.size inb_S4_S1_0).toLoadRect (harg0.unread x0) (Shape.Idx.first (numel1_S1.symm ▸ Nat.one_pos)))) (k0_hw2 : k0_chk2 (arg0.view.readAt (Elt F) (Rect.unit (s := S4) ![1] S1.size inb_S4_S1_1).toLoadRect (harg0.unread x0) (Shape.Idx.first (numel1_S1.symm ▸ Nat.one_pos)))) (k0_hw3 : k0_chk3 (arg0.view.readAt (Elt F) (Rect.unit (s := S4) ![2] S1.size inb_S4_S1_2).toLoadRect (harg0.unread x0) (Shape.Idx.first (numel1_S1.symm ▸ Nat.one_pos)))) (k0_hw4 : k0_chk4 (arg0.view.readAt (Elt F) (Rect.unit (s := S4) ![3] S1.size inb_S4_S1_3).toLoadRect (harg0.unread x0) (Shape.Idx.first (numel1_S1.symm ▸ Nat.one_pos)))) :
      { P : (Buf (Elt F) (arg13.view.loc (c : Thread nD τ)) → Buf (Elt F) (arg14.view.loc (c : Thread nD τ)) → List (Piece6 F)) × List (Piece7 F) × List (Piece8 F) × List (Piece7 F) × List (Piece8 F) //
      ∀ (W : Waits sig Unit) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ hbPt0 c hbM0_0 fh0 ∗ hbPt0 c hbM0_1 fh1 ∗ owes (c : Thread nD τ) 0 W
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ g0 g1 f, owns (c : Thread nD τ) arg8 fullShare (arg8.view.read (Elt F) (arg8.view.writes (Elt F) f (P.1 g0 g1)))) ∗ (∃ f, owns (c : Thread nD τ) arg9 fullShare (arg9.view.read (Elt F) (arg9.view.writes (Elt F) f P.2.1))) ∗ (∃ f, owns (c : Thread nD τ) arg10 fullShare (arg10.view.read (Elt F) (arg10.view.writes (Elt F) f P.2.2.1))) ∗ (∃ f, owns (c : Thread nD τ) arg11 fullShare (arg11.view.read (Elt F) (arg11.view.writes (Elt F) f P.2.2.2.1))) ∗ (∃ f, owns (c : Thread nD τ) arg12 fullShare (arg12.view.read (Elt F) (arg12.view.writes (Elt F) f P.2.2.2.2))) ∗ (∃ d, owns (c : Thread nD τ) arg13 fullShare d) ∗ (∃ d, owns (c : Thread nD τ) arg14 fullShare d) ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_window_attn arg0 harg0 arg1 harg1 arg2 harg2 arg3 harg3 arg4 harg4 arg5 harg5 (Memref.whole main_v1) (Memref.isWhole_whole _) (Memref.whole main_v3) (Memref.isWhole_whole _) arg8 harg8 arg9 harg9 arg10 harg10 arg11 harg11 arg12 harg12 arg13 harg13 arg14 harg14 cc0_scratch2) K } := by
    refine ⟨(?p6, ?p7, ?p8, ?p9, ?p10), ?_⟩
    rotate_left 5
    intro W K
    simp only [cc0_window_attn_eq_skeleton]; unfold cc0_window_attn_skel
    simp only [k0_part52_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, Hq0, Hq1, Hq2, Hq3, Hq4, Hq5, Hq6, Hq7, Hh0, Hh1, HW, Hk⟩
    obtain rfl := harg0.eq_unread hf0; obtain rfl := harg1.eq_unread hf1; obtain rfl := harg2.eq_unread hf2; obtain rfl := harg3.eq_unread hf3; obtain rfl := harg4.eq_unread hf4; obtain rfl := harg5.eq_unread hf5
    sl_exec (disch := first | sl_exact k0_hw1 | sl_exact k0_hw2 | sl_exact k0_hw3 | sl_exact k0_hw4)
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists fs0, fs1, f6, _; isplitr; swap; · iexact H6
      ipureintro; rfl
    isplitl [H7]
    · iexists f7, _; isplitr; swap; · iexact H7
      ipureintro; rfl
    isplitl [H8]
    · iexists f8, _; isplitr; swap; · iexact H8
      ipureintro; rfl
    isplitl [H9]
    · iexists f9, _; isplitr; swap; · iexact H9
      ipureintro; rfl
    isplitl [H10]
    · iexists f10, _; isplitr; swap; · iexact H10
      ipureintro; rfl
    isplitl [HS0]
    · iexists _, _; isplitr; swap; · iexact HS0
      ipureintro; rfl
    isplitl [HS1]
    · iexists _, _; isplitr; swap; · iexact HS1
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    isplitl [Hh1]; · iexact Hh1
    iexists _; iexact HW

end Cert.KernelIdeal.Hand

end
-- ==== Proof.KI.Block.lean ====
module

public import proofs.«01_k».proof.Proof.Gen.KernelIdeal.Skeleton

@[expose] public section

set_option maxRecDepth 16384

noncomputable section

/-! The kernel's arithmetic as functions of what it loads, in any float model: the quantiser of the new
tokens, and one block of the attention (four query heads of sixteen rows of one sequence). -/

namespace Cert.KernelIdeal.Hand

open Idealize.ShloMosaic Idealize.SL.Sem Cert.KernelIdeal Cert.KernelIdeal.Gen

variable {F : FTy → Type} [FloatOps F] [Named F]

/-- The floor quotient of a vector of words by a constant, as the kernel spells it. -/
def floorDiv {s : Shape} (v : IVec s 32) (c : BitVec 32) : IVec s 32 :=
  select
    (andi
      (cmpi .ne
        (subi (extui 32 (cmpi .sgt v (broadcast s 0#32)) natLt_1_32) (extui 32 (cmpi .slt v (broadcast s 0#32)) natLt_1_32))
        (broadcast s (Scalar.subi (Scalar.extui (Scalar.cmpi .sgt c 0#32)) (Scalar.extui (Scalar.cmpi .slt c 0#32)))))
      (cmpi .ne (remsi v (broadcast s c)) (broadcast s 0#32)))
    (subi (divsi v (broadcast s c)) (broadcast s 1#32))
    (divsi v (broadcast s c))

/-- The floor remainder of a vector of words by a constant, as the kernel spells it. -/
def floorMod (v : IVec S64x128 32) (c : BitVec 32) : IVec S64x128 32 :=
  select
    (andi
      (xori
        (cmpi .slt (remsi v (broadcast S64x128 (Scalar.select (Scalar.cmpi .eq c 0#32) 1#32 c))) (broadcast S64x128 0#32))
        (broadcastTo S64x128
          (broadcast S64x128 (Scalar.cmpi .slt (Scalar.select (Scalar.cmpi .eq c 0#32) 1#32 c) 0#32))
          broadcasts_S64x128_S64x128))
      (cmpi .ne (remsi v (broadcast S64x128 (Scalar.select (Scalar.cmpi .eq c 0#32) 1#32 c))) (broadcast S64x128 0#32)))
    (addi (remsi v (broadcast S64x128 (Scalar.select (Scalar.cmpi .eq c 0#32) 1#32 c)))
      (broadcast S64x128 (Scalar.select (Scalar.cmpi .eq c 0#32) 1#32 c)))
    (remsi v (broadcast S64x128 (Scalar.select (Scalar.cmpi .eq c 0#32) 1#32 c)))

/-- The row number of each entry. -/
def rowI : IVec S64x128 32 := iota .tc S64x128 32 [0] iota_S64x128_d0_w32

/-- The lane number of each entry. -/
def laneI : IVec S64x128 32 := iota .tc S64x128 32 [1] iota_S64x128_d1_w32

/-- The token of a row. -/
def rowS : IVec S64x128 32 := floorDiv rowI 16#32

/-- The head, within its block of four, of a row. -/
def rowH : IVec S64x128 32 := floorDiv (floorMod rowI 16#32) 4#32

/-- The sequence of a lane of new tokens. -/
def newB : IVec S64x128 32 := floorDiv laneI 32#32

/-- The token of a lane of new tokens. -/
def newT : IVec S64x128 32 := floorMod (floorDiv laneI 8#32) 4#32

/-- The head of a lane of new tokens. -/
def newH : IVec S64x128 32 := floorMod laneI 8#32

/-- Which half of the 128 lanes a lane lies in. -/
def laneHalf : IVec S64x128 32 := floorDiv laneI 64#32

/-- The factor `2 ^ clamp e` built out of an exponent field. -/
def expField {s : Shape} (e : IVec s 32) : FVec F s .f32 :=
  bitcastToFloat .f32
    (shli (addi (minsi (broadcast s 127#32) (maxsi (broadcast s 4294967170#32) e)) (broadcast s 127#32))
      (broadcast s 23#32))

/-- `2 ^ e` as the product of two halves. -/
def pow2 {s : Shape} (e : IVec s 32) : FVec F s .f32 :=
  mulf (expField (shrsi e (broadcast s 1#32))) (expField (subi e (shrsi e (broadcast s 1#32))))

/-- One of eight words, chosen by an index. -/
def pick8 {s : Shape} (i : IVec s 32) (w0 w1 w2 w3 w4 w5 w6 w7 : BitVec 32) : IVec s 32 :=
  select (cmpi .eq i (broadcast s 7#32)) (broadcast s w7)
  (select (cmpi .eq i (broadcast s 6#32)) (broadcast s w6)
  (select (cmpi .eq i (broadcast s 5#32)) (broadcast s w5)
  (select (cmpi .eq i (broadcast s 4#32)) (broadcast s w4)
  (select (cmpi .eq i (broadcast s 3#32)) (broadcast s w3)
  (select (cmpi .eq i (broadcast s 2#32)) (broadcast s w2)
  (select (cmpi .eq i (broadcast s 1#32)) (broadcast s w1) (broadcast s w0)))))))

/-- One of four words, chosen by the head of the row. -/
def pick4 (w0 w1 w2 w3 : BitVec 32) : IVec S64x128 32 :=
  select (cmpi .eq rowH (broadcast S64x128 3#32)) (broadcast S64x128 w3)
  (select (cmpi .eq rowH (broadcast S64x128 2#32)) (broadcast S64x128 w2)
  (select (cmpi .eq rowH (broadcast S64x128 1#32)) (broadcast S64x128 w1) (broadcast S64x128 w0)))

/-- The row of scales, one per head. -/
def scaleRow (w0 w1 w2 w3 w4 w5 w6 w7 : BitVec 32) : FVec F S1x8 .f32 :=
  extractStridedSlice S1x8 ![0, 0]
    (pow2 (pick8 (iota .tc S1x128 32 [1] iota_S1x128_d1_w32) w0 w1 w2 w3 w4 w5 w6 w7)) slices_S1x128_o0_0_S1x8

/-- The new tokens scaled and clamped. -/
def clipped (w0 w1 w2 w3 w4 w5 w6 w7 : BitVec 32) (x : Vec F S4x4x8x64 .bf16) : FVec F S4x4x8x64 .f32 :=
  minimumf (broadcast S4x4x8x64 (Scalar.ofBits .f32 0x43E00000#32))
    (maximumf (broadcast S4x4x8x64 (Scalar.ofBits .f32 0xC3E00000#32))
      (mulf (extf .f32 x bitsLt_bf16_f32)
        (broadcastTo S4x4x8x64
          (shapeCast S1x1x8x64
            (extractStridedSlice S8x64 ![0, 0]
              (pow2 (subi (broadcast S8x128 0#32)
                (pick8 (iota .tc S8x128 32 [0] iota_S8x128_d0_w32) w0 w1 w2 w3 w4 w5 w6 w7)))
              slices_S8x128_o0_0_S8x64)
            shapeCasts_S8x64_S1x1x8x64)
          broadcasts_S1x1x8x64_S4x4x8x64)))

/-- The codes of the new tokens. -/
def codes (w0 w1 w2 w3 w4 w5 w6 w7 : BitVec 32) (x : Vec F S4x4x8x64 .bf16) : FVec F S4x4x8x64 .fp8e4m3 :=
  truncf .fp8e4m3 (clipped w0 w1 w2 w3 w4 w5 w6 w7 x) bitsLt_fp8e4m3_f32

/-- The codes of the new tokens, one row per sequence, token and head. -/
def codes2 (w0 w1 w2 w3 w4 w5 w6 w7 : BitVec 32) (x : Vec F S4x4x8x64 .bf16) : FVec F S128x64 .fp8e4m3 :=
  truncf .fp8e4m3 (shapeCast S128x64 (clipped w0 w1 w2 w3 w4 w5 w6 w7 x) shapeCasts_S4x4x8x64_S128x64)
    bitsLt_fp8e4m3_f32

/-- The first position of the window a sequence of length `l` reads. -/
def startW (l : BitVec 32) : BitVec 32 :=
  Scalar.minsi 129920#32 (Scalar.maxsi 0#32
    (Scalar.shli (Scalar.shrsi (Scalar.addi (Scalar.subi l 1024#32) 1#32) 7#32) 7#32))

/-- Which cached positions a row attends to. -/
def okMask (a l : BitVec 32) : IVec S64x1152 1 :=
  andi
    (cmpi .slt (addi (broadcast S64x1152 a) (iota .tc S64x1152 32 [1] iota_S64x1152_d1_w32)) (broadcast S64x1152 l))
    (cmpi .sgt (addi (broadcast S64x1152 a) (iota .tc S64x1152 32 [1] iota_S64x1152_d1_w32))
      (subi (addi (broadcast S64x1152 l) (floorDiv (iota .tc S64x1152 32 [0] iota_S64x1152_d0_w32) 16#32))
        (broadcast S64x1152 1024#32)))

/-- Which new tokens a row attends to. -/
def newOk (b j : BitVec 32) : IVec S64x128 1 :=
  andi
    (andi (cmpi .eq newB (broadcast S64x128 b)) (cmpi .eq newH (addi rowH (broadcast S64x128 j))))
    (cmpi .sle newT rowS)

/-- The block's queries, one row per token, head and query. -/
def qRows (x : Vec F S1x4x16x64 .bf16) : FVec F S64x64 .bf16 :=
  shapeCast S64x64 (shapeCast S4x16x64 x shapeCasts_S1x4x16x64_S4x16x64) shapeCasts_S4x16x64_S64x64

/-- Half of the queries spread over the four heads' columns. -/
def qHalf (x : Vec F S1x4x16x64 .bf16) (c : BitVec 32) : FVec F S64x128 .bf16 :=
  select (cmpi .eq rowH (addi laneHalf (broadcast S64x128 c)))
    (concatenate S64x128 1 [⟨S64x64, qRows x⟩, ⟨S64x64, qRows x⟩] concatenates_S64x64_S64x64_S64x128_d1)
    (broadcast S64x128 (Scalar.ofBits .bf16 0x0000#16))

/-- The queries spread over the four heads' columns. -/
def qWide (x : Vec F S1x4x16x64 .bf16) : FVec F S64x256 .bf16 :=
  concatenate S64x256 1 [⟨S64x128, qHalf x 0#32⟩, ⟨S64x128, qHalf x 2#32⟩] concatenates_S64x128_S64x128_S64x256_d1

/-- The scale of a row's scores, in units of `log 2`. -/
def scoreScale (w0 w1 w2 w3 : BitVec 32) : FVec F S64x128 .f32 :=
  mulf (mulf (pow2 (pick4 w0 w1 w2 w3)) (broadcast S64x128 (Scalar.ofBits .f32 0x3E000000#32)))
    (broadcast S64x128 (Named.named κ "log2e" 0x3FB8AA3B#32))

/-- The score of a position that is not attended to. -/
def maskVal : F .f32 := Scalar.mulf (Named.named κ "half_mask" 0xFEFFFFFF#32) (Scalar.ofBits .f32 0x40000000#32)

/-- The scores against the cache. -/
def scoresC (a l : BitVec 32) (w0 w1 w2 w3 : BitVec 32) (x : Vec F S1x4x16x64 .bf16)
    (kt : Vec F S1x256x1152 .fp8e4m3) : FVec F S64x1152 .f32 :=
  select (okMask a l)
    (mulf
      (matmul dot_S64x256_S256x1152_S64x1152_1_0_0_1_n_n none (qWide x)
        (shapeCast S256x1152 kt shapeCasts_S1x256x1152_S256x1152) (constant S64x1152 .f32 0x00000000#32))
      (broadcastTo S64x1152 (extractStridedSlice S64x1 ![0, 0] (scoreScale w0 w1 w2 w3) slices_S64x128_o0_0_S64x1)
        broadcasts_S64x1_S64x1152))
    (broadcast S64x1152 maskVal)

/-- The scores against the new tokens. -/
def scoresN (b j : BitVec 32) (w0 w1 w2 w3 : BitVec 32) (x : Vec F S1x4x16x64 .bf16)
    (kn : FVec F S128x64 .fp8e4m3) : FVec F S64x128 .f32 :=
  select (newOk b j)
    (mulf
      (matmul dot_S64x64_S128x64_S64x128_1_1_0_0_n_n none (qRows x) kn (constant S64x128 .f32 0x00000000#32))
      (broadcastTo S64x128 (extractStridedSlice S64x1 ![0, 0] (scoreScale w0 w1 w2 w3) slices_S64x128_o0_0_S64x1)
        broadcasts_S64x1_S64x128))
    (broadcast S64x128 maskVal)

/-- The largest score of each row. -/
def rowMax (sc : FVec F S64x1152 .f32) (sn : FVec F S64x128 .f32) : FVec F S64x1 .f32 :=
  maximumf
    (shapeCast S64x1 (multiReduction .maximumf [1] S64 sc 0xFF800000#32 reduces_S64x1152_S64 (.inl rfl) rfl)
      shapeCasts_S64_S64x1)
    (shapeCast S64x1 (multiReduction .maximumf [1] S64 sn 0xFF800000#32 reduces_S64x128_S64 (.inl rfl) rfl)
      shapeCasts_S64_S64x1)

/-- The cache's weights before they are normalised. -/
def expC (sc : FVec F S64x1152 .f32) (m : FVec F S64x1 .f32) : FVec F S64x1152 .f32 :=
  exp2 (subf sc (broadcastTo S64x1152 m broadcasts_S64x1_S64x1152))

/-- The new tokens' weights before they are normalised. -/
def expN (sn : FVec F S64x128 .f32) (m : FVec F S64x1 .f32) : FVec F S64x128 .f32 :=
  exp2 (subf sn (broadcastTo S64x128 m broadcasts_S64x1_S64x128))

/-- The factor that normalises a row and applies the scale of its values. -/
def normRow (w0 w1 w2 w3 : BitVec 32) (ec : FVec F S64x1152 .f32) (en : FVec F S64x128 .f32) : FVec F S64x1 .f32 :=
  divf (extractStridedSlice S64x1 ![0, 0] (pow2 (pick4 w0 w1 w2 w3)) slices_S64x128_o0_0_S64x1)
    (addf
      (shapeCast S64x1 (multiReduction .add [1] S64 ec 0x00000000#32 reduces_S64x1152_S64 (.inl rfl) rfl)
        shapeCasts_S64_S64x1)
      (shapeCast S64x1 (multiReduction .add [1] S64 en 0x00000000#32 reduces_S64x128_S64 (.inl rfl) rfl)
        shapeCasts_S64_S64x1))

/-- The cache's part of the output over the four heads' columns. -/
def outC (ec : FVec F S64x1152 .f32) (n : FVec F S64x1 .f32) (vt : Vec F S1x256x1152 .fp8e4m3) : FVec F S64x256 .f32 :=
  matmul dot_S64x1152_S256x1152_S64x256_1_1_0_0_n_n none
    (truncf .bf16 (mulf ec (broadcastTo S64x1152 n broadcasts_S64x1_S64x1152)) bitsLt_bf16_f32)
    (shapeCast S256x1152 vt shapeCasts_S1x256x1152_S256x1152) (constant S64x256 .f32 0x00000000#32)

/-- The new tokens' part of the output. -/
def outN (en : FVec F S64x128 .f32) (n : FVec F S64x1 .f32) (vn : FVec F S128x64 .fp8e4m3) : FVec F S64x64 .f32 :=
  matmul dot_S64x128_S128x64_S64x64_1_0_0_1_n_n none
    (truncf .bf16 (mulf en (broadcastTo S64x128 n broadcasts_S64x1_S64x128)) bitsLt_bf16_f32)
    vn (constant S64x64 .f32 0x00000000#32)

/-- The half of the columns a row's head lies in. -/
def selHalf (oc : FVec F S64x256 .f32) : FVec F S64x128 .f32 :=
  select (cmpi .slt rowH (broadcast S64x128 2#32))
    (extractStridedSlice S64x128 ![0, 0] oc slices_S64x256_o0_0_S64x128)
    (extractStridedSlice S64x128 ![0, 128] oc slices_S64x256_o0_128_S64x128)

/-- The columns of a row's head. -/
def ownCols (oc : FVec F S64x256 .f32) : FVec F S64x64 .f32 :=
  extractStridedSlice S64x64 ![0, 0]
    (select (cmpi .eq (floorMod rowH 2#32) (broadcast S64x128 0#32)) (selHalf oc)
      (dynamicRotate 1 64#32 none (selHalf oc) rotates_S64x128_d1))
    slices_S64x128_o0_0_S64x64

/-- The sum of the two parts, laid out as the result's block. -/
def outRows (oc : FVec F S64x256 .f32) (on : FVec F S64x64 .f32) : FVec F S1x4x16x64 .bf16 :=
  shapeCast S1x4x16x64
    (shapeCast S4x16x64 (truncf .bf16 (addf (ownCols oc) on) bitsLt_bf16_f32) shapeCasts_S64x64_S4x16x64)
    shapeCasts_S4x16x64_S1x4x16x64

/-- A block's output out of its scores. -/
def finish (sc : FVec F S64x1152 .f32) (sn : FVec F S64x128 .f32) (v0 v1 v2 v3 : BitVec 32)
    (vt : Vec F S1x256x1152 .fp8e4m3) (vn : FVec F S128x64 .fp8e4m3) : FVec F S1x4x16x64 .bf16 :=
  outRows
    (outC (expC sc (rowMax sc sn))
      (normRow v0 v1 v2 v3 (expC sc (rowMax sc sn)) (expN sn (rowMax sc sn))) vt)
    (outN (expN sn (rowMax sc sn))
      (normRow v0 v1 v2 v3 (expC sc (rowMax sc sn)) (expN sn (rowMax sc sn))) vn)

/-- One block of the attention: sequence `b` (of length `l`, window from `a`), heads `j` to `j + 3`. -/
def blk (b j a l : BitVec 32) (k0 k1 k2 k3 v0 v1 v2 v3 : BitVec 32) (x : Vec F S1x4x16x64 .bf16)
    (kt vt : Vec F S1x256x1152 .fp8e4m3) (kn vn : FVec F S128x64 .fp8e4m3) : FVec F S1x4x16x64 .bf16 :=
  finish (scoresC a l k0 k1 k2 k3 x kt) (scoresN b j k0 k1 k2 k3 x kn) v0 v1 v2 v3 vt vn

end Cert.KernelIdeal.Hand

end

end
-- ==== Proof.KI.Pieces.lean ====
module

public import proofs.«01_k».proof.Proof.KI.Run
public import proofs.«01_k».proof.Proof.KI.Block

@[expose] public section

set_option maxRecDepth 16384

noncomputable section

/-! What the body stores, as the functions of Block.lean applied to what it loads. -/

namespace Cert.KernelIdeal.Hand

open Cert.KernelIdeal.Gen
open Idealize.ShloMosaic Idealize.ShloMosaic.TcCoe Idealize.SL.Sem

variable {F : FTy → Type} [FloatOps F] [Named F]

/-- A word of the table of lengths, as the body loads it. -/
def rd4 (M : Memref sig .tc .smem S4 .i32) (hM : M.IsWhole) (x : Vec F S4 .i32) (i : Nat)
    (h : ∀ a, (![i] : Fin 1 → Nat) a + S1.size a ≤ S4.size a) : BitVec 32 :=
  M.view.readAt (Elt F) (Rect.unit (s := S4) ![i] S1.size h).toLoadRect
    (hM.unread x) (Shape.Idx.first (numel1_S1.symm ▸ Nat.one_pos))

/-- A word of a table of exponents, as the body loads it. -/
def rd8 (M : Memref sig .tc .smem S8 .i32) (hM : M.IsWhole) (x : Vec F S8 .i32) (i : Nat)
    (h : ∀ a, (![i] : Fin 1 → Nat) a + S1.size a ≤ S8.size a) : BitVec 32 :=
  M.view.readAt (Elt F) (Rect.unit (s := S8) ![i] S1.size h).toLoadRect
    (hM.unread x) (Shape.Idx.first (numel1_S1.symm ▸ Nat.one_pos))

/-- The window of the cache that one copy reads. -/
def srcRd {c : Dev nD} (M : Memref sig .tc .hbm S4x512x131072 .fp8e4m3)
    (f : Buf (Elt F) (M.view.loc (c : Thread nD τ))) (o : Fin 3 → Nat)
    (h : ∀ a, o a + S1x512x1152.size a ≤ S4x512x131072.size a) : Vec F S512x1152 .fp8e4m3 :=
  View.read (Elt F) ((M.slice (Rect.unit (s := S4x512x131072) o S1x512x1152.size h) (fun _ => rfl)).squeeze
    S512x1152 squeezes_S1x512x1152_S512x1152).view f

/-- The scratch after the four copies. -/
def scr {c : Dev nD} (M : Memref sig .tc .vmem S4x512x1152 .fp8e4m3) (f : Buf (Elt F) (M.view.loc (c : Thread nD τ)))
    (d0 d1 d2 d3 : Vec F S512x1152 .fp8e4m3) : Buf (Elt F) (M.view.loc (c : Thread nD τ)) :=
  View.write (Elt F) ((M.slice (Rect.unit (s := S4x512x1152) ![3, 0, 0] S1x512x1152.size inb_S4x512x1152_S1x512x1152_3_0_0) (fun _ => rfl)).squeeze S512x1152 squeezes_S1x512x1152_S512x1152).view
    (View.write (Elt F) ((M.slice (Rect.unit (s := S4x512x1152) ![2, 0, 0] S1x512x1152.size inb_S4x512x1152_S1x512x1152_2_0_0) (fun _ => rfl)).squeeze S512x1152 squeezes_S1x512x1152_S512x1152).view
      (View.write (Elt F) ((M.slice (Rect.unit (s := S4x512x1152) ![1, 0, 0] S1x512x1152.size inb_S4x512x1152_S1x512x1152_1_0_0) (fun _ => rfl)).squeeze S512x1152 squeezes_S1x512x1152_S512x1152).view
        (View.write (Elt F) ((M.slice (Rect.unit (s := S4x512x1152) ![0, 0, 0] S1x512x1152.size inb_S4x512x1152_S1x512x1152_0_0_0) (fun _ => rfl)).squeeze S512x1152 squeezes_S1x512x1152_S512x1152).view
          f d0 Finset.univ) d1 Finset.univ) d2 Finset.univ) d3 Finset.univ

section
variable (c : Dev nD) (arg0 : Memref sig .tc .smem S4 .i32) (harg0 : arg0.IsWhole) (arg1 : Memref sig .tc .smem S8 .i32) (harg1 : arg1.IsWhole) (arg2 : Memref sig .tc .smem S8 .i32) (harg2 : arg2.IsWhole) (arg3 : Memref sig .tc .vmem S4x4x32x64 .bf16) (harg3 : arg3.IsWhole) (arg4 : Memref sig .tc .vmem S4x4x8x64 .bf16) (harg4 : arg4.IsWhole) (arg5 : Memref sig .tc .vmem S4x4x8x64 .bf16) (harg5 : arg5.IsWhole) (arg8 : Memref sig .tc .vmem S4x4x32x64 .bf16) (harg8 : arg8.IsWhole) (arg9 : Memref sig .tc .vmem S4x4x8x64 .fp8e4m3) (harg9 : arg9.IsWhole) (arg10 : Memref sig .tc .vmem S1x8 .f32) (harg10 : arg10.IsWhole) (arg11 : Memref sig .tc .vmem S4x4x8x64 .fp8e4m3) (harg11 : arg11.IsWhole) (arg12 : Memref sig .tc .vmem S1x8 .f32) (harg12 : arg12.IsWhole) (arg13 : Memref sig .tc .vmem S4x512x1152 .fp8e4m3) (harg13 : arg13.IsWhole) (arg14 : Memref sig .tc .vmem S4x512x1152 .fp8e4m3) (harg14 : arg14.IsWhole)
    (x0 : Vec F S4 .i32) (x1 : Vec F S8 .i32) (x2 : Vec F S8 .i32) (x3 : Vec F S4x4x32x64 .bf16) (x4 : Vec F S4x4x8x64 .bf16) (x5 : Vec F S4x4x8x64 .bf16) (fh0 : HbBuf0 (F := F) c hbM0_0) (fh1 : HbBuf0 (F := F) c hbM0_1) (k0_hw1 : k0_chk1 (arg0.view.readAt (Elt F) (Rect.unit (s := S4) ![0] S1.size inb_S4_S1_0).toLoadRect (harg0.unread x0) (Shape.Idx.first (numel1_S1.symm ▸ Nat.one_pos)))) (k0_hw2 : k0_chk2 (arg0.view.readAt (Elt F) (Rect.unit (s := S4) ![1] S1.size inb_S4_S1_1).toLoadRect (harg0.unread x0) (Shape.Idx.first (numel1_S1.symm ▸ Nat.one_pos)))) (k0_hw3 : k0_chk3 (arg0.view.readAt (Elt F) (Rect.unit (s := S4) ![2] S1.size inb_S4_S1_2).toLoadRect (harg0.unread x0) (Shape.Idx.first (numel1_S1.symm ▸ Nat.one_pos)))) (k0_hw4 : k0_chk4 (arg0.view.readAt (Elt F) (Rect.unit (s := S4) ![3] S1.size inb_S4_S1_3).toLoadRect (harg0.unread x0) (Shape.Idx.first (numel1_S1.symm ▸ Nat.one_pos))))

set_option maxHeartbeats 4000000

/-- The codes of the new keys. -/
theorem pieces7 : (bodyRun c arg0 harg0 arg1 harg1 arg2 harg2 arg3 harg3 arg4 harg4 arg5 harg5 arg8 harg8 arg9 harg9 arg10 harg10 arg11 harg11 arg12 harg12 arg13 harg13 arg14 harg14 x0 x1 x2 x3 x4 x5 fh0 fh1 k0_hw1 k0_hw2 k0_hw3 k0_hw4).val.2.1 =
    [⟨Rect.unit (s := S4x4x8x64) ![0, 0, 0, 0] S4x4x8x64.size inb_S4x4x8x64_S4x4x8x64_0_0_0_0, codes (rd8 arg1 harg1 x1 0 inb_S8_S1_0) (rd8 arg1 harg1 x1 1 inb_S8_S1_1) (rd8 arg1 harg1 x1 2 inb_S8_S1_2) (rd8 arg1 harg1 x1 3 inb_S8_S1_3) (rd8 arg1 harg1 x1 4 inb_S8_S1_4) (rd8 arg1 harg1 x1 5 inb_S8_S1_5) (rd8 arg1 harg1 x1 6 inb_S8_S1_6) (rd8 arg1 harg1 x1 7 inb_S8_S1_7) (View.readAt (Elt F) arg4.view (Rect.unit (s := S4x4x8x64) ![0, 0, 0, 0] S4x4x8x64.size inb_S4x4x8x64_S4x4x8x64_0_0_0_0).toLoadRect (harg4.unread x4))⟩] := rfl
/-- The scales of the keys. -/
theorem pieces8 : (bodyRun c arg0 harg0 arg1 harg1 arg2 harg2 arg3 harg3 arg4 harg4 arg5 harg5 arg8 harg8 arg9 harg9 arg10 harg10 arg11 harg11 arg12 harg12 arg13 harg13 arg14 harg14 x0 x1 x2 x3 x4 x5 fh0 fh1 k0_hw1 k0_hw2 k0_hw3 k0_hw4).val.2.2.1 = [⟨Rect.unit (s := S1x8) ![0, 0] S1x8.size inb_S1x8_S1x8_0_0, scaleRow (rd8 arg1 harg1 x1 0 inb_S8_S1_0) (rd8 arg1 harg1 x1 1 inb_S8_S1_1) (rd8 arg1 harg1 x1 2 inb_S8_S1_2) (rd8 arg1 harg1 x1 3 inb_S8_S1_3) (rd8 arg1 harg1 x1 4 inb_S8_S1_4) (rd8 arg1 harg1 x1 5 inb_S8_S1_5) (rd8 arg1 harg1 x1 6 inb_S8_S1_6) (rd8 arg1 harg1 x1 7 inb_S8_S1_7)⟩] := rfl
/-- The codes of the new values. -/
theorem pieces9 : (bodyRun c arg0 harg0 arg1 harg1 arg2 harg2 arg3 harg3 arg4 harg4 arg5 harg5 arg8 harg8 arg9 harg9 arg10 harg10 arg11 harg11 arg12 harg12 arg13 harg13 arg14 harg14 x0 x1 x2 x3 x4 x5 fh0 fh1 k0_hw1 k0_hw2 k0_hw3 k0_hw4).val.2.2.2.1 =
    [⟨Rect.unit (s := S4x4x8x64) ![0, 0, 0, 0] S4x4x8x64.size inb_S4x4x8x64_S4x4x8x64_0_0_0_0, codes (rd8 arg2 harg2 x2 0 inb_S8_S1_0) (rd8 arg2 harg2 x2 1 inb_S8_S1_1) (rd8 arg2 harg2 x2 2 inb_S8_S1_2) (rd8 arg2 harg2 x2 3 inb_S8_S1_3) (rd8 arg2 harg2 x2 4 inb_S8_S1_4) (rd8 arg2 harg2 x2 5 inb_S8_S1_5) (rd8 arg2 harg2 x2 6 inb_S8_S1_6) (rd8 arg2 harg2 x2 7 inb_S8_S1_7) (View.readAt (Elt F) arg5.view (Rect.unit (s := S4x4x8x64) ![0, 0, 0, 0] S4x4x8x64.size inb_S4x4x8x64_S4x4x8x64_0_0_0_0).toLoadRect (harg5.unread x5))⟩] := rfl
/-- The scales of the values. -/
theorem pieces10 : (bodyRun c arg0 harg0 arg1 harg1 arg2 harg2 arg3 harg3 arg4 harg4 arg5 harg5 arg8 harg8 arg9 harg9 arg10 harg10 arg11 harg11 arg12 harg12 arg13 harg13 arg14 harg14 x0 x1 x2 x3 x4 x5 fh0 fh1 k0_hw1 k0_hw2 k0_hw3 k0_hw4).val.2.2.2.2 = [⟨Rect.unit (s := S1x8) ![0, 0] S1x8.size inb_S1x8_S1x8_0_0, scaleRow (rd8 arg2 harg2 x2 0 inb_S8_S1_0) (rd8 arg2 harg2 x2 1 inb_S8_S1_1) (rd8 arg2 harg2 x2 2 inb_S8_S1_2) (rd8 arg2 harg2 x2 3 inb_S8_S1_3) (rd8 arg2 harg2 x2 4 inb_S8_S1_4) (rd8 arg2 harg2 x2 5 inb_S8_S1_5) (rd8 arg2 harg2 x2 6 inb_S8_S1_6) (rd8 arg2 harg2 x2 7 inb_S8_S1_7)⟩] := rfl

/-- The eight blocks of the output. -/
theorem pieces6 (g0 : Buf (Elt F) (arg13.view.loc (c : Thread nD τ))) (g1 : Buf (Elt F) (arg14.view.loc (c : Thread nD τ))) :
    (bodyRun c arg0 harg0 arg1 harg1 arg2 harg2 arg3 harg3 arg4 harg4 arg5 harg5 arg8 harg8 arg9 harg9 arg10 harg10 arg11 harg11 arg12 harg12 arg13 harg13 arg14 harg14 x0 x1 x2 x3 x4 x5 fh0 fh1 k0_hw1 k0_hw2 k0_hw3 k0_hw4).val.1 g0 g1 = [
      ⟨Rect.unit (s := S4x4x32x64) ![3, 0, 16, 0] S1x4x16x64.size inb_S4x4x32x64_S1x4x16x64_3_0_16_0,
        blk 3#32 4#32 (startW (rd4 arg0 harg0 x0 3 inb_S4_S1_3)) (rd4 arg0 harg0 x0 3 inb_S4_S1_3) (rd8 arg1 harg1 x1 4 inb_S8_S1_4) (rd8 arg1 harg1 x1 5 inb_S8_S1_5) (rd8 arg1 harg1 x1 6 inb_S8_S1_6) (rd8 arg1 harg1 x1 7 inb_S8_S1_7) (rd8 arg2 harg2 x2 4 inb_S8_S1_4) (rd8 arg2 harg2 x2 5 inb_S8_S1_5) (rd8 arg2 harg2 x2 6 inb_S8_S1_6) (rd8 arg2 harg2 x2 7 inb_S8_S1_7)
          (View.readAt (Elt F) arg3.view (Rect.unit (s := S4x4x32x64) ![3, 0, 16, 0] S1x4x16x64.size inb_S4x4x32x64_S1x4x16x64_3_0_16_0).toLoadRect (harg3.unread x3))
          (View.readAt (Elt F) arg13.view (Rect.unit (s := S4x512x1152) ![3, 256, 0] S1x256x1152.size inb_S4x512x1152_S1x256x1152_3_256_0).toLoadRect (scr (c := c) arg13 g0 (srcRd (c := c) (Memref.whole main_v1) fh0 (k0_off1 (rd4 arg0 harg0 x0 0 inb_S4_S1_0)) (k0_off1_inb _ k0_hw1)) (srcRd (c := c) (Memref.whole main_v1) fh0 (k0_off2 (rd4 arg0 harg0 x0 1 inb_S4_S1_1)) (k0_off2_inb _ k0_hw2)) (srcRd (c := c) (Memref.whole main_v1) fh0 (k0_off3 (rd4 arg0 harg0 x0 2 inb_S4_S1_2)) (k0_off3_inb _ k0_hw3)) (srcRd (c := c) (Memref.whole main_v1) fh0 (k0_off4 (rd4 arg0 harg0 x0 3 inb_S4_S1_3)) (k0_off4_inb _ k0_hw4))))
          (View.readAt (Elt F) arg14.view (Rect.unit (s := S4x512x1152) ![3, 256, 0] S1x256x1152.size inb_S4x512x1152_S1x256x1152_3_256_0).toLoadRect (scr (c := c) arg14 g1 (srcRd (c := c) (Memref.whole main_v3) fh1 (k0_off1 (rd4 arg0 harg0 x0 0 inb_S4_S1_0)) (k0_off1_inb _ k0_hw1)) (srcRd (c := c) (Memref.whole main_v3) fh1 (k0_off2 (rd4 arg0 harg0 x0 1 inb_S4_S1_1)) (k0_off2_inb _ k0_hw2)) (srcRd (c := c) (Memref.whole main_v3) fh1 (k0_off3 (rd4 arg0 harg0 x0 2 inb_S4_S1_2)) (k0_off3_inb _ k0_hw3)) (srcRd (c := c) (Memref.whole main_v3) fh1 (k0_off4 (rd4 arg0 harg0 x0 3 inb_S4_S1_3)) (k0_off4_inb _ k0_hw4))))
          (codes2 (rd8 arg1 harg1 x1 0 inb_S8_S1_0) (rd8 arg1 harg1 x1 1 inb_S8_S1_1) (rd8 arg1 harg1 x1 2 inb_S8_S1_2) (rd8 arg1 harg1 x1 3 inb_S8_S1_3) (rd8 arg1 harg1 x1 4 inb_S8_S1_4) (rd8 arg1 harg1 x1 5 inb_S8_S1_5) (rd8 arg1 harg1 x1 6 inb_S8_S1_6) (rd8 arg1 harg1 x1 7 inb_S8_S1_7) (View.readAt (Elt F) arg4.view (Rect.unit (s := S4x4x8x64) ![0, 0, 0, 0] S4x4x8x64.size inb_S4x4x8x64_S4x4x8x64_0_0_0_0).toLoadRect (harg4.unread x4)))
          (codes2 (rd8 arg2 harg2 x2 0 inb_S8_S1_0) (rd8 arg2 harg2 x2 1 inb_S8_S1_1) (rd8 arg2 harg2 x2 2 inb_S8_S1_2) (rd8 arg2 harg2 x2 3 inb_S8_S1_3) (rd8 arg2 harg2 x2 4 inb_S8_S1_4) (rd8 arg2 harg2 x2 5 inb_S8_S1_5) (rd8 arg2 harg2 x2 6 inb_S8_S1_6) (rd8 arg2 harg2 x2 7 inb_S8_S1_7) (View.readAt (Elt F) arg5.view (Rect.unit (s := S4x4x8x64) ![0, 0, 0, 0] S4x4x8x64.size inb_S4x4x8x64_S4x4x8x64_0_0_0_0).toLoadRect (harg5.unread x5)))⟩,
      ⟨Rect.unit (s := S4x4x32x64) ![3, 0, 0, 0] S1x4x16x64.size inb_S4x4x32x64_S1x4x16x64_3_0_0_0,
        blk 3#32 0#32 (startW (rd4 arg0 harg0 x0 3 inb_S4_S1_3)) (rd4 arg0 harg0 x0 3 inb_S4_S1_3) (rd8 arg1 harg1 x1 0 inb_S8_S1_0) (rd8 arg1 harg1 x1 1 inb_S8_S1_1) (rd8 arg1 harg1 x1 2 inb_S8_S1_2) (rd8 arg1 harg1 x1 3 inb_S8_S1_3) (rd8 arg2 harg2 x2 0 inb_S8_S1_0) (rd8 arg2 harg2 x2 1 inb_S8_S1_1) (rd8 arg2 harg2 x2 2 inb_S8_S1_2) (rd8 arg2 harg2 x2 3 inb_S8_S1_3)
          (View.readAt (Elt F) arg3.view (Rect.unit (s := S4x4x32x64) ![3, 0, 0, 0] S1x4x16x64.size inb_S4x4x32x64_S1x4x16x64_3_0_0_0).toLoadRect (harg3.unread x3))
          (View.readAt (Elt F) arg13.view (Rect.unit (s := S4x512x1152) ![3, 0, 0] S1x256x1152.size inb_S4x512x1152_S1x256x1152_3_0_0).toLoadRect (scr (c := c) arg13 g0 (srcRd (c := c) (Memref.whole main_v1) fh0 (k0_off1 (rd4 arg0 harg0 x0 0 inb_S4_S1_0)) (k0_off1_inb _ k0_hw1)) (srcRd (c := c) (Memref.whole main_v1) fh0 (k0_off2 (rd4 arg0 harg0 x0 1 inb_S4_S1_1)) (k0_off2_inb _ k0_hw2)) (srcRd (c := c) (Memref.whole main_v1) fh0 (k0_off3 (rd4 arg0 harg0 x0 2 inb_S4_S1_2)) (k0_off3_inb _ k0_hw3)) (srcRd (c := c) (Memref.whole main_v1) fh0 (k0_off4 (rd4 arg0 harg0 x0 3 inb_S4_S1_3)) (k0_off4_inb _ k0_hw4))))
          (View.readAt (Elt F) arg14.view (Rect.unit (s := S4x512x1152) ![3, 0, 0] S1x256x1152.size inb_S4x512x1152_S1x256x1152_3_0_0).toLoadRect (scr (c := c) arg14 g1 (srcRd (c := c) (Memref.whole main_v3) fh1 (k0_off1 (rd4 arg0 harg0 x0 0 inb_S4_S1_0)) (k0_off1_inb _ k0_hw1)) (srcRd (c := c) (Memref.whole main_v3) fh1 (k0_off2 (rd4 arg0 harg0 x0 1 inb_S4_S1_1)) (k0_off2_inb _ k0_hw2)) (srcRd (c := c) (Memref.whole main_v3) fh1 (k0_off3 (rd4 arg0 harg0 x0 2 inb_S4_S1_2)) (k0_off3_inb _ k0_hw3)) (srcRd (c := c) (Memref.whole main_v3) fh1 (k0_off4 (rd4 arg0 harg0 x0 3 inb_S4_S1_3)) (k0_off4_inb _ k0_hw4))))
          (codes2 (rd8 arg1 harg1 x1 0 inb_S8_S1_0) (rd8 arg1 harg1 x1 1 inb_S8_S1_1) (rd8 arg1 harg1 x1 2 inb_S8_S1_2) (rd8 arg1 harg1 x1 3 inb_S8_S1_3) (rd8 arg1 harg1 x1 4 inb_S8_S1_4) (rd8 arg1 harg1 x1 5 inb_S8_S1_5) (rd8 arg1 harg1 x1 6 inb_S8_S1_6) (rd8 arg1 harg1 x1 7 inb_S8_S1_7) (View.readAt (Elt F) arg4.view (Rect.unit (s := S4x4x8x64) ![0, 0, 0, 0] S4x4x8x64.size inb_S4x4x8x64_S4x4x8x64_0_0_0_0).toLoadRect (harg4.unread x4)))
          (codes2 (rd8 arg2 harg2 x2 0 inb_S8_S1_0) (rd8 arg2 harg2 x2 1 inb_S8_S1_1) (rd8 arg2 harg2 x2 2 inb_S8_S1_2) (rd8 arg2 harg2 x2 3 inb_S8_S1_3) (rd8 arg2 harg2 x2 4 inb_S8_S1_4) (rd8 arg2 harg2 x2 5 inb_S8_S1_5) (rd8 arg2 harg2 x2 6 inb_S8_S1_6) (rd8 arg2 harg2 x2 7 inb_S8_S1_7) (View.readAt (Elt F) arg5.view (Rect.unit (s := S4x4x8x64) ![0, 0, 0, 0] S4x4x8x64.size inb_S4x4x8x64_S4x4x8x64_0_0_0_0).toLoadRect (harg5.unread x5)))⟩,
      ⟨Rect.unit (s := S4x4x32x64) ![2, 0, 16, 0] S1x4x16x64.size inb_S4x4x32x64_S1x4x16x64_2_0_16_0,
        blk 2#32 4#32 (startW (rd4 arg0 harg0 x0 2 inb_S4_S1_2)) (rd4 arg0 harg0 x0 2 inb_S4_S1_2) (rd8 arg1 harg1 x1 4 inb_S8_S1_4) (rd8 arg1 harg1 x1 5 inb_S8_S1_5) (rd8 arg1 harg1 x1 6 inb_S8_S1_6) (rd8 arg1 harg1 x1 7 inb_S8_S1_7) (rd8 arg2 harg2 x2 4 inb_S8_S1_4) (rd8 arg2 harg2 x2 5 inb_S8_S1_5) (rd8 arg2 harg2 x2 6 inb_S8_S1_6) (rd8 arg2 harg2 x2 7 inb_S8_S1_7)
          (View.readAt (Elt F) arg3.view (Rect.unit (s := S4x4x32x64) ![2, 0, 16, 0] S1x4x16x64.size inb_S4x4x32x64_S1x4x16x64_2_0_16_0).toLoadRect (harg3.unread x3))
          (View.readAt (Elt F) arg13.view (Rect.unit (s := S4x512x1152) ![2, 256, 0] S1x256x1152.size inb_S4x512x1152_S1x256x1152_2_256_0).toLoadRect (scr (c := c) arg13 g0 (srcRd (c := c) (Memref.whole main_v1) fh0 (k0_off1 (rd4 arg0 harg0 x0 0 inb_S4_S1_0)) (k0_off1_inb _ k0_hw1)) (srcRd (c := c) (Memref.whole main_v1) fh0 (k0_off2 (rd4 arg0 harg0 x0 1 inb_S4_S1_1)) (k0_off2_inb _ k0_hw2)) (srcRd (c := c) (Memref.whole main_v1) fh0 (k0_off3 (rd4 arg0 harg0 x0 2 inb_S4_S1_2)) (k0_off3_inb _ k0_hw3)) (srcRd (c := c) (Memref.whole main_v1) fh0 (k0_off4 (rd4 arg0 harg0 x0 3 inb_S4_S1_3)) (k0_off4_inb _ k0_hw4))))
          (View.readAt (Elt F) arg14.view (Rect.unit (s := S4x512x1152) ![2, 256, 0] S1x256x1152.size inb_S4x512x1152_S1x256x1152_2_256_0).toLoadRect (scr (c := c) arg14 g1 (srcRd (c := c) (Memref.whole main_v3) fh1 (k0_off1 (rd4 arg0 harg0 x0 0 inb_S4_S1_0)) (k0_off1_inb _ k0_hw1)) (srcRd (c := c) (Memref.whole main_v3) fh1 (k0_off2 (rd4 arg0 harg0 x0 1 inb_S4_S1_1)) (k0_off2_inb _ k0_hw2)) (srcRd (c := c) (Memref.whole main_v3) fh1 (k0_off3 (rd4 arg0 harg0 x0 2 inb_S4_S1_2)) (k0_off3_inb _ k0_hw3)) (srcRd (c := c) (Memref.whole main_v3) fh1 (k0_off4 (rd4 arg0 harg0 x0 3 inb_S4_S1_3)) (k0_off4_inb _ k0_hw4))))
          (codes2 (rd8 arg1 harg1 x1 0 inb_S8_S1_0) (rd8 arg1 harg1 x1 1 inb_S8_S1_1) (rd8 arg1 harg1 x1 2 inb_S8_S1_2) (rd8 arg1 harg1 x1 3 inb_S8_S1_3) (rd8 arg1 harg1 x1 4 inb_S8_S1_4) (rd8 arg1 harg1 x1 5 inb_S8_S1_5) (rd8 arg1 harg1 x1 6 inb_S8_S1_6) (rd8 arg1 harg1 x1 7 inb_S8_S1_7) (View.readAt (Elt F) arg4.view (Rect.unit (s := S4x4x8x64) ![0, 0, 0, 0] S4x4x8x64.size inb_S4x4x8x64_S4x4x8x64_0_0_0_0).toLoadRect (harg4.unread x4)))
          (codes2 (rd8 arg2 harg2 x2 0 inb_S8_S1_0) (rd8 arg2 harg2 x2 1 inb_S8_S1_1) (rd8 arg2 harg2 x2 2 inb_S8_S1_2) (rd8 arg2 harg2 x2 3 inb_S8_S1_3) (rd8 arg2 harg2 x2 4 inb_S8_S1_4) (rd8 arg2 harg2 x2 5 inb_S8_S1_5) (rd8 arg2 harg2 x2 6 inb_S8_S1_6) (rd8 arg2 harg2 x2 7 inb_S8_S1_7) (View.readAt (Elt F) arg5.view (Rect.unit (s := S4x4x8x64) ![0, 0, 0, 0] S4x4x8x64.size inb_S4x4x8x64_S4x4x8x64_0_0_0_0).toLoadRect (harg5.unread x5)))⟩,
      ⟨Rect.unit (s := S4x4x32x64) ![2, 0, 0, 0] S1x4x16x64.size inb_S4x4x32x64_S1x4x16x64_2_0_0_0,
        blk 2#32 0#32 (startW (rd4 arg0 harg0 x0 2 inb_S4_S1_2)) (rd4 arg0 harg0 x0 2 inb_S4_S1_2) (rd8 arg1 harg1 x1 0 inb_S8_S1_0) (rd8 arg1 harg1 x1 1 inb_S8_S1_1) (rd8 arg1 harg1 x1 2 inb_S8_S1_2) (rd8 arg1 harg1 x1 3 inb_S8_S1_3) (rd8 arg2 harg2 x2 0 inb_S8_S1_0) (rd8 arg2 harg2 x2 1 inb_S8_S1_1) (rd8 arg2 harg2 x2 2 inb_S8_S1_2) (rd8 arg2 harg2 x2 3 inb_S8_S1_3)
          (View.readAt (Elt F) arg3.view (Rect.unit (s := S4x4x32x64) ![2, 0, 0, 0] S1x4x16x64.size inb_S4x4x32x64_S1x4x16x64_2_0_0_0).toLoadRect (harg3.unread x3))
          (View.readAt (Elt F) arg13.view (Rect.unit (s := S4x512x1152) ![2, 0, 0] S1x256x1152.size inb_S4x512x1152_S1x256x1152_2_0_0).toLoadRect (scr (c := c) arg13 g0 (srcRd (c := c) (Memref.whole main_v1) fh0 (k0_off1 (rd4 arg0 harg0 x0 0 inb_S4_S1_0)) (k0_off1_inb _ k0_hw1)) (srcRd (c := c) (Memref.whole main_v1) fh0 (k0_off2 (rd4 arg0 harg0 x0 1 inb_S4_S1_1)) (k0_off2_inb _ k0_hw2)) (srcRd (c := c) (Memref.whole main_v1) fh0 (k0_off3 (rd4 arg0 harg0 x0 2 inb_S4_S1_2)) (k0_off3_inb _ k0_hw3)) (srcRd (c := c) (Memref.whole main_v1) fh0 (k0_off4 (rd4 arg0 harg0 x0 3 inb_S4_S1_3)) (k0_off4_inb _ k0_hw4))))
          (View.readAt (Elt F) arg14.view (Rect.unit (s := S4x512x1152) ![2, 0, 0] S1x256x1152.size inb_S4x512x1152_S1x256x1152_2_0_0).toLoadRect (scr (c := c) arg14 g1 (srcRd (c := c) (Memref.whole main_v3) fh1 (k0_off1 (rd4 arg0 harg0 x0 0 inb_S4_S1_0)) (k0_off1_inb _ k0_hw1)) (srcRd (c := c) (Memref.whole main_v3) fh1 (k0_off2 (rd4 arg0 harg0 x0 1 inb_S4_S1_1)) (k0_off2_inb _ k0_hw2)) (srcRd (c := c) (Memref.whole main_v3) fh1 (k0_off3 (rd4 arg0 harg0 x0 2 inb_S4_S1_2)) (k0_off3_inb _ k0_hw3)) (srcRd (c := c) (Memref.whole main_v3) fh1 (k0_off4 (rd4 arg0 harg0 x0 3 inb_S4_S1_3)) (k0_off4_inb _ k0_hw4))))
          (codes2 (rd8 arg1 harg1 x1 0 inb_S8_S1_0) (rd8 arg1 harg1 x1 1 inb_S8_S1_1) (rd8 arg1 harg1 x1 2 inb_S8_S1_2) (rd8 arg1 harg1 x1 3 inb_S8_S1_3) (rd8 arg1 harg1 x1 4 inb_S8_S1_4) (rd8 arg1 harg1 x1 5 inb_S8_S1_5) (rd8 arg1 harg1 x1 6 inb_S8_S1_6) (rd8 arg1 harg1 x1 7 inb_S8_S1_7) (View.readAt (Elt F) arg4.view (Rect.unit (s := S4x4x8x64) ![0, 0, 0, 0] S4x4x8x64.size inb_S4x4x8x64_S4x4x8x64_0_0_0_0).toLoadRect (harg4.unread x4)))
          (codes2 (rd8 arg2 harg2 x2 0 inb_S8_S1_0) (rd8 arg2 harg2 x2 1 inb_S8_S1_1) (rd8 arg2 harg2 x2 2 inb_S8_S1_2) (rd8 arg2 harg2 x2 3 inb_S8_S1_3) (rd8 arg2 harg2 x2 4 inb_S8_S1_4) (rd8 arg2 harg2 x2 5 inb_S8_S1_5) (rd8 arg2 harg2 x2 6 inb_S8_S1_6) (rd8 arg2 harg2 x2 7 inb_S8_S1_7) (View.readAt (Elt F) arg5.view (Rect.unit (s := S4x4x8x64) ![0, 0, 0, 0] S4x4x8x64.size inb_S4x4x8x64_S4x4x8x64_0_0_0_0).toLoadRect (harg5.unread x5)))⟩,
      ⟨Rect.unit (s := S4x4x32x64) ![1, 0, 16, 0] S1x4x16x64.size inb_S4x4x32x64_S1x4x16x64_1_0_16_0,
        blk 1#32 4#32 (startW (rd4 arg0 harg0 x0 1 inb_S4_S1_1)) (rd4 arg0 harg0 x0 1 inb_S4_S1_1) (rd8 arg1 harg1 x1 4 inb_S8_S1_4) (rd8 arg1 harg1 x1 5 inb_S8_S1_5) (rd8 arg1 harg1 x1 6 inb_S8_S1_6) (rd8 arg1 harg1 x1 7 inb_S8_S1_7) (rd8 arg2 harg2 x2 4 inb_S8_S1_4) (rd8 arg2 harg2 x2 5 inb_S8_S1_5) (rd8 arg2 harg2 x2 6 inb_S8_S1_6) (rd8 arg2 harg2 x2 7 inb_S8_S1_7)
          (View.readAt (Elt F) arg3.view (Rect.unit (s := S4x4x32x64) ![1, 0, 16, 0] S1x4x16x64.size inb_S4x4x32x64_S1x4x16x64_1_0_16_0).toLoadRect (harg3.unread x3))
          (View.readAt (Elt F) arg13.view (Rect.unit (s := S4x512x1152) ![1, 256, 0] S1x256x1152.size inb_S4x512x1152_S1x256x1152_1_256_0).toLoadRect (scr (c := c) arg13 g0 (srcRd (c := c) (Memref.whole main_v1) fh0 (k0_off1 (rd4 arg0 harg0 x0 0 inb_S4_S1_0)) (k0_off1_inb _ k0_hw1)) (srcRd (c := c) (Memref.whole main_v1) fh0 (k0_off2 (rd4 arg0 harg0 x0 1 inb_S4_S1_1)) (k0_off2_inb _ k0_hw2)) (srcRd (c := c) (Memref.whole main_v1) fh0 (k0_off3 (rd4 arg0 harg0 x0 2 inb_S4_S1_2)) (k0_off3_inb _ k0_hw3)) (srcRd (c := c) (Memref.whole main_v1) fh0 (k0_off4 (rd4 arg0 harg0 x0 3 inb_S4_S1_3)) (k0_off4_inb _ k0_hw4))))
          (View.readAt (Elt F) arg14.view (Rect.unit (s := S4x512x1152) ![1, 256, 0] S1x256x1152.size inb_S4x512x1152_S1x256x1152_1_256_0).toLoadRect (scr (c := c) arg14 g1 (srcRd (c := c) (Memref.whole main_v3) fh1 (k0_off1 (rd4 arg0 harg0 x0 0 inb_S4_S1_0)) (k0_off1_inb _ k0_hw1)) (srcRd (c := c) (Memref.whole main_v3) fh1 (k0_off2 (rd4 arg0 harg0 x0 1 inb_S4_S1_1)) (k0_off2_inb _ k0_hw2)) (srcRd (c := c) (Memref.whole main_v3) fh1 (k0_off3 (rd4 arg0 harg0 x0 2 inb_S4_S1_2)) (k0_off3_inb _ k0_hw3)) (srcRd (c := c) (Memref.whole main_v3) fh1 (k0_off4 (rd4 arg0 harg0 x0 3 inb_S4_S1_3)) (k0_off4_inb _ k0_hw4))))
          (codes2 (rd8 arg1 harg1 x1 0 inb_S8_S1_0) (rd8 arg1 harg1 x1 1 inb_S8_S1_1) (rd8 arg1 harg1 x1 2 inb_S8_S1_2) (rd8 arg1 harg1 x1 3 inb_S8_S1_3) (rd8 arg1 harg1 x1 4 inb_S8_S1_4) (rd8 arg1 harg1 x1 5 inb_S8_S1_5) (rd8 arg1 harg1 x1 6 inb_S8_S1_6) (rd8 arg1 harg1 x1 7 inb_S8_S1_7) (View.readAt (Elt F) arg4.view (Rect.unit (s := S4x4x8x64) ![0, 0, 0, 0] S4x4x8x64.size inb_S4x4x8x64_S4x4x8x64_0_0_0_0).toLoadRect (harg4.unread x4)))
          (codes2 (rd8 arg2 harg2 x2 0 inb_S8_S1_0) (rd8 arg2 harg2 x2 1 inb_S8_S1_1) (rd8 arg2 harg2 x2 2 inb_S8_S1_2) (rd8 arg2 harg2 x2 3 inb_S8_S1_3) (rd8 arg2 harg2 x2 4 inb_S8_S1_4) (rd8 arg2 harg2 x2 5 inb_S8_S1_5) (rd8 arg2 harg2 x2 6 inb_S8_S1_6) (rd8 arg2 harg2 x2 7 inb_S8_S1_7) (View.readAt (Elt F) arg5.view (Rect.unit (s := S4x4x8x64) ![0, 0, 0, 0] S4x4x8x64.size inb_S4x4x8x64_S4x4x8x64_0_0_0_0).toLoadRect (harg5.unread x5)))⟩,
      ⟨Rect.unit (s := S4x4x32x64) ![1, 0, 0, 0] S1x4x16x64.size inb_S4x4x32x64_S1x4x16x64_1_0_0_0,
        blk 1#32 0#32 (startW (rd4 arg0 harg0 x0 1 inb_S4_S1_1)) (rd4 arg0 harg0 x0 1 inb_S4_S1_1) (rd8 arg1 harg1 x1 0 inb_S8_S1_0) (rd8 arg1 harg1 x1 1 inb_S8_S1_1) (rd8 arg1 harg1 x1 2 inb_S8_S1_2) (rd8 arg1 harg1 x1 3 inb_S8_S1_3) (rd8 arg2 harg2 x2 0 inb_S8_S1_0) (rd8 arg2 harg2 x2 1 inb_S8_S1_1) (rd8 arg2 harg2 x2 2 inb_S8_S1_2) (rd8 arg2 harg2 x2 3 inb_S8_S1_3)
          (View.readAt (Elt F) arg3.view (Rect.unit (s := S4x4x32x64) ![1, 0, 0, 0] S1x4x16x64.size inb_S4x4x32x64_S1x4x16x64_1_0_0_0).toLoadRect (harg3.unread x3))
          (View.readAt (Elt F) arg13.view (Rect.unit (s := S4x512x1152) ![1, 0, 0] S1x256x1152.size inb_S4x512x1152_S1x256x1152_1_0_0).toLoadRect (scr (c := c) arg13 g0 (srcRd (c := c) (Memref.whole main_v1) fh0 (k0_off1 (rd4 arg0 harg0 x0 0 inb_S4_S1_0)) (k0_off1_inb _ k0_hw1)) (srcRd (c := c) (Memref.whole main_v1) fh0 (k0_off2 (rd4 arg0 harg0 x0 1 inb_S4_S1_1)) (k0_off2_inb _ k0_hw2)) (srcRd (c := c) (Memref.whole main_v1) fh0 (k0_off3 (rd4 arg0 harg0 x0 2 inb_S4_S1_2)) (k0_off3_inb _ k0_hw3)) (srcRd (c := c) (Memref.whole main_v1) fh0 (k0_off4 (rd4 arg0 harg0 x0 3 inb_S4_S1_3)) (k0_off4_inb _ k0_hw4))))
          (View.readAt (Elt F) arg14.view (Rect.unit (s := S4x512x1152) ![1, 0, 0] S1x256x1152.size inb_S4x512x1152_S1x256x1152_1_0_0).toLoadRect (scr (c := c) arg14 g1 (srcRd (c := c) (Memref.whole main_v3) fh1 (k0_off1 (rd4 arg0 harg0 x0 0 inb_S4_S1_0)) (k0_off1_inb _ k0_hw1)) (srcRd (c := c) (Memref.whole main_v3) fh1 (k0_off2 (rd4 arg0 harg0 x0 1 inb_S4_S1_1)) (k0_off2_inb _ k0_hw2)) (srcRd (c := c) (Memref.whole main_v3) fh1 (k0_off3 (rd4 arg0 harg0 x0 2 inb_S4_S1_2)) (k0_off3_inb _ k0_hw3)) (srcRd (c := c) (Memref.whole main_v3) fh1 (k0_off4 (rd4 arg0 harg0 x0 3 inb_S4_S1_3)) (k0_off4_inb _ k0_hw4))))
          (codes2 (rd8 arg1 harg1 x1 0 inb_S8_S1_0) (rd8 arg1 harg1 x1 1 inb_S8_S1_1) (rd8 arg1 harg1 x1 2 inb_S8_S1_2) (rd8 arg1 harg1 x1 3 inb_S8_S1_3) (rd8 arg1 harg1 x1 4 inb_S8_S1_4) (rd8 arg1 harg1 x1 5 inb_S8_S1_5) (rd8 arg1 harg1 x1 6 inb_S8_S1_6) (rd8 arg1 harg1 x1 7 inb_S8_S1_7) (View.readAt (Elt F) arg4.view (Rect.unit (s := S4x4x8x64) ![0, 0, 0, 0] S4x4x8x64.size inb_S4x4x8x64_S4x4x8x64_0_0_0_0).toLoadRect (harg4.unread x4)))
          (codes2 (rd8 arg2 harg2 x2 0 inb_S8_S1_0) (rd8 arg2 harg2 x2 1 inb_S8_S1_1) (rd8 arg2 harg2 x2 2 inb_S8_S1_2) (rd8 arg2 harg2 x2 3 inb_S8_S1_3) (rd8 arg2 harg2 x2 4 inb_S8_S1_4) (rd8 arg2 harg2 x2 5 inb_S8_S1_5) (rd8 arg2 harg2 x2 6 inb_S8_S1_6) (rd8 arg2 harg2 x2 7 inb_S8_S1_7) (View.readAt (Elt F) arg5.view (Rect.unit (s := S4x4x8x64) ![0, 0, 0, 0] S4x4x8x64.size inb_S4x4x8x64_S4x4x8x64_0_0_0_0).toLoadRect (harg5.unread x5)))⟩,
      ⟨Rect.unit (s := S4x4x32x64) ![0, 0, 16, 0] S1x4x16x64.size inb_S4x4x32x64_S1x4x16x64_0_0_16_0,
        blk 0#32 4#32 (startW (rd4 arg0 harg0 x0 0 inb_S4_S1_0)) (rd4 arg0 harg0 x0 0 inb_S4_S1_0) (rd8 arg1 harg1 x1 4 inb_S8_S1_4) (rd8 arg1 harg1 x1 5 inb_S8_S1_5) (rd8 arg1 harg1 x1 6 inb_S8_S1_6) (rd8 arg1 harg1 x1 7 inb_S8_S1_7) (rd8 arg2 harg2 x2 4 inb_S8_S1_4) (rd8 arg2 harg2 x2 5 inb_S8_S1_5) (rd8 arg2 harg2 x2 6 inb_S8_S1_6) (rd8 arg2 harg2 x2 7 inb_S8_S1_7)
          (View.readAt (Elt F) arg3.view (Rect.unit (s := S4x4x32x64) ![0, 0, 16, 0] S1x4x16x64.size inb_S4x4x32x64_S1x4x16x64_0_0_16_0).toLoadRect (harg3.unread x3))
          (View.readAt (Elt F) arg13.view (Rect.unit (s := S4x512x1152) ![0, 256, 0] S1x256x1152.size inb_S4x512x1152_S1x256x1152_0_256_0).toLoadRect (scr (c := c) arg13 g0 (srcRd (c := c) (Memref.whole main_v1) fh0 (k0_off1 (rd4 arg0 harg0 x0 0 inb_S4_S1_0)) (k0_off1_inb _ k0_hw1)) (srcRd (c := c) (Memref.whole main_v1) fh0 (k0_off2 (rd4 arg0 harg0 x0 1 inb_S4_S1_1)) (k0_off2_inb _ k0_hw2)) (srcRd (c := c) (Memref.whole main_v1) fh0 (k0_off3 (rd4 arg0 harg0 x0 2 inb_S4_S1_2)) (k0_off3_inb _ k0_hw3)) (srcRd (c := c) (Memref.whole main_v1) fh0 (k0_off4 (rd4 arg0 harg0 x0 3 inb_S4_S1_3)) (k0_off4_inb _ k0_hw4))))
          (View.readAt (Elt F) arg14.view (Rect.unit (s := S4x512x1152) ![0, 256, 0] S1x256x1152.size inb_S4x512x1152_S1x256x1152_0_256_0).toLoadRect (scr (c := c) arg14 g1 (srcRd (c := c) (Memref.whole main_v3) fh1 (k0_off1 (rd4 arg0 harg0 x0 0 inb_S4_S1_0)) (k0_off1_inb _ k0_hw1)) (srcRd (c := c) (Memref.whole main_v3) fh1 (k0_off2 (rd4 arg0 harg0 x0 1 inb_S4_S1_1)) (k0_off2_inb _ k0_hw2)) (srcRd (c := c) (Memref.whole main_v3) fh1 (k0_off3 (rd4 arg0 harg0 x0 2 inb_S4_S1_2)) (k0_off3_inb _ k0_hw3)) (srcRd (c := c) (Memref.whole main_v3) fh1 (k0_off4 (rd4 arg0 harg0 x0 3 inb_S4_S1_3)) (k0_off4_inb _ k0_hw4))))
          (codes2 (rd8 arg1 harg1 x1 0 inb_S8_S1_0) (rd8 arg1 harg1 x1 1 inb_S8_S1_1) (rd8 arg1 harg1 x1 2 inb_S8_S1_2) (rd8 arg1 harg1 x1 3 inb_S8_S1_3) (rd8 arg1 harg1 x1 4 inb_S8_S1_4) (rd8 arg1 harg1 x1 5 inb_S8_S1_5) (rd8 arg1 harg1 x1 6 inb_S8_S1_6) (rd8 arg1 harg1 x1 7 inb_S8_S1_7) (View.readAt (Elt F) arg4.view (Rect.unit (s := S4x4x8x64) ![0, 0, 0, 0] S4x4x8x64.size inb_S4x4x8x64_S4x4x8x64_0_0_0_0).toLoadRect (harg4.unread x4)))
          (codes2 (rd8 arg2 harg2 x2 0 inb_S8_S1_0) (rd8 arg2 harg2 x2 1 inb_S8_S1_1) (rd8 arg2 harg2 x2 2 inb_S8_S1_2) (rd8 arg2 harg2 x2 3 inb_S8_S1_3) (rd8 arg2 harg2 x2 4 inb_S8_S1_4) (rd8 arg2 harg2 x2 5 inb_S8_S1_5) (rd8 arg2 harg2 x2 6 inb_S8_S1_6) (rd8 arg2 harg2 x2 7 inb_S8_S1_7) (View.readAt (Elt F) arg5.view (Rect.unit (s := S4x4x8x64) ![0, 0, 0, 0] S4x4x8x64.size inb_S4x4x8x64_S4x4x8x64_0_0_0_0).toLoadRect (harg5.unread x5)))⟩,
      ⟨Rect.unit (s := S4x4x32x64) ![0, 0, 0, 0] S1x4x16x64.size inb_S4x4x32x64_S1x4x16x64_0_0_0_0,
        blk 0#32 0#32 (startW (rd4 arg0 harg0 x0 0 inb_S4_S1_0)) (rd4 arg0 harg0 x0 0 inb_S4_S1_0) (rd8 arg1 harg1 x1 0 inb_S8_S1_0) (rd8 arg1 harg1 x1 1 inb_S8_S1_1) (rd8 arg1 harg1 x1 2 inb_S8_S1_2) (rd8 arg1 harg1 x1 3 inb_S8_S1_3) (rd8 arg2 harg2 x2 0 inb_S8_S1_0) (rd8 arg2 harg2 x2 1 inb_S8_S1_1) (rd8 arg2 harg2 x2 2 inb_S8_S1_2) (rd8 arg2 harg2 x2 3 inb_S8_S1_3)
          (View.readAt (Elt F) arg3.view (Rect.unit (s := S4x4x32x64) ![0, 0, 0, 0] S1x4x16x64.size inb_S4x4x32x64_S1x4x16x64_0_0_0_0).toLoadRect (harg3.unread x3))
          (View.readAt (Elt F) arg13.view (Rect.unit (s := S4x512x1152) ![0, 0, 0] S1x256x1152.size inb_S4x512x1152_S1x256x1152_0_0_0).toLoadRect (scr (c := c) arg13 g0 (srcRd (c := c) (Memref.whole main_v1) fh0 (k0_off1 (rd4 arg0 harg0 x0 0 inb_S4_S1_0)) (k0_off1_inb _ k0_hw1)) (srcRd (c := c) (Memref.whole main_v1) fh0 (k0_off2 (rd4 arg0 harg0 x0 1 inb_S4_S1_1)) (k0_off2_inb _ k0_hw2)) (srcRd (c := c) (Memref.whole main_v1) fh0 (k0_off3 (rd4 arg0 harg0 x0 2 inb_S4_S1_2)) (k0_off3_inb _ k0_hw3)) (srcRd (c := c) (Memref.whole main_v1) fh0 (k0_off4 (rd4 arg0 harg0 x0 3 inb_S4_S1_3)) (k0_off4_inb _ k0_hw4))))
          (View.readAt (Elt F) arg14.view (Rect.unit (s := S4x512x1152) ![0, 0, 0] S1x256x1152.size inb_S4x512x1152_S1x256x1152_0_0_0).toLoadRect (scr (c := c) arg14 g1 (srcRd (c := c) (Memref.whole main_v3) fh1 (k0_off1 (rd4 arg0 harg0 x0 0 inb_S4_S1_0)) (k0_off1_inb _ k0_hw1)) (srcRd (c := c) (Memref.whole main_v3) fh1 (k0_off2 (rd4 arg0 harg0 x0 1 inb_S4_S1_1)) (k0_off2_inb _ k0_hw2)) (srcRd (c := c) (Memref.whole main_v3) fh1 (k0_off3 (rd4 arg0 harg0 x0 2 inb_S4_S1_2)) (k0_off3_inb _ k0_hw3)) (srcRd (c := c) (Memref.whole main_v3) fh1 (k0_off4 (rd4 arg0 harg0 x0 3 inb_S4_S1_3)) (k0_off4_inb _ k0_hw4))))
          (codes2 (rd8 arg1 harg1 x1 0 inb_S8_S1_0) (rd8 arg1 harg1 x1 1 inb_S8_S1_1) (rd8 arg1 harg1 x1 2 inb_S8_S1_2) (rd8 arg1 harg1 x1 3 inb_S8_S1_3) (rd8 arg1 harg1 x1 4 inb_S8_S1_4) (rd8 arg1 harg1 x1 5 inb_S8_S1_5) (rd8 arg1 harg1 x1 6 inb_S8_S1_6) (rd8 arg1 harg1 x1 7 inb_S8_S1_7) (View.readAt (Elt F) arg4.view (Rect.unit (s := S4x4x8x64) ![0, 0, 0, 0] S4x4x8x64.size inb_S4x4x8x64_S4x4x8x64_0_0_0_0).toLoadRect (harg4.unread x4)))
          (codes2 (rd8 arg2 harg2 x2 0 inb_S8_S1_0) (rd8 arg2 harg2 x2 1 inb_S8_S1_1) (rd8 arg2 harg2 x2 2 inb_S8_S1_2) (rd8 arg2 harg2 x2 3 inb_S8_S1_3) (rd8 arg2 harg2 x2 4 inb_S8_S1_4) (rd8 arg2 harg2 x2 5 inb_S8_S1_5) (rd8 arg2 harg2 x2 6 inb_S8_S1_6) (rd8 arg2 harg2 x2 7 inb_S8_S1_7) (View.readAt (Elt F) arg5.view (Rect.unit (s := S4x4x8x64) ![0, 0, 0, 0] S4x4x8x64.size inb_S4x4x8x64_S4x4x8x64_0_0_0_0).toLoadRect (harg5.unread x5)))⟩] := rfl

end

end Cert.KernelIdeal.Hand

end

end
-- ==== Proof.KI.Loads.lean ====
module

public import proofs.«01_k».proof.Proof.KI.Pieces
public import Idealize.ShloMosaic.Lib.WholeRead
public import Idealize.ShloMosaic.Lib.ValueLayout

@[expose] public section

set_option maxRecDepth 16384

noncomputable section

/-! What the body loads, as entries of the arrays. -/

namespace Cert.KernelIdeal.Hand

open Cert.KernelIdeal.Gen
open Idealize.ShloMosaic Idealize.ShloMosaic.TcCoe Idealize.SL.Sem Idealize.ShloMosaic.ValueIdx

variable {F : FTy → Type} [FloatOps F] [Named F]

/-- A window of a sequence's cache: 256 rows from row `r0`, 1152 positions from position `a`. -/
def cacheRd (A : Vec F S4x512x131072 .fp8e4m3) (b r0 a : ℕ) : Vec F S1x256x1152 .fp8e4m3 := fun i =>
  A (ix3 ⟨b % 4, Nat.mod_lt _ (by decide)⟩ ⟨(r0 + (i 1).val) % 512, Nat.mod_lt _ (by decide)⟩
    ⟨(a + (i 2).val) % 131072, Nat.mod_lt _ (by decide)⟩)

/-- The queries of one block: sequence `b`, rows from `c`. -/
def xRd (x : Vec F S4x4x32x64 .bf16) (b c : ℕ) : Vec F S1x4x16x64 .bf16 := fun i =>
  x (ix4 ⟨b % 4, Nat.mod_lt _ (by decide)⟩ ⟨(i 1).val, (i 1).isLt⟩ ⟨(c + (i 2).val) % 32, Nat.mod_lt _ (by decide)⟩
    ⟨(i 3).val, (i 3).isLt⟩)

/-- A scalar read of the sequence lengths is the entry named. -/
theorem rd4_eq (M : Memref sig .tc .smem S4 .i32) (hM : M.IsWhole) (x : Vec F S4 .i32) (i : Fin 4) (h) :
    rd4 M hM x i.val h = x (ix1 i) := by
  unfold rd4
  rw [hM.readAt_unread]
  congr 1
  funext a
  match a with
  | ⟨0, _⟩ => exact Fin.ext (by simp [LoadRect.idx, Rect.toLoadRect, Rect.unit, Shape.Idx.first])

/-- A scalar read of an exponent array is the entry named. -/
theorem rd8_eq (M : Memref sig .tc .smem S8 .i32) (hM : M.IsWhole) (x : Vec F S8 .i32) (i : Fin 8) (h) :
    rd8 M hM x i.val h = x (ix1 i) := by
  unfold rd8
  rw [hM.readAt_unread]
  congr 1
  funext a
  match a with
  | ⟨0, _⟩ => exact Fin.ext (by simp [LoadRect.idx, Rect.toLoadRect, Rect.unit, Shape.Idx.first])

/-- A load of a whole buffer of new keys or values is that buffer. -/
theorem whole4_eq (M : Memref sig .tc .vmem S4x4x8x64 .bf16) (hM : M.IsWhole) (x : Vec F S4x4x8x64 .bf16) (h) :
    View.readAt (Elt F) M.view (Rect.unit (s := S4x4x8x64) ![0, 0, 0, 0] S4x4x8x64.size h).toLoadRect (hM.unread x) = x := by
  funext i
  rw [hM.readAt_unread]
  congr 1
  funext a
  fin_cases a <;> exact Fin.ext (by simp [LoadRect.idx, Rect.toLoadRect, Rect.unit])

/-- The load of one block of queries, entry by entry. -/
theorem xRd_eq (M : Memref sig .tc .vmem S4x4x32x64 .bf16) (hM : M.IsWhole) (x : Vec F S4x4x32x64 .bf16) (b c : ℕ)
    (hb : b < 4) (hc : c + 16 ≤ 32) (h) :
    View.readAt (Elt F) M.view (Rect.unit (s := S4x4x32x64) ![b, 0, c, 0] S1x4x16x64.size h).toLoadRect (hM.unread x)
      = xRd x b c := by
  funext i
  rw [hM.readAt_unread]
  unfold xRd
  have h0 : (i 0).val < 1 := (i 0).isLt
  have h2 : (i 2).val < 16 := (i 2).isLt
  congr 1
  funext a
  fin_cases a <;> exact Fin.ext (by simp [LoadRect.idx, Rect.toLoadRect, Rect.unit] <;> omega)

/-- The scratch after the four copies, as a list of writes. -/
theorem scr_eq {c : Dev nD} (M : Memref sig .tc .vmem S4x512x1152 .fp8e4m3) (f : Buf (Elt F) (M.view.loc (c : Thread nD τ)))
    (d0 d1 d2 d3 : Vec F S512x1152 .fp8e4m3) :
    scr M f d0 d1 d2 d3 = M.view.writes (Elt F) f
      [⟨Rect.unit (s := S4x512x1152) ![3, 0, 0] S1x512x1152.size inb_S4x512x1152_S1x512x1152_3_0_0,
          fun x => d3 ((Shape.reshapeEquiv squeezes_S1x512x1152_S512x1152.numel_eq).symm x)⟩,
        ⟨Rect.unit (s := S4x512x1152) ![2, 0, 0] S1x512x1152.size inb_S4x512x1152_S1x512x1152_2_0_0,
          fun x => d2 ((Shape.reshapeEquiv squeezes_S1x512x1152_S512x1152.numel_eq).symm x)⟩,
        ⟨Rect.unit (s := S4x512x1152) ![1, 0, 0] S1x512x1152.size inb_S4x512x1152_S1x512x1152_1_0_0,
          fun x => d1 ((Shape.reshapeEquiv squeezes_S1x512x1152_S512x1152.numel_eq).symm x)⟩,
        ⟨Rect.unit (s := S4x512x1152) ![0, 0, 0] S1x512x1152.size inb_S4x512x1152_S1x512x1152_0_0_0,
          fun x => d0 ((Shape.reshapeEquiv squeezes_S1x512x1152_S512x1152.numel_eq).symm x)⟩] := by
  unfold scr View.writes View.writes View.writes View.writes View.writes
  rw [← View.write_reshape_univ, ← View.write_reshape_univ, ← View.write_reshape_univ, ← View.write_reshape_univ]

/-- Dropping the leading unit axis of a window keeps the other two coordinates. -/
theorem sq_symm (r : Fin 512) (p : Fin 1152) :
    (Shape.reshapeEquiv squeezes_S1x512x1152_S512x1152.numel_eq).symm (ix3 (0 : Fin 1) r p : S1x512x1152.Idx) = (ix2 r p : S512x1152.Idx) := by
  rw [Equiv.symm_apply_eq]
  exact (reshapeEquiv_ix2_1ab _ _ _).symm

/-- A copied window read back through the scratch. -/
theorem scr_read {c : Dev nD} (M : Memref sig .tc .vmem S4x512x1152 .fp8e4m3) (f : Buf (Elt F) (M.view.loc (c : Thread nD τ)))
    (d : Fin 4 → Vec F S512x1152 .fp8e4m3) (b : Fin 4) (r : Fin 512) (p : Fin 1152) :
    M.view.read (Elt F) (scr M f (d 0) (d 1) (d 2) (d 3)) (ix3 b r p : S4x512x1152.Idx) = d b (ix2 r p) := by
  rw [scr_eq]
  fin_cases b
  · rw [View.read_writes_cons_miss_of_axis _ _ _ _ _ (0 : Fin 3) 3 1 rfl rfl rfl (Or.inl (by simp)),
      View.read_writes_cons_miss_of_axis _ _ _ _ _ (0 : Fin 3) 2 1 rfl rfl rfl (Or.inl (by simp)),
      View.read_writes_cons_miss_of_axis _ _ _ _ _ (0 : Fin 3) 1 1 rfl rfl rfl (Or.inl (by simp)),
      View.read_writes_cons_hit_of_coords _ _ _ _ _ (ix3 (0 : Fin 1) r p : S1x512x1152.Idx), sq_symm]
    · rfl
    · intro a; fin_cases a <;> simp [Rect.unit]
  · rw [View.read_writes_cons_miss_of_axis _ _ _ _ _ (0 : Fin 3) 3 1 rfl rfl rfl (Or.inl (by simp)),
      View.read_writes_cons_miss_of_axis _ _ _ _ _ (0 : Fin 3) 2 1 rfl rfl rfl (Or.inl (by simp)),
      View.read_writes_cons_hit_of_coords _ _ _ _ _ (ix3 (0 : Fin 1) r p : S1x512x1152.Idx), sq_symm]
    · rfl
    · intro a; fin_cases a <;> simp [Rect.unit]
  · rw [View.read_writes_cons_miss_of_axis _ _ _ _ _ (0 : Fin 3) 3 1 rfl rfl rfl (Or.inl (by simp)),
      View.read_writes_cons_hit_of_coords _ _ _ _ _ (ix3 (0 : Fin 1) r p : S1x512x1152.Idx), sq_symm]
    · rfl
    · intro a; fin_cases a <;> simp [Rect.unit]
  · rw [View.read_writes_cons_hit_of_coords _ _ _ _ _ (ix3 (0 : Fin 1) r p : S1x512x1152.Idx), sq_symm]
    · rfl
    · intro a; fin_cases a <;> simp [Rect.unit]

/-- The window one copy reads, entry by entry. -/
theorem srcRd_eq {c : Dev nD} (M : Memref sig .tc .hbm S4x512x131072 .fp8e4m3)
    (A : Buf (Elt F) (M.view.loc (c : Thread nD τ))) (b a : ℕ) (o : Fin 3 → ℕ) (ho : o = ![b, 0, a]) (h) (r : Fin 512) (p : Fin 1152)
    (hb : b < 4) (hp : a + p.val < 131072) :
    srcRd M A o h (ix2 r p) = M.view.read (Elt F) A (ix3 ⟨b, hb⟩ r ⟨a + p.val, hp⟩ : S4x512x131072.Idx) := by
  subst ho
  unfold srcRd
  show M.view.read (Elt F) A ((Rect.unit (s := S4x512x131072) ![b, 0, a] S1x512x1152.size h).emb (Shape.reshapeEquiv squeezes_S1x512x1152_S512x1152.numel_eq (ix2 r p : S512x1152.Idx))) = _
  rw [reshapeEquiv_ix2_1ab]
  congr 1
  funext x
  fin_cases x <;> exact Fin.ext (by simp [Rect.unit, Rect.emb])

/-- The window's start lies inside the cache. -/
theorem startW_le (l : BitVec 32) : (startW l).toNat ≤ 129920 := by
  have h : (startW l).toInt ≤ 129920 ∧ 0 ≤ (startW l).toInt := by
    unfold startW
    simp only [Scalar.minsi, Scalar.maxsi, IntOp.minsi, IntOp.maxsi, BitVec.slt_iff_toInt_lt]
    have e1 : (129920#32).toInt = 129920 := by decide
    have e0 : (0#32).toInt = 0 := by decide
    split <;> split <;> omega
  have := BitVec.toInt_eq_toNat_cond (startW l)
  have := (startW l).isLt
  split at * <;> omega

/-- A block's view of the cache through the scratch. -/
theorem cacheRd_eq {c : Dev nD} (M : Memref sig .tc .vmem S4x512x1152 .fp8e4m3) (f : Buf (Elt F) (M.view.loc (c : Thread nD τ)))
    (A : Vec F S4x512x131072 .fp8e4m3) (d : Fin 4 → Vec F S512x1152 .fp8e4m3) (a : Fin 4 → ℕ)
    (hd : ∀ b r p (h : a b + p.val < 131072), d b (ix2 r p) = A (ix3 b r ⟨a b + p.val, h⟩))
    (b : Fin 4) (r0 : ℕ) (hr : r0 + 256 ≤ 512) (ha : a b ≤ 129920) (h) :
    View.readAt (Elt F) M.view (Rect.unit (s := S4x512x1152) ![b.val, r0, 0] S1x256x1152.size h).toLoadRect
      (scr M f (d 0) (d 1) (d 2) (d 3)) = cacheRd A b.val r0 (a b) := by
  funext i
  have h0 : (i 0).val < 1 := (i 0).isLt
  have h1 : (i 1).val < 256 := (i 1).isLt
  have h2 : (i 2).val < 1152 := (i 2).isLt
  have e : (Rect.unit (s := S4x512x1152) ![b.val, r0, 0] S1x256x1152.size h).toLoadRect.idx i
      = (ix3 b ⟨r0 + (i 1).val, by omega⟩ ⟨(i 2).val, h2⟩ : S4x512x1152.Idx) := by
    funext x
    fin_cases x <;> exact Fin.ext (by simp [LoadRect.idx, Rect.toLoadRect, Rect.unit] <;> omega)
  rw [View.readAt_apply, e, scr_read, hd b _ _ (by simp; omega)]
  unfold cacheRd
  congr 1
  funext x
  match x with
  | ⟨0, _⟩ => exact Fin.ext (Nat.mod_eq_of_lt b.isLt).symm
  | ⟨1, _⟩ => exact Fin.ext (Nat.mod_eq_of_lt (show r0 + (i 1).val < 512 by omega)).symm
  | ⟨2, _⟩ => exact Fin.ext (Nat.mod_eq_of_lt (show a b + (i 2).val < 131072 by omega)).symm

/-- One block of the output: sequence `b`, heads `4 j` to `4 j + 3`. -/
def outBlk (x0 : Vec F S4 .i32) (x1 x2 : Vec F S8 .i32) (x3 : Vec F S4x4x32x64 .bf16) (x4 x5 : Vec F S4x4x8x64 .bf16)
    (A B : Vec F S4x512x131072 .fp8e4m3) (b : Fin 4) (j : Fin 2) : FVec F S1x4x16x64 .bf16 :=
  blk (BitVec.ofNat 32 b.val) (BitVec.ofNat 32 (4 * j.val)) (startW (x0 (ix1 b))) (x0 (ix1 b))
    (x1 (ix1 ⟨4 * j.val + 0, by omega⟩)) (x1 (ix1 ⟨4 * j.val + 1, by omega⟩)) (x1 (ix1 ⟨4 * j.val + 2, by omega⟩)) (x1 (ix1 ⟨4 * j.val + 3, by omega⟩))
    (x2 (ix1 ⟨4 * j.val + 0, by omega⟩)) (x2 (ix1 ⟨4 * j.val + 1, by omega⟩)) (x2 (ix1 ⟨4 * j.val + 2, by omega⟩)) (x2 (ix1 ⟨4 * j.val + 3, by omega⟩))
    (xRd x3 b.val (16 * j.val)) (cacheRd A b.val (256 * j.val) (startW (x0 (ix1 b))).toNat)
    (cacheRd B b.val (256 * j.val) (startW (x0 (ix1 b))).toNat)
    (codes2 (x1 (ix1 0)) (x1 (ix1 1)) (x1 (ix1 2)) (x1 (ix1 3)) (x1 (ix1 4)) (x1 (ix1 5)) (x1 (ix1 6)) (x1 (ix1 7)) x4)
    (codes2 (x2 (ix1 0)) (x2 (ix1 1)) (x2 (ix1 2)) (x2 (ix1 3)) (x2 (ix1 4)) (x2 (ix1 5)) (x2 (ix1 6)) (x2 (ix1 7)) x5)

/-- The codes written. -/
def outCodes (x1 : Vec F S8 .i32) (x4 : Vec F S4x4x8x64 .bf16) : FVec F S4x4x8x64 .fp8e4m3 :=
  codes (x1 (ix1 0)) (x1 (ix1 1)) (x1 (ix1 2)) (x1 (ix1 3)) (x1 (ix1 4)) (x1 (ix1 5)) (x1 (ix1 6)) (x1 (ix1 7)) x4

/-- The scales written. -/
def outScale (x1 : Vec F S8 .i32) : FVec F S1x8 .f32 :=
  scaleRow (x1 (ix1 0)) (x1 (ix1 1)) (x1 (ix1 2)) (x1 (ix1 3)) (x1 (ix1 4)) (x1 (ix1 5)) (x1 (ix1 6)) (x1 (ix1 7))

/-- The eight stores of the output. -/
def outPieces (x0 : Vec F S4 .i32) (x1 x2 : Vec F S8 .i32) (x3 : Vec F S4x4x32x64 .bf16) (x4 x5 : Vec F S4x4x8x64 .bf16)
    (A B : Vec F S4x512x131072 .fp8e4m3) : List (Piece6 F) :=
  [⟨Rect.unit (s := S4x4x32x64) ![3, 0, 16, 0] S1x4x16x64.size inb_S4x4x32x64_S1x4x16x64_3_0_16_0, outBlk x0 x1 x2 x3 x4 x5 A B 3 1⟩,
    ⟨Rect.unit (s := S4x4x32x64) ![3, 0, 0, 0] S1x4x16x64.size inb_S4x4x32x64_S1x4x16x64_3_0_0_0, outBlk x0 x1 x2 x3 x4 x5 A B 3 0⟩,
    ⟨Rect.unit (s := S4x4x32x64) ![2, 0, 16, 0] S1x4x16x64.size inb_S4x4x32x64_S1x4x16x64_2_0_16_0, outBlk x0 x1 x2 x3 x4 x5 A B 2 1⟩,
    ⟨Rect.unit (s := S4x4x32x64) ![2, 0, 0, 0] S1x4x16x64.size inb_S4x4x32x64_S1x4x16x64_2_0_0_0, outBlk x0 x1 x2 x3 x4 x5 A B 2 0⟩,
    ⟨Rect.unit (s := S4x4x32x64) ![1, 0, 16, 0] S1x4x16x64.size inb_S4x4x32x64_S1x4x16x64_1_0_16_0, outBlk x0 x1 x2 x3 x4 x5 A B 1 1⟩,
    ⟨Rect.unit (s := S4x4x32x64) ![1, 0, 0, 0] S1x4x16x64.size inb_S4x4x32x64_S1x4x16x64_1_0_0_0, outBlk x0 x1 x2 x3 x4 x5 A B 1 0⟩,
    ⟨Rect.unit (s := S4x4x32x64) ![0, 0, 16, 0] S1x4x16x64.size inb_S4x4x32x64_S1x4x16x64_0_0_16_0, outBlk x0 x1 x2 x3 x4 x5 A B 0 1⟩,
    ⟨Rect.unit (s := S4x4x32x64) ![0, 0, 0, 0] S1x4x16x64.size inb_S4x4x32x64_S1x4x16x64_0_0_0_0, outBlk x0 x1 x2 x3 x4 x5 A B 0 0⟩]

section
variable (c : Dev nD) (arg0 : Memref sig .tc .smem S4 .i32) (harg0 : arg0.IsWhole) (arg1 : Memref sig .tc .smem S8 .i32) (harg1 : arg1.IsWhole) (arg2 : Memref sig .tc .smem S8 .i32) (harg2 : arg2.IsWhole) (arg3 : Memref sig .tc .vmem S4x4x32x64 .bf16) (harg3 : arg3.IsWhole) (arg4 : Memref sig .tc .vmem S4x4x8x64 .bf16) (harg4 : arg4.IsWhole) (arg5 : Memref sig .tc .vmem S4x4x8x64 .bf16) (harg5 : arg5.IsWhole) (arg8 : Memref sig .tc .vmem S4x4x32x64 .bf16) (harg8 : arg8.IsWhole) (arg9 : Memref sig .tc .vmem S4x4x8x64 .fp8e4m3) (harg9 : arg9.IsWhole) (arg10 : Memref sig .tc .vmem S1x8 .f32) (harg10 : arg10.IsWhole) (arg11 : Memref sig .tc .vmem S4x4x8x64 .fp8e4m3) (harg11 : arg11.IsWhole) (arg12 : Memref sig .tc .vmem S1x8 .f32) (harg12 : arg12.IsWhole) (arg13 : Memref sig .tc .vmem S4x512x1152 .fp8e4m3) (harg13 : arg13.IsWhole) (arg14 : Memref sig .tc .vmem S4x512x1152 .fp8e4m3) (harg14 : arg14.IsWhole)
    (x0 : Vec F S4 .i32) (x1 : Vec F S8 .i32) (x2 : Vec F S8 .i32) (x3 : Vec F S4x4x32x64 .bf16) (x4 : Vec F S4x4x8x64 .bf16) (x5 : Vec F S4x4x8x64 .bf16) (fh0 : HbBuf0 (F := F) c hbM0_0) (fh1 : HbBuf0 (F := F) c hbM0_1) (k0_hw1 : k0_chk1 (arg0.view.readAt (Elt F) (Rect.unit (s := S4) ![0] S1.size inb_S4_S1_0).toLoadRect (harg0.unread x0) (Shape.Idx.first (numel1_S1.symm ▸ Nat.one_pos)))) (k0_hw2 : k0_chk2 (arg0.view.readAt (Elt F) (Rect.unit (s := S4) ![1] S1.size inb_S4_S1_1).toLoadRect (harg0.unread x0) (Shape.Idx.first (numel1_S1.symm ▸ Nat.one_pos)))) (k0_hw3 : k0_chk3 (arg0.view.readAt (Elt F) (Rect.unit (s := S4) ![2] S1.size inb_S4_S1_2).toLoadRect (harg0.unread x0) (Shape.Idx.first (numel1_S1.symm ▸ Nat.one_pos)))) (k0_hw4 : k0_chk4 (arg0.view.readAt (Elt F) (Rect.unit (s := S4) ![3] S1.size inb_S4_S1_3).toLoadRect (harg0.unread x0) (Shape.Idx.first (numel1_S1.symm ▸ Nat.one_pos))))

set_option maxHeartbeats 4000000 in
/-- The eight blocks of the output, as functions of the arrays. -/
theorem clean6 (g0 : Buf (Elt F) (arg13.view.loc (c : Thread nD τ))) (g1 : Buf (Elt F) (arg14.view.loc (c : Thread nD τ))) :
    (bodyRun c arg0 harg0 arg1 harg1 arg2 harg2 arg3 harg3 arg4 harg4 arg5 harg5 arg8 harg8 arg9 harg9 arg10 harg10 arg11 harg11 arg12 harg12 arg13 harg13 arg14 harg14 x0 x1 x2 x3 x4 x5 fh0 fh1 k0_hw1 k0_hw2 k0_hw3 k0_hw4).val.1 g0 g1 = outPieces x0 x1 x2 x3 x4 x5 fh0 fh1 := by
  rw [pieces6]
  have w0 : rd4 arg0 harg0 x0 0 inb_S4_S1_0 = x0 (ix1 0) := rd4_eq arg0 harg0 x0 0 _
  have w1 : rd4 arg0 harg0 x0 1 inb_S4_S1_1 = x0 (ix1 1) := rd4_eq arg0 harg0 x0 1 _
  have w2 : rd4 arg0 harg0 x0 2 inb_S4_S1_2 = x0 (ix1 2) := rd4_eq arg0 harg0 x0 2 _
  have w3 : rd4 arg0 harg0 x0 3 inb_S4_S1_3 = x0 (ix1 3) := rd4_eq arg0 harg0 x0 3 _
  have hA := fun (b : Fin 4) (r0 : ℕ) (hr : r0 + 256 ≤ 512) h => cacheRd_eq (c := c) arg13 g0 fh0
    (fun b => match b with
      | 0 => srcRd (c := c) (Memref.whole main_v1) fh0 (k0_off1 (rd4 arg0 harg0 x0 0 inb_S4_S1_0)) (k0_off1_inb _ k0_hw1)
      | 1 => srcRd (c := c) (Memref.whole main_v1) fh0 (k0_off2 (rd4 arg0 harg0 x0 1 inb_S4_S1_1)) (k0_off2_inb _ k0_hw2)
      | 2 => srcRd (c := c) (Memref.whole main_v1) fh0 (k0_off3 (rd4 arg0 harg0 x0 2 inb_S4_S1_2)) (k0_off3_inb _ k0_hw3)
      | 3 => srcRd (c := c) (Memref.whole main_v1) fh0 (k0_off4 (rd4 arg0 harg0 x0 3 inb_S4_S1_3)) (k0_off4_inb _ k0_hw4))
    (fun b => (startW (x0 (ix1 b))).toNat)
    (by
      intro b r p hp
      fin_cases b
      · exact srcRd_eq (Memref.whole main_v1) fh0 0 _ _ (by rw [show rd4 arg0 harg0 x0 0 inb_S4_S1_0 = x0 (ix1 0) from w0]; rfl) _ r p (by decide) hp
      · exact srcRd_eq (Memref.whole main_v1) fh0 1 _ _ (by rw [show rd4 arg0 harg0 x0 1 inb_S4_S1_1 = x0 (ix1 1) from w1]; rfl) _ r p (by decide) hp
      · exact srcRd_eq (Memref.whole main_v1) fh0 2 _ _ (by rw [show rd4 arg0 harg0 x0 2 inb_S4_S1_2 = x0 (ix1 2) from w2]; rfl) _ r p (by decide) hp
      · exact srcRd_eq (Memref.whole main_v1) fh0 3 _ _ (by rw [show rd4 arg0 harg0 x0 3 inb_S4_S1_3 = x0 (ix1 3) from w3]; rfl) _ r p (by decide) hp)
    b r0 hr (startW_le _) h
  have hB := fun (b : Fin 4) (r0 : ℕ) (hr : r0 + 256 ≤ 512) h => cacheRd_eq (c := c) arg14 g1 fh1
    (fun b => match b with
      | 0 => srcRd (c := c) (Memref.whole main_v3) fh1 (k0_off1 (rd4 arg0 harg0 x0 0 inb_S4_S1_0)) (k0_off1_inb _ k0_hw1)
      | 1 => srcRd (c := c) (Memref.whole main_v3) fh1 (k0_off2 (rd4 arg0 harg0 x0 1 inb_S4_S1_1)) (k0_off2_inb _ k0_hw2)
      | 2 => srcRd (c := c) (Memref.whole main_v3) fh1 (k0_off3 (rd4 arg0 harg0 x0 2 inb_S4_S1_2)) (k0_off3_inb _ k0_hw3)
      | 3 => srcRd (c := c) (Memref.whole main_v3) fh1 (k0_off4 (rd4 arg0 harg0 x0 3 inb_S4_S1_3)) (k0_off4_inb _ k0_hw4))
    (fun b => (startW (x0 (ix1 b))).toNat)
    (by
      intro b r p hp
      fin_cases b
      · exact srcRd_eq (Memref.whole main_v3) fh1 0 _ _ (by rw [show rd4 arg0 harg0 x0 0 inb_S4_S1_0 = x0 (ix1 0) from w0]; rfl) _ r p (by decide) hp
      · exact srcRd_eq (Memref.whole main_v3) fh1 1 _ _ (by rw [show rd4 arg0 harg0 x0 1 inb_S4_S1_1 = x0 (ix1 1) from w1]; rfl) _ r p (by decide) hp
      · exact srcRd_eq (Memref.whole main_v3) fh1 2 _ _ (by rw [show rd4 arg0 harg0 x0 2 inb_S4_S1_2 = x0 (ix1 2) from w2]; rfl) _ r p (by decide) hp
      · exact srcRd_eq (Memref.whole main_v3) fh1 3 _ _ (by rw [show rd4 arg0 harg0 x0 3 inb_S4_S1_3 = x0 (ix1 3) from w3]; rfl) _ r p (by decide) hp)
    b r0 hr (startW_le _) h
  have k0 : rd8 arg1 harg1 x1 0 inb_S8_S1_0 = x1 (ix1 0) := rd8_eq arg1 harg1 x1 0 _
  have v0 : rd8 arg2 harg2 x2 0 inb_S8_S1_0 = x2 (ix1 0) := rd8_eq arg2 harg2 x2 0 _
  have k1 : rd8 arg1 harg1 x1 1 inb_S8_S1_1 = x1 (ix1 1) := rd8_eq arg1 harg1 x1 1 _
  have v1 : rd8 arg2 harg2 x2 1 inb_S8_S1_1 = x2 (ix1 1) := rd8_eq arg2 harg2 x2 1 _
  have k2 : rd8 arg1 harg1 x1 2 inb_S8_S1_2 = x1 (ix1 2) := rd8_eq arg1 harg1 x1 2 _
  have v2 : rd8 arg2 harg2 x2 2 inb_S8_S1_2 = x2 (ix1 2) := rd8_eq arg2 harg2 x2 2 _
  have k3 : rd8 arg1 harg1 x1 3 inb_S8_S1_3 = x1 (ix1 3) := rd8_eq arg1 harg1 x1 3 _
  have v3 : rd8 arg2 harg2 x2 3 inb_S8_S1_3 = x2 (ix1 3) := rd8_eq arg2 harg2 x2 3 _
  have k4 : rd8 arg1 harg1 x1 4 inb_S8_S1_4 = x1 (ix1 4) := rd8_eq arg1 harg1 x1 4 _
  have v4 : rd8 arg2 harg2 x2 4 inb_S8_S1_4 = x2 (ix1 4) := rd8_eq arg2 harg2 x2 4 _
  have k5 : rd8 arg1 harg1 x1 5 inb_S8_S1_5 = x1 (ix1 5) := rd8_eq arg1 harg1 x1 5 _
  have v5 : rd8 arg2 harg2 x2 5 inb_S8_S1_5 = x2 (ix1 5) := rd8_eq arg2 harg2 x2 5 _
  have k6 : rd8 arg1 harg1 x1 6 inb_S8_S1_6 = x1 (ix1 6) := rd8_eq arg1 harg1 x1 6 _
  have v6 : rd8 arg2 harg2 x2 6 inb_S8_S1_6 = x2 (ix1 6) := rd8_eq arg2 harg2 x2 6 _
  have k7 : rd8 arg1 harg1 x1 7 inb_S8_S1_7 = x1 (ix1 7) := rd8_eq arg1 harg1 x1 7 _
  have v7 : rd8 arg2 harg2 x2 7 inb_S8_S1_7 = x2 (ix1 7) := rd8_eq arg2 harg2 x2 7 _
  have a31 : View.readAt (Elt F) arg13.view (Rect.unit (s := S4x512x1152) ![3, 256, 0] S1x256x1152.size inb_S4x512x1152_S1x256x1152_3_256_0).toLoadRect (scr (c := c) arg13 g0 (srcRd (c := c) (Memref.whole main_v1) fh0 (k0_off1 (rd4 arg0 harg0 x0 0 inb_S4_S1_0)) (k0_off1_inb _ k0_hw1)) (srcRd (c := c) (Memref.whole main_v1) fh0 (k0_off2 (rd4 arg0 harg0 x0 1 inb_S4_S1_1)) (k0_off2_inb _ k0_hw2)) (srcRd (c := c) (Memref.whole main_v1) fh0 (k0_off3 (rd4 arg0 harg0 x0 2 inb_S4_S1_2)) (k0_off3_inb _ k0_hw3)) (srcRd (c := c) (Memref.whole main_v1) fh0 (k0_off4 (rd4 arg0 harg0 x0 3 inb_S4_S1_3)) (k0_off4_inb _ k0_hw4))) = cacheRd fh0 3 256 (startW (x0 (ix1 3))).toNat := hA 3 256 (by decide) _
  have b31 : View.readAt (Elt F) arg14.view (Rect.unit (s := S4x512x1152) ![3, 256, 0] S1x256x1152.size inb_S4x512x1152_S1x256x1152_3_256_0).toLoadRect (scr (c := c) arg14 g1 (srcRd (c := c) (Memref.whole main_v3) fh1 (k0_off1 (rd4 arg0 harg0 x0 0 inb_S4_S1_0)) (k0_off1_inb _ k0_hw1)) (srcRd (c := c) (Memref.whole main_v3) fh1 (k0_off2 (rd4 arg0 harg0 x0 1 inb_S4_S1_1)) (k0_off2_inb _ k0_hw2)) (srcRd (c := c) (Memref.whole main_v3) fh1 (k0_off3 (rd4 arg0 harg0 x0 2 inb_S4_S1_2)) (k0_off3_inb _ k0_hw3)) (srcRd (c := c) (Memref.whole main_v3) fh1 (k0_off4 (rd4 arg0 harg0 x0 3 inb_S4_S1_3)) (k0_off4_inb _ k0_hw4))) = cacheRd fh1 3 256 (startW (x0 (ix1 3))).toNat := hB 3 256 (by decide) _
  have p31 : blk 3#32 4#32 (startW (rd4 arg0 harg0 x0 3 inb_S4_S1_3)) (rd4 arg0 harg0 x0 3 inb_S4_S1_3) (rd8 arg1 harg1 x1 4 inb_S8_S1_4) (rd8 arg1 harg1 x1 5 inb_S8_S1_5) (rd8 arg1 harg1 x1 6 inb_S8_S1_6) (rd8 arg1 harg1 x1 7 inb_S8_S1_7) (rd8 arg2 harg2 x2 4 inb_S8_S1_4) (rd8 arg2 harg2 x2 5 inb_S8_S1_5) (rd8 arg2 harg2 x2 6 inb_S8_S1_6) (rd8 arg2 harg2 x2 7 inb_S8_S1_7)
          (View.readAt (Elt F) arg3.view (Rect.unit (s := S4x4x32x64) ![3, 0, 16, 0] S1x4x16x64.size inb_S4x4x32x64_S1x4x16x64_3_0_16_0).toLoadRect (harg3.unread x3))
          (View.readAt (Elt F) arg13.view (Rect.unit (s := S4x512x1152) ![3, 256, 0] S1x256x1152.size inb_S4x512x1152_S1x256x1152_3_256_0).toLoadRect (scr (c := c) arg13 g0 (srcRd (c := c) (Memref.whole main_v1) fh0 (k0_off1 (rd4 arg0 harg0 x0 0 inb_S4_S1_0)) (k0_off1_inb _ k0_hw1)) (srcRd (c := c) (Memref.whole main_v1) fh0 (k0_off2 (rd4 arg0 harg0 x0 1 inb_S4_S1_1)) (k0_off2_inb _ k0_hw2)) (srcRd (c := c) (Memref.whole main_v1) fh0 (k0_off3 (rd4 arg0 harg0 x0 2 inb_S4_S1_2)) (k0_off3_inb _ k0_hw3)) (srcRd (c := c) (Memref.whole main_v1) fh0 (k0_off4 (rd4 arg0 harg0 x0 3 inb_S4_S1_3)) (k0_off4_inb _ k0_hw4))))
          (View.readAt (Elt F) arg14.view (Rect.unit (s := S4x512x1152) ![3, 256, 0] S1x256x1152.size inb_S4x512x1152_S1x256x1152_3_256_0).toLoadRect (scr (c := c) arg14 g1 (srcRd (c := c) (Memref.whole main_v3) fh1 (k0_off1 (rd4 arg0 harg0 x0 0 inb_S4_S1_0)) (k0_off1_inb _ k0_hw1)) (srcRd (c := c) (Memref.whole main_v3) fh1 (k0_off2 (rd4 arg0 harg0 x0 1 inb_S4_S1_1)) (k0_off2_inb _ k0_hw2)) (srcRd (c := c) (Memref.whole main_v3) fh1 (k0_off3 (rd4 arg0 harg0 x0 2 inb_S4_S1_2)) (k0_off3_inb _ k0_hw3)) (srcRd (c := c) (Memref.whole main_v3) fh1 (k0_off4 (rd4 arg0 harg0 x0 3 inb_S4_S1_3)) (k0_off4_inb _ k0_hw4))))
          (codes2 (rd8 arg1 harg1 x1 0 inb_S8_S1_0) (rd8 arg1 harg1 x1 1 inb_S8_S1_1) (rd8 arg1 harg1 x1 2 inb_S8_S1_2) (rd8 arg1 harg1 x1 3 inb_S8_S1_3) (rd8 arg1 harg1 x1 4 inb_S8_S1_4) (rd8 arg1 harg1 x1 5 inb_S8_S1_5) (rd8 arg1 harg1 x1 6 inb_S8_S1_6) (rd8 arg1 harg1 x1 7 inb_S8_S1_7) (View.readAt (Elt F) arg4.view (Rect.unit (s := S4x4x8x64) ![0, 0, 0, 0] S4x4x8x64.size inb_S4x4x8x64_S4x4x8x64_0_0_0_0).toLoadRect (harg4.unread x4)))
          (codes2 (rd8 arg2 harg2 x2 0 inb_S8_S1_0) (rd8 arg2 harg2 x2 1 inb_S8_S1_1) (rd8 arg2 harg2 x2 2 inb_S8_S1_2) (rd8 arg2 harg2 x2 3 inb_S8_S1_3) (rd8 arg2 harg2 x2 4 inb_S8_S1_4) (rd8 arg2 harg2 x2 5 inb_S8_S1_5) (rd8 arg2 harg2 x2 6 inb_S8_S1_6) (rd8 arg2 harg2 x2 7 inb_S8_S1_7) (View.readAt (Elt F) arg5.view (Rect.unit (s := S4x4x8x64) ![0, 0, 0, 0] S4x4x8x64.size inb_S4x4x8x64_S4x4x8x64_0_0_0_0).toLoadRect (harg5.unread x5))) = outBlk x0 x1 x2 x3 x4 x5 fh0 fh1 3 1 := by
    rw [a31, b31, xRd_eq arg3 harg3 x3 3 16 (by decide) (by decide), whole4_eq, whole4_eq, w3, k0, v0, k1, v1, k2, v2, k3, v3, k4, v4, k5, v5, k6, v6, k7, v7]
    rfl
  have a30 : View.readAt (Elt F) arg13.view (Rect.unit (s := S4x512x1152) ![3, 0, 0] S1x256x1152.size inb_S4x512x1152_S1x256x1152_3_0_0).toLoadRect (scr (c := c) arg13 g0 (srcRd (c := c) (Memref.whole main_v1) fh0 (k0_off1 (rd4 arg0 harg0 x0 0 inb_S4_S1_0)) (k0_off1_inb _ k0_hw1)) (srcRd (c := c) (Memref.whole main_v1) fh0 (k0_off2 (rd4 arg0 harg0 x0 1 inb_S4_S1_1)) (k0_off2_inb _ k0_hw2)) (srcRd (c := c) (Memref.whole main_v1) fh0 (k0_off3 (rd4 arg0 harg0 x0 2 inb_S4_S1_2)) (k0_off3_inb _ k0_hw3)) (srcRd (c := c) (Memref.whole main_v1) fh0 (k0_off4 (rd4 arg0 harg0 x0 3 inb_S4_S1_3)) (k0_off4_inb _ k0_hw4))) = cacheRd fh0 3 0 (startW (x0 (ix1 3))).toNat := hA 3 0 (by decide) _
  have b30 : View.readAt (Elt F) arg14.view (Rect.unit (s := S4x512x1152) ![3, 0, 0] S1x256x1152.size inb_S4x512x1152_S1x256x1152_3_0_0).toLoadRect (scr (c := c) arg14 g1 (srcRd (c := c) (Memref.whole main_v3) fh1 (k0_off1 (rd4 arg0 harg0 x0 0 inb_S4_S1_0)) (k0_off1_inb _ k0_hw1)) (srcRd (c := c) (Memref.whole main_v3) fh1 (k0_off2 (rd4 arg0 harg0 x0 1 inb_S4_S1_1)) (k0_off2_inb _ k0_hw2)) (srcRd (c := c) (Memref.whole main_v3) fh1 (k0_off3 (rd4 arg0 harg0 x0 2 inb_S4_S1_2)) (k0_off3_inb _ k0_hw3)) (srcRd (c := c) (Memref.whole main_v3) fh1 (k0_off4 (rd4 arg0 harg0 x0 3 inb_S4_S1_3)) (k0_off4_inb _ k0_hw4))) = cacheRd fh1 3 0 (startW (x0 (ix1 3))).toNat := hB 3 0 (by decide) _
  have p30 : blk 3#32 0#32 (startW (rd4 arg0 harg0 x0 3 inb_S4_S1_3)) (rd4 arg0 harg0 x0 3 inb_S4_S1_3) (rd8 arg1 harg1 x1 0 inb_S8_S1_0) (rd8 arg1 harg1 x1 1 inb_S8_S1_1) (rd8 arg1 harg1 x1 2 inb_S8_S1_2) (rd8 arg1 harg1 x1 3 inb_S8_S1_3) (rd8 arg2 harg2 x2 0 inb_S8_S1_0) (rd8 arg2 harg2 x2 1 inb_S8_S1_1) (rd8 arg2 harg2 x2 2 inb_S8_S1_2) (rd8 arg2 harg2 x2 3 inb_S8_S1_3)
          (View.readAt (Elt F) arg3.view (Rect.unit (s := S4x4x32x64) ![3, 0, 0, 0] S1x4x16x64.size inb_S4x4x32x64_S1x4x16x64_3_0_0_0).toLoadRect (harg3.unread x3))
          (View.readAt (Elt F) arg13.view (Rect.unit (s := S4x512x1152) ![3, 0, 0] S1x256x1152.size inb_S4x512x1152_S1x256x1152_3_0_0).toLoadRect (scr (c := c) arg13 g0 (srcRd (c := c) (Memref.whole main_v1) fh0 (k0_off1 (rd4 arg0 harg0 x0 0 inb_S4_S1_0)) (k0_off1_inb _ k0_hw1)) (srcRd (c := c) (Memref.whole main_v1) fh0 (k0_off2 (rd4 arg0 harg0 x0 1 inb_S4_S1_1)) (k0_off2_inb _ k0_hw2)) (srcRd (c := c) (Memref.whole main_v1) fh0 (k0_off3 (rd4 arg0 harg0 x0 2 inb_S4_S1_2)) (k0_off3_inb _ k0_hw3)) (srcRd (c := c) (Memref.whole main_v1) fh0 (k0_off4 (rd4 arg0 harg0 x0 3 inb_S4_S1_3)) (k0_off4_inb _ k0_hw4))))
          (View.readAt (Elt F) arg14.view (Rect.unit (s := S4x512x1152) ![3, 0, 0] S1x256x1152.size inb_S4x512x1152_S1x256x1152_3_0_0).toLoadRect (scr (c := c) arg14 g1 (srcRd (c := c) (Memref.whole main_v3) fh1 (k0_off1 (rd4 arg0 harg0 x0 0 inb_S4_S1_0)) (k0_off1_inb _ k0_hw1)) (srcRd (c := c) (Memref.whole main_v3) fh1 (k0_off2 (rd4 arg0 harg0 x0 1 inb_S4_S1_1)) (k0_off2_inb _ k0_hw2)) (srcRd (c := c) (Memref.whole main_v3) fh1 (k0_off3 (rd4 arg0 harg0 x0 2 inb_S4_S1_2)) (k0_off3_inb _ k0_hw3)) (srcRd (c := c) (Memref.whole main_v3) fh1 (k0_off4 (rd4 arg0 harg0 x0 3 inb_S4_S1_3)) (k0_off4_inb _ k0_hw4))))
          (codes2 (rd8 arg1 harg1 x1 0 inb_S8_S1_0) (rd8 arg1 harg1 x1 1 inb_S8_S1_1) (rd8 arg1 harg1 x1 2 inb_S8_S1_2) (rd8 arg1 harg1 x1 3 inb_S8_S1_3) (rd8 arg1 harg1 x1 4 inb_S8_S1_4) (rd8 arg1 harg1 x1 5 inb_S8_S1_5) (rd8 arg1 harg1 x1 6 inb_S8_S1_6) (rd8 arg1 harg1 x1 7 inb_S8_S1_7) (View.readAt (Elt F) arg4.view (Rect.unit (s := S4x4x8x64) ![0, 0, 0, 0] S4x4x8x64.size inb_S4x4x8x64_S4x4x8x64_0_0_0_0).toLoadRect (harg4.unread x4)))
          (codes2 (rd8 arg2 harg2 x2 0 inb_S8_S1_0) (rd8 arg2 harg2 x2 1 inb_S8_S1_1) (rd8 arg2 harg2 x2 2 inb_S8_S1_2) (rd8 arg2 harg2 x2 3 inb_S8_S1_3) (rd8 arg2 harg2 x2 4 inb_S8_S1_4) (rd8 arg2 harg2 x2 5 inb_S8_S1_5) (rd8 arg2 harg2 x2 6 inb_S8_S1_6) (rd8 arg2 harg2 x2 7 inb_S8_S1_7) (View.readAt (Elt F) arg5.view (Rect.unit (s := S4x4x8x64) ![0, 0, 0, 0] S4x4x8x64.size inb_S4x4x8x64_S4x4x8x64_0_0_0_0).toLoadRect (harg5.unread x5))) = outBlk x0 x1 x2 x3 x4 x5 fh0 fh1 3 0 := by
    rw [a30, b30, xRd_eq arg3 harg3 x3 3 0 (by decide) (by decide), whole4_eq, whole4_eq, w3, k0, v0, k1, v1, k2, v2, k3, v3, k4, v4, k5, v5, k6, v6, k7, v7]
    rfl
  have a21 : View.readAt (Elt F) arg13.view (Rect.unit (s := S4x512x1152) ![2, 256, 0] S1x256x1152.size inb_S4x512x1152_S1x256x1152_2_256_0).toLoadRect (scr (c := c) arg13 g0 (srcRd (c := c) (Memref.whole main_v1) fh0 (k0_off1 (rd4 arg0 harg0 x0 0 inb_S4_S1_0)) (k0_off1_inb _ k0_hw1)) (srcRd (c := c) (Memref.whole main_v1) fh0 (k0_off2 (rd4 arg0 harg0 x0 1 inb_S4_S1_1)) (k0_off2_inb _ k0_hw2)) (srcRd (c := c) (Memref.whole main_v1) fh0 (k0_off3 (rd4 arg0 harg0 x0 2 inb_S4_S1_2)) (k0_off3_inb _ k0_hw3)) (srcRd (c := c) (Memref.whole main_v1) fh0 (k0_off4 (rd4 arg0 harg0 x0 3 inb_S4_S1_3)) (k0_off4_inb _ k0_hw4))) = cacheRd fh0 2 256 (startW (x0 (ix1 2))).toNat := hA 2 256 (by decide) _
  have b21 : View.readAt (Elt F) arg14.view (Rect.unit (s := S4x512x1152) ![2, 256, 0] S1x256x1152.size inb_S4x512x1152_S1x256x1152_2_256_0).toLoadRect (scr (c := c) arg14 g1 (srcRd (c := c) (Memref.whole main_v3) fh1 (k0_off1 (rd4 arg0 harg0 x0 0 inb_S4_S1_0)) (k0_off1_inb _ k0_hw1)) (srcRd (c := c) (Memref.whole main_v3) fh1 (k0_off2 (rd4 arg0 harg0 x0 1 inb_S4_S1_1)) (k0_off2_inb _ k0_hw2)) (srcRd (c := c) (Memref.whole main_v3) fh1 (k0_off3 (rd4 arg0 harg0 x0 2 inb_S4_S1_2)) (k0_off3_inb _ k0_hw3)) (srcRd (c := c) (Memref.whole main_v3) fh1 (k0_off4 (rd4 arg0 harg0 x0 3 inb_S4_S1_3)) (k0_off4_inb _ k0_hw4))) = cacheRd fh1 2 256 (startW (x0 (ix1 2))).toNat := hB 2 256 (by decide) _
  have p21 : blk 2#32 4#32 (startW (rd4 arg0 harg0 x0 2 inb_S4_S1_2)) (rd4 arg0 harg0 x0 2 inb_S4_S1_2) (rd8 arg1 harg1 x1 4 inb_S8_S1_4) (rd8 arg1 harg1 x1 5 inb_S8_S1_5) (rd8 arg1 harg1 x1 6 inb_S8_S1_6) (rd8 arg1 harg1 x1 7 inb_S8_S1_7) (rd8 arg2 harg2 x2 4 inb_S8_S1_4) (rd8 arg2 harg2 x2 5 inb_S8_S1_5) (rd8 arg2 harg2 x2 6 inb_S8_S1_6) (rd8 arg2 harg2 x2 7 inb_S8_S1_7)
          (View.readAt (Elt F) arg3.view (Rect.unit (s := S4x4x32x64) ![2, 0, 16, 0] S1x4x16x64.size inb_S4x4x32x64_S1x4x16x64_2_0_16_0).toLoadRect (harg3.unread x3))
          (View.readAt (Elt F) arg13.view (Rect.unit (s := S4x512x1152) ![2, 256, 0] S1x256x1152.size inb_S4x512x1152_S1x256x1152_2_256_0).toLoadRect (scr (c := c) arg13 g0 (srcRd (c := c) (Memref.whole main_v1) fh0 (k0_off1 (rd4 arg0 harg0 x0 0 inb_S4_S1_0)) (k0_off1_inb _ k0_hw1)) (srcRd (c := c) (Memref.whole main_v1) fh0 (k0_off2 (rd4 arg0 harg0 x0 1 inb_S4_S1_1)) (k0_off2_inb _ k0_hw2)) (srcRd (c := c) (Memref.whole main_v1) fh0 (k0_off3 (rd4 arg0 harg0 x0 2 inb_S4_S1_2)) (k0_off3_inb _ k0_hw3)) (srcRd (c := c) (Memref.whole main_v1) fh0 (k0_off4 (rd4 arg0 harg0 x0 3 inb_S4_S1_3)) (k0_off4_inb _ k0_hw4))))
          (View.readAt (Elt F) arg14.view (Rect.unit (s := S4x512x1152) ![2, 256, 0] S1x256x1152.size inb_S4x512x1152_S1x256x1152_2_256_0).toLoadRect (scr (c := c) arg14 g1 (srcRd (c := c) (Memref.whole main_v3) fh1 (k0_off1 (rd4 arg0 harg0 x0 0 inb_S4_S1_0)) (k0_off1_inb _ k0_hw1)) (srcRd (c := c) (Memref.whole main_v3) fh1 (k0_off2 (rd4 arg0 harg0 x0 1 inb_S4_S1_1)) (k0_off2_inb _ k0_hw2)) (srcRd (c := c) (Memref.whole main_v3) fh1 (k0_off3 (rd4 arg0 harg0 x0 2 inb_S4_S1_2)) (k0_off3_inb _ k0_hw3)) (srcRd (c := c) (Memref.whole main_v3) fh1 (k0_off4 (rd4 arg0 harg0 x0 3 inb_S4_S1_3)) (k0_off4_inb _ k0_hw4))))
          (codes2 (rd8 arg1 harg1 x1 0 inb_S8_S1_0) (rd8 arg1 harg1 x1 1 inb_S8_S1_1) (rd8 arg1 harg1 x1 2 inb_S8_S1_2) (rd8 arg1 harg1 x1 3 inb_S8_S1_3) (rd8 arg1 harg1 x1 4 inb_S8_S1_4) (rd8 arg1 harg1 x1 5 inb_S8_S1_5) (rd8 arg1 harg1 x1 6 inb_S8_S1_6) (rd8 arg1 harg1 x1 7 inb_S8_S1_7) (View.readAt (Elt F) arg4.view (Rect.unit (s := S4x4x8x64) ![0, 0, 0, 0] S4x4x8x64.size inb_S4x4x8x64_S4x4x8x64_0_0_0_0).toLoadRect (harg4.unread x4)))
          (codes2 (rd8 arg2 harg2 x2 0 inb_S8_S1_0) (rd8 arg2 harg2 x2 1 inb_S8_S1_1) (rd8 arg2 harg2 x2 2 inb_S8_S1_2) (rd8 arg2 harg2 x2 3 inb_S8_S1_3) (rd8 arg2 harg2 x2 4 inb_S8_S1_4) (rd8 arg2 harg2 x2 5 inb_S8_S1_5) (rd8 arg2 harg2 x2 6 inb_S8_S1_6) (rd8 arg2 harg2 x2 7 inb_S8_S1_7) (View.readAt (Elt F) arg5.view (Rect.unit (s := S4x4x8x64) ![0, 0, 0, 0] S4x4x8x64.size inb_S4x4x8x64_S4x4x8x64_0_0_0_0).toLoadRect (harg5.unread x5))) = outBlk x0 x1 x2 x3 x4 x5 fh0 fh1 2 1 := by
    rw [a21, b21, xRd_eq arg3 harg3 x3 2 16 (by decide) (by decide), whole4_eq, whole4_eq, w2, k0, v0, k1, v1, k2, v2, k3, v3, k4, v4, k5, v5, k6, v6, k7, v7]
    rfl
  have a20 : View.readAt (Elt F) arg13.view (Rect.unit (s := S4x512x1152) ![2, 0, 0] S1x256x1152.size inb_S4x512x1152_S1x256x1152_2_0_0).toLoadRect (scr (c := c) arg13 g0 (srcRd (c := c) (Memref.whole main_v1) fh0 (k0_off1 (rd4 arg0 harg0 x0 0 inb_S4_S1_0)) (k0_off1_inb _ k0_hw1)) (srcRd (c := c) (Memref.whole main_v1) fh0 (k0_off2 (rd4 arg0 harg0 x0 1 inb_S4_S1_1)) (k0_off2_inb _ k0_hw2)) (srcRd (c := c) (Memref.whole main_v1) fh0 (k0_off3 (rd4 arg0 harg0 x0 2 inb_S4_S1_2)) (k0_off3_inb _ k0_hw3)) (srcRd (c := c) (Memref.whole main_v1) fh0 (k0_off4 (rd4 arg0 harg0 x0 3 inb_S4_S1_3)) (k0_off4_inb _ k0_hw4))) = cacheRd fh0 2 0 (startW (x0 (ix1 2))).toNat := hA 2 0 (by decide) _
  have b20 : View.readAt (Elt F) arg14.view (Rect.unit (s := S4x512x1152) ![2, 0, 0] S1x256x1152.size inb_S4x512x1152_S1x256x1152_2_0_0).toLoadRect (scr (c := c) arg14 g1 (srcRd (c := c) (Memref.whole main_v3) fh1 (k0_off1 (rd4 arg0 harg0 x0 0 inb_S4_S1_0)) (k0_off1_inb _ k0_hw1)) (srcRd (c := c) (Memref.whole main_v3) fh1 (k0_off2 (rd4 arg0 harg0 x0 1 inb_S4_S1_1)) (k0_off2_inb _ k0_hw2)) (srcRd (c := c) (Memref.whole main_v3) fh1 (k0_off3 (rd4 arg0 harg0 x0 2 inb_S4_S1_2)) (k0_off3_inb _ k0_hw3)) (srcRd (c := c) (Memref.whole main_v3) fh1 (k0_off4 (rd4 arg0 harg0 x0 3 inb_S4_S1_3)) (k0_off4_inb _ k0_hw4))) = cacheRd fh1 2 0 (startW (x0 (ix1 2))).toNat := hB 2 0 (by decide) _
  have p20 : blk 2#32 0#32 (startW (rd4 arg0 harg0 x0 2 inb_S4_S1_2)) (rd4 arg0 harg0 x0 2 inb_S4_S1_2) (rd8 arg1 harg1 x1 0 inb_S8_S1_0) (rd8 arg1 harg1 x1 1 inb_S8_S1_1) (rd8 arg1 harg1 x1 2 inb_S8_S1_2) (rd8 arg1 harg1 x1 3 inb_S8_S1_3) (rd8 arg2 harg2 x2 0 inb_S8_S1_0) (rd8 arg2 harg2 x2 1 inb_S8_S1_1) (rd8 arg2 harg2 x2 2 inb_S8_S1_2) (rd8 arg2 harg2 x2 3 inb_S8_S1_3)
          (View.readAt (Elt F) arg3.view (Rect.unit (s := S4x4x32x64) ![2, 0, 0, 0] S1x4x16x64.size inb_S4x4x32x64_S1x4x16x64_2_0_0_0).toLoadRect (harg3.unread x3))
          (View.readAt (Elt F) arg13.view (Rect.unit (s := S4x512x1152) ![2, 0, 0] S1x256x1152.size inb_S4x512x1152_S1x256x1152_2_0_0).toLoadRect (scr (c := c) arg13 g0 (srcRd (c := c) (Memref.whole main_v1) fh0 (k0_off1 (rd4 arg0 harg0 x0 0 inb_S4_S1_0)) (k0_off1_inb _ k0_hw1)) (srcRd (c := c) (Memref.whole main_v1) fh0 (k0_off2 (rd4 arg0 harg0 x0 1 inb_S4_S1_1)) (k0_off2_inb _ k0_hw2)) (srcRd (c := c) (Memref.whole main_v1) fh0 (k0_off3 (rd4 arg0 harg0 x0 2 inb_S4_S1_2)) (k0_off3_inb _ k0_hw3)) (srcRd (c := c) (Memref.whole main_v1) fh0 (k0_off4 (rd4 arg0 harg0 x0 3 inb_S4_S1_3)) (k0_off4_inb _ k0_hw4))))
          (View.readAt (Elt F) arg14.view (Rect.unit (s := S4x512x1152) ![2, 0, 0] S1x256x1152.size inb_S4x512x1152_S1x256x1152_2_0_0).toLoadRect (scr (c := c) arg14 g1 (srcRd (c := c) (Memref.whole main_v3) fh1 (k0_off1 (rd4 arg0 harg0 x0 0 inb_S4_S1_0)) (k0_off1_inb _ k0_hw1)) (srcRd (c := c) (Memref.whole main_v3) fh1 (k0_off2 (rd4 arg0 harg0 x0 1 inb_S4_S1_1)) (k0_off2_inb _ k0_hw2)) (srcRd (c := c) (Memref.whole main_v3) fh1 (k0_off3 (rd4 arg0 harg0 x0 2 inb_S4_S1_2)) (k0_off3_inb _ k0_hw3)) (srcRd (c := c) (Memref.whole main_v3) fh1 (k0_off4 (rd4 arg0 harg0 x0 3 inb_S4_S1_3)) (k0_off4_inb _ k0_hw4))))
          (codes2 (rd8 arg1 harg1 x1 0 inb_S8_S1_0) (rd8 arg1 harg1 x1 1 inb_S8_S1_1) (rd8 arg1 harg1 x1 2 inb_S8_S1_2) (rd8 arg1 harg1 x1 3 inb_S8_S1_3) (rd8 arg1 harg1 x1 4 inb_S8_S1_4) (rd8 arg1 harg1 x1 5 inb_S8_S1_5) (rd8 arg1 harg1 x1 6 inb_S8_S1_6) (rd8 arg1 harg1 x1 7 inb_S8_S1_7) (View.readAt (Elt F) arg4.view (Rect.unit (s := S4x4x8x64) ![0, 0, 0, 0] S4x4x8x64.size inb_S4x4x8x64_S4x4x8x64_0_0_0_0).toLoadRect (harg4.unread x4)))
          (codes2 (rd8 arg2 harg2 x2 0 inb_S8_S1_0) (rd8 arg2 harg2 x2 1 inb_S8_S1_1) (rd8 arg2 harg2 x2 2 inb_S8_S1_2) (rd8 arg2 harg2 x2 3 inb_S8_S1_3) (rd8 arg2 harg2 x2 4 inb_S8_S1_4) (rd8 arg2 harg2 x2 5 inb_S8_S1_5) (rd8 arg2 harg2 x2 6 inb_S8_S1_6) (rd8 arg2 harg2 x2 7 inb_S8_S1_7) (View.readAt (Elt F) arg5.view (Rect.unit (s := S4x4x8x64) ![0, 0, 0, 0] S4x4x8x64.size inb_S4x4x8x64_S4x4x8x64_0_0_0_0).toLoadRect (harg5.unread x5))) = outBlk x0 x1 x2 x3 x4 x5 fh0 fh1 2 0 := by
    rw [a20, b20, xRd_eq arg3 harg3 x3 2 0 (by decide) (by decide), whole4_eq, whole4_eq, w2, k0, v0, k1, v1, k2, v2, k3, v3, k4, v4, k5, v5, k6, v6, k7, v7]
    rfl
  have a11 : View.readAt (Elt F) arg13.view (Rect.unit (s := S4x512x1152) ![1, 256, 0] S1x256x1152.size inb_S4x512x1152_S1x256x1152_1_256_0).toLoadRect (scr (c := c) arg13 g0 (srcRd (c := c) (Memref.whole main_v1) fh0 (k0_off1 (rd4 arg0 harg0 x0 0 inb_S4_S1_0)) (k0_off1_inb _ k0_hw1)) (srcRd (c := c) (Memref.whole main_v1) fh0 (k0_off2 (rd4 arg0 harg0 x0 1 inb_S4_S1_1)) (k0_off2_inb _ k0_hw2)) (srcRd (c := c) (Memref.whole main_v1) fh0 (k0_off3 (rd4 arg0 harg0 x0 2 inb_S4_S1_2)) (k0_off3_inb _ k0_hw3)) (srcRd (c := c) (Memref.whole main_v1) fh0 (k0_off4 (rd4 arg0 harg0 x0 3 inb_S4_S1_3)) (k0_off4_inb _ k0_hw4))) = cacheRd fh0 1 256 (startW (x0 (ix1 1))).toNat := hA 1 256 (by decide) _
  have b11 : View.readAt (Elt F) arg14.view (Rect.unit (s := S4x512x1152) ![1, 256, 0] S1x256x1152.size inb_S4x512x1152_S1x256x1152_1_256_0).toLoadRect (scr (c := c) arg14 g1 (srcRd (c := c) (Memref.whole main_v3) fh1 (k0_off1 (rd4 arg0 harg0 x0 0 inb_S4_S1_0)) (k0_off1_inb _ k0_hw1)) (srcRd (c := c) (Memref.whole main_v3) fh1 (k0_off2 (rd4 arg0 harg0 x0 1 inb_S4_S1_1)) (k0_off2_inb _ k0_hw2)) (srcRd (c := c) (Memref.whole main_v3) fh1 (k0_off3 (rd4 arg0 harg0 x0 2 inb_S4_S1_2)) (k0_off3_inb _ k0_hw3)) (srcRd (c := c) (Memref.whole main_v3) fh1 (k0_off4 (rd4 arg0 harg0 x0 3 inb_S4_S1_3)) (k0_off4_inb _ k0_hw4))) = cacheRd fh1 1 256 (startW (x0 (ix1 1))).toNat := hB 1 256 (by decide) _
  have p11 : blk 1#32 4#32 (startW (rd4 arg0 harg0 x0 1 inb_S4_S1_1)) (rd4 arg0 harg0 x0 1 inb_S4_S1_1) (rd8 arg1 harg1 x1 4 inb_S8_S1_4) (rd8 arg1 harg1 x1 5 inb_S8_S1_5) (rd8 arg1 harg1 x1 6 inb_S8_S1_6) (rd8 arg1 harg1 x1 7 inb_S8_S1_7) (rd8 arg2 harg2 x2 4 inb_S8_S1_4) (rd8 arg2 harg2 x2 5 inb_S8_S1_5) (rd8 arg2 harg2 x2 6 inb_S8_S1_6) (rd8 arg2 harg2 x2 7 inb_S8_S1_7)
          (View.readAt (Elt F) arg3.view (Rect.unit (s := S4x4x32x64) ![1, 0, 16, 0] S1x4x16x64.size inb_S4x4x32x64_S1x4x16x64_1_0_16_0).toLoadRect (harg3.unread x3))
          (View.readAt (Elt F) arg13.view (Rect.unit (s := S4x512x1152) ![1, 256, 0] S1x256x1152.size inb_S4x512x1152_S1x256x1152_1_256_0).toLoadRect (scr (c := c) arg13 g0 (srcRd (c := c) (Memref.whole main_v1) fh0 (k0_off1 (rd4 arg0 harg0 x0 0 inb_S4_S1_0)) (k0_off1_inb _ k0_hw1)) (srcRd (c := c) (Memref.whole main_v1) fh0 (k0_off2 (rd4 arg0 harg0 x0 1 inb_S4_S1_1)) (k0_off2_inb _ k0_hw2)) (srcRd (c := c) (Memref.whole main_v1) fh0 (k0_off3 (rd4 arg0 harg0 x0 2 inb_S4_S1_2)) (k0_off3_inb _ k0_hw3)) (srcRd (c := c) (Memref.whole main_v1) fh0 (k0_off4 (rd4 arg0 harg0 x0 3 inb_S4_S1_3)) (k0_off4_inb _ k0_hw4))))
          (View.readAt (Elt F) arg14.view (Rect.unit (s := S4x512x1152) ![1, 256, 0] S1x256x1152.size inb_S4x512x1152_S1x256x1152_1_256_0).toLoadRect (scr (c := c) arg14 g1 (srcRd (c := c) (Memref.whole main_v3) fh1 (k0_off1 (rd4 arg0 harg0 x0 0 inb_S4_S1_0)) (k0_off1_inb _ k0_hw1)) (srcRd (c := c) (Memref.whole main_v3) fh1 (k0_off2 (rd4 arg0 harg0 x0 1 inb_S4_S1_1)) (k0_off2_inb _ k0_hw2)) (srcRd (c := c) (Memref.whole main_v3) fh1 (k0_off3 (rd4 arg0 harg0 x0 2 inb_S4_S1_2)) (k0_off3_inb _ k0_hw3)) (srcRd (c := c) (Memref.whole main_v3) fh1 (k0_off4 (rd4 arg0 harg0 x0 3 inb_S4_S1_3)) (k0_off4_inb _ k0_hw4))))
          (codes2 (rd8 arg1 harg1 x1 0 inb_S8_S1_0) (rd8 arg1 harg1 x1 1 inb_S8_S1_1) (rd8 arg1 harg1 x1 2 inb_S8_S1_2) (rd8 arg1 harg1 x1 3 inb_S8_S1_3) (rd8 arg1 harg1 x1 4 inb_S8_S1_4) (rd8 arg1 harg1 x1 5 inb_S8_S1_5) (rd8 arg1 harg1 x1 6 inb_S8_S1_6) (rd8 arg1 harg1 x1 7 inb_S8_S1_7) (View.readAt (Elt F) arg4.view (Rect.unit (s := S4x4x8x64) ![0, 0, 0, 0] S4x4x8x64.size inb_S4x4x8x64_S4x4x8x64_0_0_0_0).toLoadRect (harg4.unread x4)))
          (codes2 (rd8 arg2 harg2 x2 0 inb_S8_S1_0) (rd8 arg2 harg2 x2 1 inb_S8_S1_1) (rd8 arg2 harg2 x2 2 inb_S8_S1_2) (rd8 arg2 harg2 x2 3 inb_S8_S1_3) (rd8 arg2 harg2 x2 4 inb_S8_S1_4) (rd8 arg2 harg2 x2 5 inb_S8_S1_5) (rd8 arg2 harg2 x2 6 inb_S8_S1_6) (rd8 arg2 harg2 x2 7 inb_S8_S1_7) (View.readAt (Elt F) arg5.view (Rect.unit (s := S4x4x8x64) ![0, 0, 0, 0] S4x4x8x64.size inb_S4x4x8x64_S4x4x8x64_0_0_0_0).toLoadRect (harg5.unread x5))) = outBlk x0 x1 x2 x3 x4 x5 fh0 fh1 1 1 := by
    rw [a11, b11, xRd_eq arg3 harg3 x3 1 16 (by decide) (by decide), whole4_eq, whole4_eq, w1, k0, v0, k1, v1, k2, v2, k3, v3, k4, v4, k5, v5, k6, v6, k7, v7]
    rfl
  have a10 : View.readAt (Elt F) arg13.view (Rect.unit (s := S4x512x1152) ![1, 0, 0] S1x256x1152.size inb_S4x512x1152_S1x256x1152_1_0_0).toLoadRect (scr (c := c) arg13 g0 (srcRd (c := c) (Memref.whole main_v1) fh0 (k0_off1 (rd4 arg0 harg0 x0 0 inb_S4_S1_0)) (k0_off1_inb _ k0_hw1)) (srcRd (c := c) (Memref.whole main_v1) fh0 (k0_off2 (rd4 arg0 harg0 x0 1 inb_S4_S1_1)) (k0_off2_inb _ k0_hw2)) (srcRd (c := c) (Memref.whole main_v1) fh0 (k0_off3 (rd4 arg0 harg0 x0 2 inb_S4_S1_2)) (k0_off3_inb _ k0_hw3)) (srcRd (c := c) (Memref.whole main_v1) fh0 (k0_off4 (rd4 arg0 harg0 x0 3 inb_S4_S1_3)) (k0_off4_inb _ k0_hw4))) = cacheRd fh0 1 0 (startW (x0 (ix1 1))).toNat := hA 1 0 (by decide) _
  have b10 : View.readAt (Elt F) arg14.view (Rect.unit (s := S4x512x1152) ![1, 0, 0] S1x256x1152.size inb_S4x512x1152_S1x256x1152_1_0_0).toLoadRect (scr (c := c) arg14 g1 (srcRd (c := c) (Memref.whole main_v3) fh1 (k0_off1 (rd4 arg0 harg0 x0 0 inb_S4_S1_0)) (k0_off1_inb _ k0_hw1)) (srcRd (c := c) (Memref.whole main_v3) fh1 (k0_off2 (rd4 arg0 harg0 x0 1 inb_S4_S1_1)) (k0_off2_inb _ k0_hw2)) (srcRd (c := c) (Memref.whole main_v3) fh1 (k0_off3 (rd4 arg0 harg0 x0 2 inb_S4_S1_2)) (k0_off3_inb _ k0_hw3)) (srcRd (c := c) (Memref.whole main_v3) fh1 (k0_off4 (rd4 arg0 harg0 x0 3 inb_S4_S1_3)) (k0_off4_inb _ k0_hw4))) = cacheRd fh1 1 0 (startW (x0 (ix1 1))).toNat := hB 1 0 (by decide) _
  have p10 : blk 1#32 0#32 (startW (rd4 arg0 harg0 x0 1 inb_S4_S1_1)) (rd4 arg0 harg0 x0 1 inb_S4_S1_1) (rd8 arg1 harg1 x1 0 inb_S8_S1_0) (rd8 arg1 harg1 x1 1 inb_S8_S1_1) (rd8 arg1 harg1 x1 2 inb_S8_S1_2) (rd8 arg1 harg1 x1 3 inb_S8_S1_3) (rd8 arg2 harg2 x2 0 inb_S8_S1_0) (rd8 arg2 harg2 x2 1 inb_S8_S1_1) (rd8 arg2 harg2 x2 2 inb_S8_S1_2) (rd8 arg2 harg2 x2 3 inb_S8_S1_3)
          (View.readAt (Elt F) arg3.view (Rect.unit (s := S4x4x32x64) ![1, 0, 0, 0] S1x4x16x64.size inb_S4x4x32x64_S1x4x16x64_1_0_0_0).toLoadRect (harg3.unread x3))
          (View.readAt (Elt F) arg13.view (Rect.unit (s := S4x512x1152) ![1, 0, 0] S1x256x1152.size inb_S4x512x1152_S1x256x1152_1_0_0).toLoadRect (scr (c := c) arg13 g0 (srcRd (c := c) (Memref.whole main_v1) fh0 (k0_off1 (rd4 arg0 harg0 x0 0 inb_S4_S1_0)) (k0_off1_inb _ k0_hw1)) (srcRd (c := c) (Memref.whole main_v1) fh0 (k0_off2 (rd4 arg0 harg0 x0 1 inb_S4_S1_1)) (k0_off2_inb _ k0_hw2)) (srcRd (c := c) (Memref.whole main_v1) fh0 (k0_off3 (rd4 arg0 harg0 x0 2 inb_S4_S1_2)) (k0_off3_inb _ k0_hw3)) (srcRd (c := c) (Memref.whole main_v1) fh0 (k0_off4 (rd4 arg0 harg0 x0 3 inb_S4_S1_3)) (k0_off4_inb _ k0_hw4))))
          (View.readAt (Elt F) arg14.view (Rect.unit (s := S4x512x1152) ![1, 0, 0] S1x256x1152.size inb_S4x512x1152_S1x256x1152_1_0_0).toLoadRect (scr (c := c) arg14 g1 (srcRd (c := c) (Memref.whole main_v3) fh1 (k0_off1 (rd4 arg0 harg0 x0 0 inb_S4_S1_0)) (k0_off1_inb _ k0_hw1)) (srcRd (c := c) (Memref.whole main_v3) fh1 (k0_off2 (rd4 arg0 harg0 x0 1 inb_S4_S1_1)) (k0_off2_inb _ k0_hw2)) (srcRd (c := c) (Memref.whole main_v3) fh1 (k0_off3 (rd4 arg0 harg0 x0 2 inb_S4_S1_2)) (k0_off3_inb _ k0_hw3)) (srcRd (c := c) (Memref.whole main_v3) fh1 (k0_off4 (rd4 arg0 harg0 x0 3 inb_S4_S1_3)) (k0_off4_inb _ k0_hw4))))
          (codes2 (rd8 arg1 harg1 x1 0 inb_S8_S1_0) (rd8 arg1 harg1 x1 1 inb_S8_S1_1) (rd8 arg1 harg1 x1 2 inb_S8_S1_2) (rd8 arg1 harg1 x1 3 inb_S8_S1_3) (rd8 arg1 harg1 x1 4 inb_S8_S1_4) (rd8 arg1 harg1 x1 5 inb_S8_S1_5) (rd8 arg1 harg1 x1 6 inb_S8_S1_6) (rd8 arg1 harg1 x1 7 inb_S8_S1_7) (View.readAt (Elt F) arg4.view (Rect.unit (s := S4x4x8x64) ![0, 0, 0, 0] S4x4x8x64.size inb_S4x4x8x64_S4x4x8x64_0_0_0_0).toLoadRect (harg4.unread x4)))
          (codes2 (rd8 arg2 harg2 x2 0 inb_S8_S1_0) (rd8 arg2 harg2 x2 1 inb_S8_S1_1) (rd8 arg2 harg2 x2 2 inb_S8_S1_2) (rd8 arg2 harg2 x2 3 inb_S8_S1_3) (rd8 arg2 harg2 x2 4 inb_S8_S1_4) (rd8 arg2 harg2 x2 5 inb_S8_S1_5) (rd8 arg2 harg2 x2 6 inb_S8_S1_6) (rd8 arg2 harg2 x2 7 inb_S8_S1_7) (View.readAt (Elt F) arg5.view (Rect.unit (s := S4x4x8x64) ![0, 0, 0, 0] S4x4x8x64.size inb_S4x4x8x64_S4x4x8x64_0_0_0_0).toLoadRect (harg5.unread x5))) = outBlk x0 x1 x2 x3 x4 x5 fh0 fh1 1 0 := by
    rw [a10, b10, xRd_eq arg3 harg3 x3 1 0 (by decide) (by decide), whole4_eq, whole4_eq, w1, k0, v0, k1, v1, k2, v2, k3, v3, k4, v4, k5, v5, k6, v6, k7, v7]
    rfl
  have a01 : View.readAt (Elt F) arg13.view (Rect.unit (s := S4x512x1152) ![0, 256, 0] S1x256x1152.size inb_S4x512x1152_S1x256x1152_0_256_0).toLoadRect (scr (c := c) arg13 g0 (srcRd (c := c) (Memref.whole main_v1) fh0 (k0_off1 (rd4 arg0 harg0 x0 0 inb_S4_S1_0)) (k0_off1_inb _ k0_hw1)) (srcRd (c := c) (Memref.whole main_v1) fh0 (k0_off2 (rd4 arg0 harg0 x0 1 inb_S4_S1_1)) (k0_off2_inb _ k0_hw2)) (srcRd (c := c) (Memref.whole main_v1) fh0 (k0_off3 (rd4 arg0 harg0 x0 2 inb_S4_S1_2)) (k0_off3_inb _ k0_hw3)) (srcRd (c := c) (Memref.whole main_v1) fh0 (k0_off4 (rd4 arg0 harg0 x0 3 inb_S4_S1_3)) (k0_off4_inb _ k0_hw4))) = cacheRd fh0 0 256 (startW (x0 (ix1 0))).toNat := hA 0 256 (by decide) _
  have b01 : View.readAt (Elt F) arg14.view (Rect.unit (s := S4x512x1152) ![0, 256, 0] S1x256x1152.size inb_S4x512x1152_S1x256x1152_0_256_0).toLoadRect (scr (c := c) arg14 g1 (srcRd (c := c) (Memref.whole main_v3) fh1 (k0_off1 (rd4 arg0 harg0 x0 0 inb_S4_S1_0)) (k0_off1_inb _ k0_hw1)) (srcRd (c := c) (Memref.whole main_v3) fh1 (k0_off2 (rd4 arg0 harg0 x0 1 inb_S4_S1_1)) (k0_off2_inb _ k0_hw2)) (srcRd (c := c) (Memref.whole main_v3) fh1 (k0_off3 (rd4 arg0 harg0 x0 2 inb_S4_S1_2)) (k0_off3_inb _ k0_hw3)) (srcRd (c := c) (Memref.whole main_v3) fh1 (k0_off4 (rd4 arg0 harg0 x0 3 inb_S4_S1_3)) (k0_off4_inb _ k0_hw4))) = cacheRd fh1 0 256 (startW (x0 (ix1 0))).toNat := hB 0 256 (by decide) _
  have p01 : blk 0#32 4#32 (startW (rd4 arg0 harg0 x0 0 inb_S4_S1_0)) (rd4 arg0 harg0 x0 0 inb_S4_S1_0) (rd8 arg1 harg1 x1 4 inb_S8_S1_4) (rd8 arg1 harg1 x1 5 inb_S8_S1_5) (rd8 arg1 harg1 x1 6 inb_S8_S1_6) (rd8 arg1 harg1 x1 7 inb_S8_S1_7) (rd8 arg2 harg2 x2 4 inb_S8_S1_4) (rd8 arg2 harg2 x2 5 inb_S8_S1_5) (rd8 arg2 harg2 x2 6 inb_S8_S1_6) (rd8 arg2 harg2 x2 7 inb_S8_S1_7)
          (View.readAt (Elt F) arg3.view (Rect.unit (s := S4x4x32x64) ![0, 0, 16, 0] S1x4x16x64.size inb_S4x4x32x64_S1x4x16x64_0_0_16_0).toLoadRect (harg3.unread x3))
          (View.readAt (Elt F) arg13.view (Rect.unit (s := S4x512x1152) ![0, 256, 0] S1x256x1152.size inb_S4x512x1152_S1x256x1152_0_256_0).toLoadRect (scr (c := c) arg13 g0 (srcRd (c := c) (Memref.whole main_v1) fh0 (k0_off1 (rd4 arg0 harg0 x0 0 inb_S4_S1_0)) (k0_off1_inb _ k0_hw1)) (srcRd (c := c) (Memref.whole main_v1) fh0 (k0_off2 (rd4 arg0 harg0 x0 1 inb_S4_S1_1)) (k0_off2_inb _ k0_hw2)) (srcRd (c := c) (Memref.whole main_v1) fh0 (k0_off3 (rd4 arg0 harg0 x0 2 inb_S4_S1_2)) (k0_off3_inb _ k0_hw3)) (srcRd (c := c) (Memref.whole main_v1) fh0 (k0_off4 (rd4 arg0 harg0 x0 3 inb_S4_S1_3)) (k0_off4_inb _ k0_hw4))))
          (View.readAt (Elt F) arg14.view (Rect.unit (s := S4x512x1152) ![0, 256, 0] S1x256x1152.size inb_S4x512x1152_S1x256x1152_0_256_0).toLoadRect (scr (c := c) arg14 g1 (srcRd (c := c) (Memref.whole main_v3) fh1 (k0_off1 (rd4 arg0 harg0 x0 0 inb_S4_S1_0)) (k0_off1_inb _ k0_hw1)) (srcRd (c := c) (Memref.whole main_v3) fh1 (k0_off2 (rd4 arg0 harg0 x0 1 inb_S4_S1_1)) (k0_off2_inb _ k0_hw2)) (srcRd (c := c) (Memref.whole main_v3) fh1 (k0_off3 (rd4 arg0 harg0 x0 2 inb_S4_S1_2)) (k0_off3_inb _ k0_hw3)) (srcRd (c := c) (Memref.whole main_v3) fh1 (k0_off4 (rd4 arg0 harg0 x0 3 inb_S4_S1_3)) (k0_off4_inb _ k0_hw4))))
          (codes2 (rd8 arg1 harg1 x1 0 inb_S8_S1_0) (rd8 arg1 harg1 x1 1 inb_S8_S1_1) (rd8 arg1 harg1 x1 2 inb_S8_S1_2) (rd8 arg1 harg1 x1 3 inb_S8_S1_3) (rd8 arg1 harg1 x1 4 inb_S8_S1_4) (rd8 arg1 harg1 x1 5 inb_S8_S1_5) (rd8 arg1 harg1 x1 6 inb_S8_S1_6) (rd8 arg1 harg1 x1 7 inb_S8_S1_7) (View.readAt (Elt F) arg4.view (Rect.unit (s := S4x4x8x64) ![0, 0, 0, 0] S4x4x8x64.size inb_S4x4x8x64_S4x4x8x64_0_0_0_0).toLoadRect (harg4.unread x4)))
          (codes2 (rd8 arg2 harg2 x2 0 inb_S8_S1_0) (rd8 arg2 harg2 x2 1 inb_S8_S1_1) (rd8 arg2 harg2 x2 2 inb_S8_S1_2) (rd8 arg2 harg2 x2 3 inb_S8_S1_3) (rd8 arg2 harg2 x2 4 inb_S8_S1_4) (rd8 arg2 harg2 x2 5 inb_S8_S1_5) (rd8 arg2 harg2 x2 6 inb_S8_S1_6) (rd8 arg2 harg2 x2 7 inb_S8_S1_7) (View.readAt (Elt F) arg5.view (Rect.unit (s := S4x4x8x64) ![0, 0, 0, 0] S4x4x8x64.size inb_S4x4x8x64_S4x4x8x64_0_0_0_0).toLoadRect (harg5.unread x5))) = outBlk x0 x1 x2 x3 x4 x5 fh0 fh1 0 1 := by
    rw [a01, b01, xRd_eq arg3 harg3 x3 0 16 (by decide) (by decide), whole4_eq, whole4_eq, w0, k0, v0, k1, v1, k2, v2, k3, v3, k4, v4, k5, v5, k6, v6, k7, v7]
    rfl
  have a00 : View.readAt (Elt F) arg13.view (Rect.unit (s := S4x512x1152) ![0, 0, 0] S1x256x1152.size inb_S4x512x1152_S1x256x1152_0_0_0).toLoadRect (scr (c := c) arg13 g0 (srcRd (c := c) (Memref.whole main_v1) fh0 (k0_off1 (rd4 arg0 harg0 x0 0 inb_S4_S1_0)) (k0_off1_inb _ k0_hw1)) (srcRd (c := c) (Memref.whole main_v1) fh0 (k0_off2 (rd4 arg0 harg0 x0 1 inb_S4_S1_1)) (k0_off2_inb _ k0_hw2)) (srcRd (c := c) (Memref.whole main_v1) fh0 (k0_off3 (rd4 arg0 harg0 x0 2 inb_S4_S1_2)) (k0_off3_inb _ k0_hw3)) (srcRd (c := c) (Memref.whole main_v1) fh0 (k0_off4 (rd4 arg0 harg0 x0 3 inb_S4_S1_3)) (k0_off4_inb _ k0_hw4))) = cacheRd fh0 0 0 (startW (x0 (ix1 0))).toNat := hA 0 0 (by decide) _
  have b00 : View.readAt (Elt F) arg14.view (Rect.unit (s := S4x512x1152) ![0, 0, 0] S1x256x1152.size inb_S4x512x1152_S1x256x1152_0_0_0).toLoadRect (scr (c := c) arg14 g1 (srcRd (c := c) (Memref.whole main_v3) fh1 (k0_off1 (rd4 arg0 harg0 x0 0 inb_S4_S1_0)) (k0_off1_inb _ k0_hw1)) (srcRd (c := c) (Memref.whole main_v3) fh1 (k0_off2 (rd4 arg0 harg0 x0 1 inb_S4_S1_1)) (k0_off2_inb _ k0_hw2)) (srcRd (c := c) (Memref.whole main_v3) fh1 (k0_off3 (rd4 arg0 harg0 x0 2 inb_S4_S1_2)) (k0_off3_inb _ k0_hw3)) (srcRd (c := c) (Memref.whole main_v3) fh1 (k0_off4 (rd4 arg0 harg0 x0 3 inb_S4_S1_3)) (k0_off4_inb _ k0_hw4))) = cacheRd fh1 0 0 (startW (x0 (ix1 0))).toNat := hB 0 0 (by decide) _
  have p00 : blk 0#32 0#32 (startW (rd4 arg0 harg0 x0 0 inb_S4_S1_0)) (rd4 arg0 harg0 x0 0 inb_S4_S1_0) (rd8 arg1 harg1 x1 0 inb_S8_S1_0) (rd8 arg1 harg1 x1 1 inb_S8_S1_1) (rd8 arg1 harg1 x1 2 inb_S8_S1_2) (rd8 arg1 harg1 x1 3 inb_S8_S1_3) (rd8 arg2 harg2 x2 0 inb_S8_S1_0) (rd8 arg2 harg2 x2 1 inb_S8_S1_1) (rd8 arg2 harg2 x2 2 inb_S8_S1_2) (rd8 arg2 harg2 x2 3 inb_S8_S1_3)
          (View.readAt (Elt F) arg3.view (Rect.unit (s := S4x4x32x64) ![0, 0, 0, 0] S1x4x16x64.size inb_S4x4x32x64_S1x4x16x64_0_0_0_0).toLoadRect (harg3.unread x3))
          (View.readAt (Elt F) arg13.view (Rect.unit (s := S4x512x1152) ![0, 0, 0] S1x256x1152.size inb_S4x512x1152_S1x256x1152_0_0_0).toLoadRect (scr (c := c) arg13 g0 (srcRd (c := c) (Memref.whole main_v1) fh0 (k0_off1 (rd4 arg0 harg0 x0 0 inb_S4_S1_0)) (k0_off1_inb _ k0_hw1)) (srcRd (c := c) (Memref.whole main_v1) fh0 (k0_off2 (rd4 arg0 harg0 x0 1 inb_S4_S1_1)) (k0_off2_inb _ k0_hw2)) (srcRd (c := c) (Memref.whole main_v1) fh0 (k0_off3 (rd4 arg0 harg0 x0 2 inb_S4_S1_2)) (k0_off3_inb _ k0_hw3)) (srcRd (c := c) (Memref.whole main_v1) fh0 (k0_off4 (rd4 arg0 harg0 x0 3 inb_S4_S1_3)) (k0_off4_inb _ k0_hw4))))
          (View.readAt (Elt F) arg14.view (Rect.unit (s := S4x512x1152) ![0, 0, 0] S1x256x1152.size inb_S4x512x1152_S1x256x1152_0_0_0).toLoadRect (scr (c := c) arg14 g1 (srcRd (c := c) (Memref.whole main_v3) fh1 (k0_off1 (rd4 arg0 harg0 x0 0 inb_S4_S1_0)) (k0_off1_inb _ k0_hw1)) (srcRd (c := c) (Memref.whole main_v3) fh1 (k0_off2 (rd4 arg0 harg0 x0 1 inb_S4_S1_1)) (k0_off2_inb _ k0_hw2)) (srcRd (c := c) (Memref.whole main_v3) fh1 (k0_off3 (rd4 arg0 harg0 x0 2 inb_S4_S1_2)) (k0_off3_inb _ k0_hw3)) (srcRd (c := c) (Memref.whole main_v3) fh1 (k0_off4 (rd4 arg0 harg0 x0 3 inb_S4_S1_3)) (k0_off4_inb _ k0_hw4))))
          (codes2 (rd8 arg1 harg1 x1 0 inb_S8_S1_0) (rd8 arg1 harg1 x1 1 inb_S8_S1_1) (rd8 arg1 harg1 x1 2 inb_S8_S1_2) (rd8 arg1 harg1 x1 3 inb_S8_S1_3) (rd8 arg1 harg1 x1 4 inb_S8_S1_4) (rd8 arg1 harg1 x1 5 inb_S8_S1_5) (rd8 arg1 harg1 x1 6 inb_S8_S1_6) (rd8 arg1 harg1 x1 7 inb_S8_S1_7) (View.readAt (Elt F) arg4.view (Rect.unit (s := S4x4x8x64) ![0, 0, 0, 0] S4x4x8x64.size inb_S4x4x8x64_S4x4x8x64_0_0_0_0).toLoadRect (harg4.unread x4)))
          (codes2 (rd8 arg2 harg2 x2 0 inb_S8_S1_0) (rd8 arg2 harg2 x2 1 inb_S8_S1_1) (rd8 arg2 harg2 x2 2 inb_S8_S1_2) (rd8 arg2 harg2 x2 3 inb_S8_S1_3) (rd8 arg2 harg2 x2 4 inb_S8_S1_4) (rd8 arg2 harg2 x2 5 inb_S8_S1_5) (rd8 arg2 harg2 x2 6 inb_S8_S1_6) (rd8 arg2 harg2 x2 7 inb_S8_S1_7) (View.readAt (Elt F) arg5.view (Rect.unit (s := S4x4x8x64) ![0, 0, 0, 0] S4x4x8x64.size inb_S4x4x8x64_S4x4x8x64_0_0_0_0).toLoadRect (harg5.unread x5))) = outBlk x0 x1 x2 x3 x4 x5 fh0 fh1 0 0 := by
    rw [a00, b00, xRd_eq arg3 harg3 x3 0 0 (by decide) (by decide), whole4_eq, whole4_eq, w0, k0, v0, k1, v1, k2, v2, k3, v3, k4, v4, k5, v5, k6, v6, k7, v7]
    rfl
  rw [p31, p30, p21, p20, p11, p10, p01, p00]
  rfl

/-- The codes of the keys, as functions of the arrays. -/
theorem clean7 : (bodyRun c arg0 harg0 arg1 harg1 arg2 harg2 arg3 harg3 arg4 harg4 arg5 harg5 arg8 harg8 arg9 harg9 arg10 harg10 arg11 harg11 arg12 harg12 arg13 harg13 arg14 harg14 x0 x1 x2 x3 x4 x5 fh0 fh1 k0_hw1 k0_hw2 k0_hw3 k0_hw4).val.2.1 = [⟨Rect.unit (s := S4x4x8x64) ![0, 0, 0, 0] S4x4x8x64.size inb_S4x4x8x64_S4x4x8x64_0_0_0_0, outCodes x1 x4⟩] := by
  rw [pieces7, whole4_eq, show rd8 arg1 harg1 x1 0 inb_S8_S1_0 = x1 (ix1 0) from rd8_eq _ _ _ 0 _, show rd8 arg1 harg1 x1 1 inb_S8_S1_1 = x1 (ix1 1) from rd8_eq _ _ _ 1 _, show rd8 arg1 harg1 x1 2 inb_S8_S1_2 = x1 (ix1 2) from rd8_eq _ _ _ 2 _, show rd8 arg1 harg1 x1 3 inb_S8_S1_3 = x1 (ix1 3) from rd8_eq _ _ _ 3 _, show rd8 arg1 harg1 x1 4 inb_S8_S1_4 = x1 (ix1 4) from rd8_eq _ _ _ 4 _, show rd8 arg1 harg1 x1 5 inb_S8_S1_5 = x1 (ix1 5) from rd8_eq _ _ _ 5 _, show rd8 arg1 harg1 x1 6 inb_S8_S1_6 = x1 (ix1 6) from rd8_eq _ _ _ 6 _, show rd8 arg1 harg1 x1 7 inb_S8_S1_7 = x1 (ix1 7) from rd8_eq _ _ _ 7 _]
  rfl

/-- The scales of the keys. -/
theorem clean8 : (bodyRun c arg0 harg0 arg1 harg1 arg2 harg2 arg3 harg3 arg4 harg4 arg5 harg5 arg8 harg8 arg9 harg9 arg10 harg10 arg11 harg11 arg12 harg12 arg13 harg13 arg14 harg14 x0 x1 x2 x3 x4 x5 fh0 fh1 k0_hw1 k0_hw2 k0_hw3 k0_hw4).val.2.2.1 = [⟨Rect.unit (s := S1x8) ![0, 0] S1x8.size inb_S1x8_S1x8_0_0, outScale x1⟩] := by
  rw [pieces8, show rd8 arg1 harg1 x1 0 inb_S8_S1_0 = x1 (ix1 0) from rd8_eq _ _ _ 0 _, show rd8 arg1 harg1 x1 1 inb_S8_S1_1 = x1 (ix1 1) from rd8_eq _ _ _ 1 _, show rd8 arg1 harg1 x1 2 inb_S8_S1_2 = x1 (ix1 2) from rd8_eq _ _ _ 2 _, show rd8 arg1 harg1 x1 3 inb_S8_S1_3 = x1 (ix1 3) from rd8_eq _ _ _ 3 _, show rd8 arg1 harg1 x1 4 inb_S8_S1_4 = x1 (ix1 4) from rd8_eq _ _ _ 4 _, show rd8 arg1 harg1 x1 5 inb_S8_S1_5 = x1 (ix1 5) from rd8_eq _ _ _ 5 _, show rd8 arg1 harg1 x1 6 inb_S8_S1_6 = x1 (ix1 6) from rd8_eq _ _ _ 6 _, show rd8 arg1 harg1 x1 7 inb_S8_S1_7 = x1 (ix1 7) from rd8_eq _ _ _ 7 _]
  rfl

/-- The codes of the values. -/
theorem clean9 : (bodyRun c arg0 harg0 arg1 harg1 arg2 harg2 arg3 harg3 arg4 harg4 arg5 harg5 arg8 harg8 arg9 harg9 arg10 harg10 arg11 harg11 arg12 harg12 arg13 harg13 arg14 harg14 x0 x1 x2 x3 x4 x5 fh0 fh1 k0_hw1 k0_hw2 k0_hw3 k0_hw4).val.2.2.2.1 = [⟨Rect.unit (s := S4x4x8x64) ![0, 0, 0, 0] S4x4x8x64.size inb_S4x4x8x64_S4x4x8x64_0_0_0_0, outCodes x2 x5⟩] := by
  rw [pieces9, whole4_eq, show rd8 arg2 harg2 x2 0 inb_S8_S1_0 = x2 (ix1 0) from rd8_eq _ _ _ 0 _, show rd8 arg2 harg2 x2 1 inb_S8_S1_1 = x2 (ix1 1) from rd8_eq _ _ _ 1 _, show rd8 arg2 harg2 x2 2 inb_S8_S1_2 = x2 (ix1 2) from rd8_eq _ _ _ 2 _, show rd8 arg2 harg2 x2 3 inb_S8_S1_3 = x2 (ix1 3) from rd8_eq _ _ _ 3 _, show rd8 arg2 harg2 x2 4 inb_S8_S1_4 = x2 (ix1 4) from rd8_eq _ _ _ 4 _, show rd8 arg2 harg2 x2 5 inb_S8_S1_5 = x2 (ix1 5) from rd8_eq _ _ _ 5 _, show rd8 arg2 harg2 x2 6 inb_S8_S1_6 = x2 (ix1 6) from rd8_eq _ _ _ 6 _, show rd8 arg2 harg2 x2 7 inb_S8_S1_7 = x2 (ix1 7) from rd8_eq _ _ _ 7 _]
  rfl

/-- The scales of the values. -/
theorem clean10 : (bodyRun c arg0 harg0 arg1 harg1 arg2 harg2 arg3 harg3 arg4 harg4 arg5 harg5 arg8 harg8 arg9 harg9 arg10 harg10 arg11 harg11 arg12 harg12 arg13 harg13 arg14 harg14 x0 x1 x2 x3 x4 x5 fh0 fh1 k0_hw1 k0_hw2 k0_hw3 k0_hw4).val.2.2.2.2 = [⟨Rect.unit (s := S1x8) ![0, 0] S1x8.size inb_S1x8_S1x8_0_0, outScale x2⟩] := by
  rw [pieces10, show rd8 arg2 harg2 x2 0 inb_S8_S1_0 = x2 (ix1 0) from rd8_eq _ _ _ 0 _, show rd8 arg2 harg2 x2 1 inb_S8_S1_1 = x2 (ix1 1) from rd8_eq _ _ _ 1 _, show rd8 arg2 harg2 x2 2 inb_S8_S1_2 = x2 (ix1 2) from rd8_eq _ _ _ 2 _, show rd8 arg2 harg2 x2 3 inb_S8_S1_3 = x2 (ix1 3) from rd8_eq _ _ _ 3 _, show rd8 arg2 harg2 x2 4 inb_S8_S1_4 = x2 (ix1 4) from rd8_eq _ _ _ 4 _, show rd8 arg2 harg2 x2 5 inb_S8_S1_5 = x2 (ix1 5) from rd8_eq _ _ _ 5 _, show rd8 arg2 harg2 x2 6 inb_S8_S1_6 = x2 (ix1 6) from rd8_eq _ _ _ 6 _, show rd8 arg2 harg2 x2 7 inb_S8_S1_7 = x2 (ix1 7) from rd8_eq _ _ _ 7 _]
  rfl

end

end Cert.KernelIdeal.Hand

end

end
-- ==== Proof.KI.Frame.lean ====
/- The frame of the idealized program. -/
module

public import proofs.«01_k».proof.Proof.KI.Loads
public import Idealize.ShloMosaic.Lib.Claim
public import Idealize.ShloMosaic.Lib.Pipeline.ValueKit
public import Idealize.ShloMosaic.Lib.VecWindow

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)
/-! ## The pipeline's proof data -/

/-- The attention output, entry by entry: the block its row lies in, read at the row's place there. -/
def outFull (x0 : Vec F S4 .i32) (x1 x2 : Vec F S8 .i32) (x3 : Vec F S4x4x32x64 .bf16) (x4 x5 : Vec F S4x4x8x64 .bf16)
    (A B : Vec F S4x512x131072 .fp8e4m3) : FVec F S4x4x32x64 .bf16 := fun y =>
  outBlk x0 x1 x2 x3 x4 x5 A B (y 0) ⟨(y 2).val / 16, by have h : (y 2).val < 32 := (y 2).isLt; omega⟩
    (ValueIdx.ix4 0 (y 1) ⟨(y 2).val % 16, Nat.mod_lt _ (by decide)⟩ (y 3))

/-- A block's entry is the output's entry at the block's place. -/
theorem outFull_at (x0 : Vec F S4 .i32) (x1 x2 : Vec F S8 .i32) (x3 : Vec F S4x4x32x64 .bf16) (x4 x5 : Vec F S4x4x8x64 .bf16)
    (A B : Vec F S4x512x131072 .fp8e4m3) (b : Fin 4) (j : Fin 2) (y : S4x4x32x64.Idx) (x : S1x4x16x64.Idx)
    (h0 : (y 0).val = b.val) (h1 : (y 1).val = (x 1).val) (h2 : (y 2).val = 16 * j.val + (x 2).val) (h3 : (y 3).val = (x 3).val) :
    outBlk x0 x1 x2 x3 x4 x5 A B b j x = outFull x0 x1 x2 x3 x4 x5 A B y := by
  have l2 : (x 2).val < 16 := (x 2).isLt
  have l0 : (x 0).val < 1 := (x 0).isLt
  have e0 : y 0 = b := Fin.ext h0
  have e2 : ∀ h, (⟨(y 2).val / 16, h⟩ : Fin 2) = j := fun h => Fin.ext (by show (y 2).val / 16 = j.val; omega)
  unfold outFull
  rw [e0, e2]
  congr 1
  funext a
  match a with
  | ⟨0, _⟩ => exact Fin.ext (by show (x 0).val = 0; omega)
  | ⟨1, _⟩ => exact Fin.ext h1.symm
  | ⟨2, _⟩ => exact Fin.ext (by show (x 2).val = (y 2).val % 16; omega)
  | ⟨3, _⟩ => exact Fin.ext h3.symm

/-- The eight stores leave the attention output, whatever the buffer held. -/
theorem read_outPieces {c : Dev nD} (M : Memref sig .tc .vmem S4x4x32x64 .bf16) (f : Buf (Elt F) (M.view.loc (c : Thread nD τ)))
    (x0 : Vec F S4 .i32) (x1 x2 : Vec F S8 .i32) (x3 : Vec F S4x4x32x64 .bf16) (x4 x5 : Vec F S4x4x8x64 .bf16)
    (A B : Vec F S4x512x131072 .fp8e4m3) :
    M.view.read (Elt F) (M.view.writes (Elt F) f (outPieces x0 x1 x2 x3 x4 x5 A B)) = outFull x0 x1 x2 x3 x4 x5 A B := by
  funext y
  refine View.read_writes_apply_of_pieces M.view f _ _ ?_ y (View.cover_of_tiled _ ![1, 4, 16, 64] (by rfl) y)
  intro p hp
  unfold outPieces at hp
  simp only [List.mem_cons, List.not_mem_nil, or_false] at hp
  rcases hp with rfl | rfl | rfl | rfl | rfl | rfl | rfl | rfl
  · intro x; have l0 : (x 0).val < 1 := (x 0).isLt
    exact outFull_at x0 x1 x2 x3 x4 x5 A B 3 1 _ x (by simp [Rect.unit, Rect.emb]) (by simp [Rect.unit, Rect.emb]) (by simp [Rect.unit, Rect.emb]) (by simp [Rect.unit, Rect.emb])
  · intro x; have l0 : (x 0).val < 1 := (x 0).isLt
    exact outFull_at x0 x1 x2 x3 x4 x5 A B 3 0 _ x (by simp [Rect.unit, Rect.emb]) (by simp [Rect.unit, Rect.emb]) (by simp [Rect.unit, Rect.emb]) (by simp [Rect.unit, Rect.emb])
  · intro x; have l0 : (x 0).val < 1 := (x 0).isLt
    exact outFull_at x0 x1 x2 x3 x4 x5 A B 2 1 _ x (by simp [Rect.unit, Rect.emb]) (by simp [Rect.unit, Rect.emb]) (by simp [Rect.unit, Rect.emb]) (by simp [Rect.unit, Rect.emb])
  · intro x; have l0 : (x 0).val < 1 := (x 0).isLt
    exact outFull_at x0 x1 x2 x3 x4 x5 A B 2 0 _ x (by simp [Rect.unit, Rect.emb]) (by simp [Rect.unit, Rect.emb]) (by simp [Rect.unit, Rect.emb]) (by simp [Rect.unit, Rect.emb])
  · intro x; have l0 : (x 0).val < 1 := (x 0).isLt
    exact outFull_at x0 x1 x2 x3 x4 x5 A B 1 1 _ x (by simp [Rect.unit, Rect.emb]) (by simp [Rect.unit, Rect.emb]) (by simp [Rect.unit, Rect.emb]) (by simp [Rect.unit, Rect.emb])
  · intro x; have l0 : (x 0).val < 1 := (x 0).isLt
    exact outFull_at x0 x1 x2 x3 x4 x5 A B 1 0 _ x (by simp [Rect.unit, Rect.emb]) (by simp [Rect.unit, Rect.emb]) (by simp [Rect.unit, Rect.emb]) (by simp [Rect.unit, Rect.emb])
  · intro x; have l0 : (x 0).val < 1 := (x 0).isLt
    exact outFull_at x0 x1 x2 x3 x4 x5 A B 0 1 _ x (by simp [Rect.unit, Rect.emb]) (by simp [Rect.unit, Rect.emb]) (by simp [Rect.unit, Rect.emb]) (by simp [Rect.unit, Rect.emb])
  · intro x; have l0 : (x 0).val < 1 := (x 0).isLt
    exact outFull_at x0 x1 x2 x3 x4 x5 A B 0 0 _ x (by simp [Rect.unit, Rect.emb]) (by simp [Rect.unit, Rect.emb]) (by simp [Rect.unit, Rect.emb]) (by simp [Rect.unit, Rect.emb])

/-- The proof data of the one pipeline on core `c`: the arrays as the region finds them (`V`); after the body at
    point `t` each input's buffer at its block and the outputs at the functions of the blocks the body stores; the invariant
    (Lib/Pipeline/Frame.lean `ΦD`: the scoped rest, the generator register, the own cells at zero, the HBM operands at
    their launch contents); nothing owed; full shares. -/
def dats (hH : Hyps m) (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outFull (iblk m c 0 t) (iblk m c 1 t) (iblk m c 2 t) (iblk m c 3 t) (iblk m c 4 t) (iblk m c 5 t) (V m c main_v1) (V m c main_v3)
    | ⟨7, _⟩ => outCodes (iblk m c 1 t) (iblk m c 4 t)
    | ⟨8, _⟩ => outScale (iblk m c 1 t)
    | ⟨9, _⟩ => outCodes (iblk m c 2 t) (iblk m c 5 t)
    | ⟨10, _⟩ => outScale (iblk m c 2 t)
  Φ _ := Pipeline.ΦD osem0 spec0 H0 (V m) c
  q _ := fullShare
  owed _ := 0

/-- The proof data's arrays are the region-entry contents: the proof data's definition projected (`dsimp`), so that
    `V` — a fold over @main's host prefix, long for some programs — is never unfolded to check it. -/
theorem A_eq (hH : Hyps m) (c : Dev nD) (w : Fin cfg0.W) : (dats m hH 0 c).A w = V m c (Pipeline.arrRef spec0 w) := by
  dsimp only [dats]

/-- What the body leaves, window by window (the proof data's `match` reduced by `dsimp`). -/
theorem after0_0 (hH : Hyps m) (c : Dev nD) (t : Fin cfg0.N) : (dats m hH 0 c).after 0 t = iblk m c 0 t := by dsimp only [dats]
/-- The body leaves input window 1 as it was. -/
theorem after0_1 (hH : Hyps m) (c : Dev nD) (t : Fin cfg0.N) : (dats m hH 0 c).after 1 t = iblk m c 1 t := by dsimp only [dats]
/-- The body leaves input window 2 as it was. -/
theorem after0_2 (hH : Hyps m) (c : Dev nD) (t : Fin cfg0.N) : (dats m hH 0 c).after 2 t = iblk m c 2 t := by dsimp only [dats]
/-- The body leaves input window 3 as it was. -/
theorem after0_3 (hH : Hyps m) (c : Dev nD) (t : Fin cfg0.N) : (dats m hH 0 c).after 3 t = iblk m c 3 t := by dsimp only [dats]
/-- The body leaves input window 4 as it was. -/
theorem after0_4 (hH : Hyps m) (c : Dev nD) (t : Fin cfg0.N) : (dats m hH 0 c).after 4 t = iblk m c 4 t := by dsimp only [dats]
/-- The body leaves input window 5 as it was. -/
theorem after0_5 (hH : Hyps m) (c : Dev nD) (t : Fin cfg0.N) : (dats m hH 0 c).after 5 t = iblk m c 5 t := by dsimp only [dats]
/-- The attention output after the body: the eight blocks. -/
theorem after0_6 (hH : Hyps m) (c : Dev nD) (t : Fin cfg0.N) : (dats m hH 0 c).after 6 t = outFull (iblk m c 0 t) (iblk m c 1 t) (iblk m c 2 t) (iblk m c 3 t) (iblk m c 4 t) (iblk m c 5 t) (V m c main_v1) (V m c main_v3) := by dsimp only [dats]
/-- The key codes after the body. -/
theorem after0_7 (hH : Hyps m) (c : Dev nD) (t : Fin cfg0.N) : (dats m hH 0 c).after 7 t = outCodes (iblk m c 1 t) (iblk m c 4 t) := by dsimp only [dats]
/-- The key scales after the body. -/
theorem after0_8 (hH : Hyps m) (c : Dev nD) (t : Fin cfg0.N) : (dats m hH 0 c).after 8 t = outScale (iblk m c 1 t) := by dsimp only [dats]
/-- The value codes after the body. -/
theorem after0_9 (hH : Hyps m) (c : Dev nD) (t : Fin cfg0.N) : (dats m hH 0 c).after 9 t = outCodes (iblk m c 2 t) (iblk m c 5 t) := by dsimp only [dats]
/-- The value scales after the body. -/
theorem after0_10 (hH : Hyps m) (c : Dev nD) (t : Fin cfg0.N) : (dats m hH 0 c).after 10 t = outScale (iblk m c 2 t) := by dsimp only [dats]

/-- Each input's current staging buffer holds its block at every point, fetched there or not (`beforeK_W_of`). -/
theorem before0_0 (hH : Hyps m) (c : Dev nD) (t : Fin cfg0.N) (d) : (dats m hH 0 c).before 0 t d = iblk m c 0 t :=
  before0_0_of m (dats m hH 0 c) (A_eq m hH c 0) (after0_0 m hH c) t d
/-- Input window 1 holds its block before the body runs. -/
theorem before0_1 (hH : Hyps m) (c : Dev nD) (t : Fin cfg0.N) (d) : (dats m hH 0 c).before 1 t d = iblk m c 1 t :=
  before0_1_of m (dats m hH 0 c) (A_eq m hH c 1) (after0_1 m hH c) t d
/-- Input window 2 holds its block before the body runs. -/
theorem before0_2 (hH : Hyps m) (c : Dev nD) (t : Fin cfg0.N) (d) : (dats m hH 0 c).before 2 t d = iblk m c 2 t :=
  before0_2_of m (dats m hH 0 c) (A_eq m hH c 2) (after0_2 m hH c) t d
/-- Input window 3 holds its block before the body runs. -/
theorem before0_3 (hH : Hyps m) (c : Dev nD) (t : Fin cfg0.N) (d) : (dats m hH 0 c).before 3 t d = iblk m c 3 t :=
  before0_3_of m (dats m hH 0 c) (A_eq m hH c 3) (after0_3 m hH c) t d
/-- Input window 4 holds its block before the body runs. -/
theorem before0_4 (hH : Hyps m) (c : Dev nD) (t : Fin cfg0.N) (d) : (dats m hH 0 c).before 4 t d = iblk m c 4 t :=
  before0_4_of m (dats m hH 0 c) (A_eq m hH c 4) (after0_4 m hH c) t d
/-- Input window 5 holds its block before the body runs. -/
theorem before0_5 (hH : Hyps m) (c : Dev nD) (t : Fin cfg0.N) (d) : (dats m hH 0 c).before 5 t d = iblk m c 5 t :=
  before0_5_of m (dats m hH 0 c) (A_eq m hH c 5) (after0_5 m hH c) t d

/-! ## The body obligation, at a generic point -/

/-- What the body is called with at point `t` (Lib/Pipeline.lean `BodyObligation`'s precondition, the windows one by one), -/
def bodyPre (hH : Hyps m) (c : Dev nD) (t : Fin cfg0.N) : sProp 𝕄 :=
  iprop((dats m hH 0 c).Φ t.castSucc ∗ (dats m hH 0 c).owesAt () t.castSucc
    ∗ (∃ d, owns (c : Thread nD τ) (ms0_0 t) fullShare ((dats m hH 0 c).before 0 t d))
    ∗ (∃ d, owns (c : Thread nD τ) (ms0_1 t) fullShare ((dats m hH 0 c).before 1 t d))
    ∗ (∃ d, owns (c : Thread nD τ) (ms0_2 t) fullShare ((dats m hH 0 c).before 2 t d))
    ∗ (∃ d, owns (c : Thread nD τ) (ms0_3 t) fullShare ((dats m hH 0 c).before 3 t d))
    ∗ (∃ d, owns (c : Thread nD τ) (ms0_4 t) fullShare ((dats m hH 0 c).before 4 t d))
    ∗ (∃ d, owns (c : Thread nD τ) (ms0_5 t) fullShare ((dats m hH 0 c).before 5 t d))
    ∗ (∃ d, owns (c : Thread nD τ) (ms0_6 t) fullShare ((dats m hH 0 c).before 6 t d))
    ∗ (∃ d, owns (c : Thread nD τ) (ms0_7 t) fullShare ((dats m hH 0 c).before 7 t d))
    ∗ (∃ d, owns (c : Thread nD τ) (ms0_8 t) fullShare ((dats m hH 0 c).before 8 t d))
    ∗ (∃ d, owns (c : Thread nD τ) (ms0_9 t) fullShare ((dats m hH 0 c).before 9 t d))
    ∗ (∃ d, owns (c : Thread nD τ) (ms0_10 t) fullShare ((dats m hH 0 c).before 10 t d)))

/-- and what it returns. -/
def bodyPost (hH : Hyps m) (c : Dev nD) (t : Fin cfg0.N) : sProp 𝕄 :=
  iprop((dats m hH 0 c).Φ t.succ ∗ (dats m hH 0 c).owesAt () t.succ
    ∗ owns (c : Thread nD τ) (ms0_0 t) fullShare ((dats m hH 0 c).after 0 t)
    ∗ owns (c : Thread nD τ) (ms0_1 t) fullShare ((dats m hH 0 c).after 1 t)
    ∗ owns (c : Thread nD τ) (ms0_2 t) fullShare ((dats m hH 0 c).after 2 t)
    ∗ owns (c : Thread nD τ) (ms0_3 t) fullShare ((dats m hH 0 c).after 3 t)
    ∗ owns (c : Thread nD τ) (ms0_4 t) fullShare ((dats m hH 0 c).after 4 t)
    ∗ owns (c : Thread nD τ) (ms0_5 t) fullShare ((dats m hH 0 c).after 5 t)
    ∗ owns (c : Thread nD τ) (ms0_6 t) fullShare ((dats m hH 0 c).after 6 t)
    ∗ owns (c : Thread nD τ) (ms0_7 t) fullShare ((dats m hH 0 c).after 7 t)
    ∗ owns (c : Thread nD τ) (ms0_8 t) fullShare ((dats m hH 0 c).after 8 t)
    ∗ owns (c : Thread nD τ) (ms0_9 t) fullShare ((dats m hH 0 c).after 9 t)
    ∗ owns (c : Thread nD τ) (ms0_10 t) fullShare ((dats m hH 0 c).after 10 t))

set_option maxHeartbeats 1200000 in
/-- The body at any point: the inputs' memrefs hold their blocks (`before0_W`); so the
    run applies; the invariant (`PhiD0_eq`) hands the body its scratch, the register, its DMA cells at zero and the HBM operands, and takes them back as they were; the core's `owes` goes in at whatever the points before recorded and comes back with this point's waits, within the next point's bound (everything). -/
theorem sound_body (hH : Hyps m) (c : Dev nD) (t : Fin cfg0.N) :
    bodyPre m hH c t ⊢ wp frame (wpE (defs₀ (F := F)) Variants.none c none) Set.univ (bodyAt0 t) (fun _ => bodyPost m hH c t) := by
  unfold bodyPre bodyPost bodyAt0
  simp only [before0_0, before0_1, before0_2, before0_3, before0_4, before0_5]
  rw [show (dats m hH 0 c).Φ t.succ = (dats m hH 0 c).Φ t.castSucc from rfl,
    after0_0, after0_1, after0_2, after0_3, after0_4, after0_5, after0_6, after0_7, after0_8, after0_9, after0_10]
  rw [show (dats m hH 0 c).Φ t.castSucc = Pipeline.ΦD osem0 spec0 H0 (V m) c from rfl, PhiD0_eq]
  unfold Dat.owesAt Pipeline.owesWithin
  rw [show (dats m hH 0 c).owed t.castSucc = 0 from rfl, show (dats m hH 0 c).owed t.succ = 0 from rfl]
  iintro ⟨⟨⟨HS0, HS1⟩, Hg, ⟨Hq0, Hq1, Hq2, Hq3, Hq4, Hq5, Hq6, Hq7⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((bodyRun c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (V m c main_v1) (V m c main_v3) (Hyps.c0 hH c t) (Hyps.c1 hH c t) (Hyps.c2 hH c t) (Hyps.c3 hH c t)).property W _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [HS0]; · iexact HS0
  isplitl [HS1]; · iexact HS1
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hh0]; · iexact Hh0
  isplitl [Hh1]; · iexact Hh1
  isplitl [HW]; · iexact HW
  iintro ⟨H0, H1, H2, H3, H4, H5, ⟨%g0, %g1, %f6, H6⟩, ⟨%f7, H7⟩, ⟨%f8, H8⟩, ⟨%f9, H9⟩, ⟨%f10, H10⟩, HS0, HS1, Hq0, Hq1, Hq2, Hq3, Hq4, Hq5, Hq6, Hq7, Hh0, Hh1, ⟨%W', HW'⟩⟩
  rw [clean6, read_outPieces (c := c), clean7, View.read_writes_full, clean8, View.read_writes_full, clean9, View.read_writes_full, clean10, View.read_writes_full]
  isplitl [HS0 HS1 Hg Hq0 Hq1 Hq2 Hq3 Hq4 Hq5 Hq6 Hq7 Hh0 Hh1]
  · isplitl [HS0 HS1]
    · isplitl [HS0]; · iexact HS0
      iexact HS1
    isplitl [Hg]
    · iexact Hg
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitl [Hh0]; · iexact Hh0
    iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (hH : Hyps m) (c : Dev nD) : BodyObligation (dats (F := F) m hH 0 c) (defs₀ (F := F)) Variants.none () Set.univ := fun t => by
  rw [bigSep_W0, bigSep_W0, defs₀_row]
  exact triple_restated (sound_body m hH c t) rfl .rfl fun _ => .rfl

/-! ## The run and the frame -/

-- the launch lemma's implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hH : Hyps m) : θ_run defs (onTc (τ := τ) (main (F := F))) (s₀ m ρ) (fun r => (Pipeline.FramePost cfgs (dats m hH) 0 (V m)) r ∧ r.2.sem = fun _ => 0) :=
  Pipeline.θ_run_frame_dma (Q' := _) cfgs (dats m hH) (0 : Fin 1) launch0 osem0 defs₀ Variants.none ownSemFacts0 H0 H0_sub m ρ main
    (hbody := fun c => (body_obligation m hH c).loose) (hshare := fun c => (dats m hH 0 c).share_full fun _ => rfl)
    (howed := fun _ _ => rfl) (V := V m) (hmain := hmain m Variants.none) (hA := A_eq m hH) (hin := fun _ => .rfl) (hout := fun _ => .rfl)

/-- At the compiled mesh, for any values, from any memory with zero counters: every weakly fair execution of @main on the
    TensorCores terminates, and every final state has every array of the pipeline at what the proof data says and every other
    unscoped buffer at its region-entry contents. -/
theorem run_main (hH : Hyps m) : θ_run defs (onTc (τ := τ) (main (F := F))) (s₀ m ρ) (Pipeline.FramePost cfgs (dats m hH) 0 (V m)) :=
  (θ_run defs _ _).mono (fun _ h => h.1) (run_main_quiescent m ρ hH)

/-- `frame` without the counters: the argument arrays end unchanged. -/
theorem unchanged (hH : Hyps m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (fun c => (dats m hH 0 c).toR) (A_eq m hH)
    ((θ_run defs _ _).mono (fun _ h c => ⟨fun w => ((dats m hH 0 c).toR_arrAt_iff w _ _).2 ((h c).1 w), (h c).2⟩) (run_main m ρ hH))

/-- The frame, at any reading of the floats: every run ends without fault and leaves the eight arguments as they were, given the
    side conditions of the copies at every point. -/
theorem frame (hH : Hyps m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ hH) ((θ_run defs _ _).mono (fun _ h => h.2) (run_main_quiescent m ρ hH))

/-! ## The result arrays after the run -/

/-- The windows' blocks, all at the origin. -/
theorem idx : ∀ t : Fin cfg0.N, win0_0.index t = ![0] ∧ win0_1.index t = ![0] ∧ win0_2.index t = ![0] ∧ win0_3.index t = ![0, 0, 0, 0] ∧ win0_4.index t = ![0, 0, 0, 0] ∧ win0_5.index t = ![0, 0, 0, 0]
    ∧ win0_6.index t = ![0, 0, 0, 0] ∧ win0_7.index t = ![0, 0, 0, 0] ∧ win0_8.index t = ![0, 0] ∧ win0_9.index t = ![0, 0, 0, 0] ∧ win0_10.index t = ![0, 0] :=
  (by decide +kernel : ∀ t : Fin grid0.N, _)

/-- The one block of window 0 is its argument array. -/
theorem iblk0 (c : Dev nD) (t : Fin cfg0.N) : (iblk m c 0 t : Vec F S4 .i32) = m ((c.tc : Thread nD τ).loc main_arg5) := by
  refine Eq.trans ?_ (V_main_arg5 m c)
  funext y
  blk_ext [iblk, idx t]

/-- The one block of window 1 is its argument array. -/
theorem iblk1 (c : Dev nD) (t : Fin cfg0.N) : (iblk m c 1 t : Vec F S8 .i32) = m ((c.tc : Thread nD τ).loc main_arg6) := by
  refine Eq.trans ?_ (V_main_arg6 m c)
  funext y
  blk_ext [iblk, idx t]

/-- The one block of window 2 is its argument array. -/
theorem iblk2 (c : Dev nD) (t : Fin cfg0.N) : (iblk m c 2 t : Vec F S8 .i32) = m ((c.tc : Thread nD τ).loc main_arg7) := by
  refine Eq.trans ?_ (V_main_arg7 m c)
  funext y
  blk_ext [iblk, idx t]

/-- The one block of window 3 is its argument array. -/
theorem iblk3 (c : Dev nD) (t : Fin cfg0.N) : (iblk m c 3 t : Vec F S4x4x32x64 .bf16) = m ((c.tc : Thread nD τ).loc main_arg0) := by
  refine Eq.trans ?_ (V_main_arg0 m c)
  funext y
  blk_ext [iblk, idx t]

/-- The one block of window 4 is its argument array. -/
theorem iblk4 (c : Dev nD) (t : Fin cfg0.N) : (iblk m c 4 t : Vec F S4x4x8x64 .bf16) = m ((c.tc : Thread nD τ).loc main_arg1) := by
  refine Eq.trans ?_ (V_main_arg1 m c)
  funext y
  blk_ext [iblk, idx t]

/-- The one block of window 5 is its argument array. -/
theorem iblk5 (c : Dev nD) (t : Fin cfg0.N) : (iblk m c 5 t : Vec F S4x4x8x64 .bf16) = m ((c.tc : Thread nD τ).loc main_arg2) := by
  refine Eq.trans ?_ (V_main_arg2 m c)
  funext y
  blk_ext [iblk, idx t]

/-- After the run window 6's array holds the attention output. -/
theorem final6 (hH : Hyps m) (c : Dev nD) : (dats m hH 0 c).arrAt 6 (cfgs 0).N = outFull (m ((c.tc : Thread nD τ).loc main_arg5)) (m ((c.tc : Thread nD τ).loc main_arg6)) (m ((c.tc : Thread nD τ).loc main_arg7)) (m ((c.tc : Thread nD τ).loc main_arg0)) (m ((c.tc : Thread nD τ).loc main_arg1)) (m ((c.tc : Thread nD τ).loc main_arg2)) (V m c main_v1) (V m c main_v3) := by
  refine (dats m hH 0 c).arrAt_eq_of_after_last 6 t0_0 (by decide +kernel) _ fun j => ?_
  blk_simp
  rw [after0_6, iblk0, iblk1, iblk2, iblk3, iblk4, iblk5]

/-- After the run window 7's array holds the keys' codes. -/
theorem final7 (hH : Hyps m) (c : Dev nD) : (dats m hH 0 c).arrAt 7 (cfgs 0).N = outCodes (m ((c.tc : Thread nD τ).loc main_arg6)) (m ((c.tc : Thread nD τ).loc main_arg1)) := by
  refine (dats m hH 0 c).arrAt_eq_of_after_last 7 t0_0 (by decide +kernel) _ fun j => ?_
  blk_simp
  rw [after0_7, iblk1, iblk4]

/-- After the run window 8's array holds the keys' scales. -/
theorem final8 (hH : Hyps m) (c : Dev nD) : (dats m hH 0 c).arrAt 8 (cfgs 0).N = outScale (m ((c.tc : Thread nD τ).loc main_arg6)) := by
  refine (dats m hH 0 c).arrAt_eq_of_after_last 8 t0_0 (by decide +kernel) _ fun j => ?_
  blk_simp
  rw [after0_8, iblk1]

/-- After the run window 9's array holds the values' codes. -/
theorem final9 (hH : Hyps m) (c : Dev nD) : (dats m hH 0 c).arrAt 9 (cfgs 0).N = outCodes (m ((c.tc : Thread nD τ).loc main_arg7)) (m ((c.tc : Thread nD τ).loc main_arg2)) := by
  refine (dats m hH 0 c).arrAt_eq_of_after_last 9 t0_0 (by decide +kernel) _ fun j => ?_
  blk_simp
  rw [after0_9, iblk2, iblk5]

/-- After the run window 10's array holds the values' scales. -/
theorem final10 (hH : Hyps m) (c : Dev nD) : (dats m hH 0 c).arrAt 10 (cfgs 0).N = outScale (m ((c.tc : Thread nD τ).loc main_arg7)) := by
  refine (dats m hH 0 c).arrAt_eq_of_after_last 10 t0_0 (by decide +kernel) _ fun j => ?_
  blk_simp
  rw [after0_10, iblk2]

end Cert.KernelIdeal.Hand

end
-- ==== Proof.Checks.lean ====
/- The side conditions that the kernel's body assumes of the words of `cache_lens` hold for every word: the start of each
   copied span is clipped into the cache and is a multiple of 128. -/
module

public import proofs.«01_k».proof.Proof.K.Runs
public import proofs.«01_k».proof.Proof.KI.Runs

@[expose] public section

namespace Cert.Checks

open Idealize.ShloMosaic

/-- The start of the copied span, as the kernel computes it from a length. -/
def start (v : BitVec 32) : BitVec 32 :=
  Scalar.minsi 129920#32 (Scalar.maxsi 0#32 (Scalar.shli (Scalar.shrsi (Scalar.addi (Scalar.subi v 1024#32) 1#32) 7#32) 7#32))

/-- The first visible position of a length, rounded down to a multiple of 128, as an integer. -/
theorem round_toInt (w : BitVec 32) :
    (Scalar.shli (Scalar.shrsi w 7#32) 7#32).toInt = w.toInt / 128 * 128 := by
  have hs : (w.sshiftRight 7).toInt = w.toInt / 128 := by
    rw [BitVec.toInt_sshiftRight, Int.shiftRight_eq_div_pow]; rfl
  have e : Scalar.shli (Scalar.shrsi w 7#32) 7#32 = w.sshiftRight 7 <<< 7 := rfl
  have h1 : -2147483648 ≤ w.toInt := by have := BitVec.le_toInt w; omega
  have h2 : w.toInt < 2147483648 := by have := BitVec.toInt_lt (x := w); omega
  rw [e, BitVec.shiftLeft_eq_mul_twoPow, BitVec.toInt_mul, hs,
    show (BitVec.twoPow 32 7).toInt = 128 by decide]
  rw [Int.bmod_def]
  split <;> omega

/-- The start of the span is that position clipped into `[0, 129920]`. -/
theorem start_toInt (v : BitVec 32) :
    (start v).toInt = min 129920 (max 0 ((v - 1024#32 + 1#32).toInt / 128 * 128)) := by
  have hm : ∀ x y : BitVec 32, (Scalar.minsi x y).toInt = min x.toInt y.toInt := fun x y => by
    simp only [Scalar.minsi, IntOp.minsi, BitVec.slt_iff_toInt_lt]; split <;> omega
  have hM : ∀ x y : BitVec 32, (Scalar.maxsi x y).toInt = max x.toInt y.toInt := fun x y => by
    simp only [Scalar.maxsi, IntOp.maxsi, BitVec.slt_iff_toInt_lt]; split <;> omega
  unfold start
  rw [hm, hM, round_toInt]; rfl

/-- The same as a natural number. -/
theorem start_toNat (v : BitVec 32) :
    ((start v).toNat : ℤ) = min 129920 (max 0 ((v - 1024#32 + 1#32).toInt / 128 * 128)) := by
  have h := start_toInt v
  have h0 := BitVec.toInt_eq_toNat_cond (start v)
  have h1 := (start v).isLt
  split at h0 <;> omega

/-- The clamped start leaves room for a whole window of 1152 positions. -/
theorem start_le (v : BitVec 32) : (start v).toNat ≤ 129920 := by
  have := start_toNat v; omega

/-- The start is a multiple of 128, the alignment the copy asks for. -/
theorem dvd_start (v : BitVec 32) : 128 ∣ (start v).toNat := by
  have := start_toNat v; omega

/-- A span that starts there lies inside the cache. -/
theorem inb {n : ℕ} (hn : n + 1 ≤ 4) (v : BitVec 32) :
    ∀ a : Fin 3, (![n, 0, (start v).toNat] : Fin 3 → ℕ) a + (![1, 512, 1152] : Fin 3 → ℕ) a ≤ (![4, 512, 131072] : Fin 3 → ℕ) a := by
  have := start_le v
  intro a; fin_cases a <;> simp <;> omega

/-- The conditions assumed of the length of batch row 0. -/
theorem kernel_chk1 (v : BitVec 32) : Cert.Kernel.k0_chk1 v :=
  ⟨dvd_start v, inb (by omega) v, fun _ => .inl (.inr ⟨by decide, rfl, .inl ⟨by exact Nat.dvd_zero _, by exact ⟨128, rfl⟩⟩⟩),
    inb (by omega) v, fun _ => .inl (.inr ⟨by decide, rfl, .inl ⟨by exact Nat.dvd_zero _, by exact ⟨128, rfl⟩⟩⟩)⟩

/-- The conditions assumed of the length of batch row 1. -/
theorem kernel_chk2 (v : BitVec 32) : Cert.Kernel.k0_chk2 v :=
  ⟨dvd_start v, inb (by omega) v, fun _ => .inl (.inr ⟨by decide, rfl, .inl ⟨by exact Nat.dvd_zero _, by exact ⟨128, rfl⟩⟩⟩),
    inb (by omega) v, fun _ => .inl (.inr ⟨by decide, rfl, .inl ⟨by exact Nat.dvd_zero _, by exact ⟨128, rfl⟩⟩⟩)⟩

/-- The conditions assumed of the length of batch row 2. -/
theorem kernel_chk3 (v : BitVec 32) : Cert.Kernel.k0_chk3 v :=
  ⟨dvd_start v, inb (by omega) v, fun _ => .inl (.inr ⟨by decide, rfl, .inl ⟨by exact Nat.dvd_zero _, by exact ⟨128, rfl⟩⟩⟩),
    inb (by omega) v, fun _ => .inl (.inr ⟨by decide, rfl, .inl ⟨by exact Nat.dvd_zero _, by exact ⟨128, rfl⟩⟩⟩)⟩

/-- The conditions assumed of the length of batch row 3. -/
theorem kernel_chk4 (v : BitVec 32) : Cert.Kernel.k0_chk4 v :=
  ⟨dvd_start v, inb (by omega) v, fun _ => .inl (.inr ⟨by decide, rfl, .inl ⟨by exact Nat.dvd_zero _, by exact ⟨128, rfl⟩⟩⟩)⟩

/-- The conditions assumed of the length of batch row 0. -/
theorem kernelIdeal_chk1 (v : BitVec 32) : Cert.KernelIdeal.k0_chk1 v :=
  ⟨dvd_start v, inb (by omega) v, fun _ => .inl (.inr ⟨by decide, rfl, .inl ⟨by exact Nat.dvd_zero _, by exact ⟨128, rfl⟩⟩⟩),
    inb (by omega) v, fun _ => .inl (.inr ⟨by decide, rfl, .inl ⟨by exact Nat.dvd_zero _, by exact ⟨128, rfl⟩⟩⟩)⟩

/-- The conditions assumed of the length of batch row 1. -/
theorem kernelIdeal_chk2 (v : BitVec 32) : Cert.KernelIdeal.k0_chk2 v :=
  ⟨dvd_start v, inb (by omega) v, fun _ => .inl (.inr ⟨by decide, rfl, .inl ⟨by exact Nat.dvd_zero _, by exact ⟨128, rfl⟩⟩⟩),
    inb (by omega) v, fun _ => .inl (.inr ⟨by decide, rfl, .inl ⟨by exact Nat.dvd_zero _, by exact ⟨128, rfl⟩⟩⟩)⟩

/-- The conditions assumed of the length of batch row 2. -/
theorem kernelIdeal_chk3 (v : BitVec 32) : Cert.KernelIdeal.k0_chk3 v :=
  ⟨dvd_start v, inb (by omega) v, fun _ => .inl (.inr ⟨by decide, rfl, .inl ⟨by exact Nat.dvd_zero _, by exact ⟨128, rfl⟩⟩⟩),
    inb (by omega) v, fun _ => .inl (.inr ⟨by decide, rfl, .inl ⟨by exact Nat.dvd_zero _, by exact ⟨128, rfl⟩⟩⟩)⟩

/-- The conditions assumed of the length of batch row 3. -/
theorem kernelIdeal_chk4 (v : BitVec 32) : Cert.KernelIdeal.k0_chk4 v :=
  ⟨dvd_start v, inb (by omega) v, fun _ => .inl (.inr ⟨by decide, rfl, .inl ⟨by exact Nat.dvd_zero _, by exact ⟨128, rfl⟩⟩⟩)⟩

/-- All of them, at every memory. -/
theorem kernel_hyps {F : FTy → Type} [FloatOps F] (m : (ℓ : Loc Cert.Kernel.nD Cert.Kernel.τ Cert.Kernel.sig) → Buf (Elt F) ℓ) :
    Cert.Kernel.Hand.Hyps m :=
  Cert.Kernel.Hand.Hyps.of (fun _ _ => kernel_chk1 _) (fun _ _ => kernel_chk2 _) (fun _ _ => kernel_chk3 _) (fun _ _ => kernel_chk4 _)

/-- All of them, at every memory. -/
theorem kernelIdeal_hyps {F : FTy → Type} [FloatOps F] [Named F] (m : (ℓ : Loc Cert.KernelIdeal.nD Cert.KernelIdeal.τ Cert.KernelIdeal.sig) → Buf (Elt F) ℓ) :
    Cert.KernelIdeal.Hand.Hyps m :=
  Cert.KernelIdeal.Hand.Hyps.of (fun _ _ => kernelIdeal_chk1 _) (fun _ _ => kernelIdeal_chk2 _) (fun _ _ => kernelIdeal_chk3 _) (fun _ _ => kernelIdeal_chk4 _)

end Cert.Checks
-- ==== Proof.KI.Points.lean ====
module

public import proofs.«01_k».proof.Proof.KI.Block
public import Idealize.ShloMosaic.Lib.Pointwise
public import Idealize.ShloMosaic.Lib.WordCmp

@[expose] public section

set_option maxRecDepth 16384

noncomputable section

/-! The kernel's index vectors and movements, read at an index. -/

namespace Cert.KernelIdeal.Hand

open Idealize.ShloMosaic Idealize.ShloMosaic.TcCoe Idealize.SL.Sem Cert.KernelIdeal Cert.KernelIdeal.Gen

/-- The row of token `s`, head `h` of four and query `g` of four. -/
abbrev row (s h g : Fin 4) : Fin 64 := ⟨16 * s.val + 4 * h.val + g.val, by omega⟩

/-- The token of a row. -/
theorem rowS_at (s h g : Fin 4) (l : Fin 128) : rowS (ix2 (row s h g) l) = BitVec.ofNat 32 s.val := by
  pointwise [rowS, floorDiv, rowI]
  revert s h g
  decide +kernel

/-- The head of a row. -/
theorem rowH_at (s h g : Fin 4) (l : Fin 128) : rowH (ix2 (row s h g) l) = BitVec.ofNat 32 h.val := by
  pointwise [rowH, floorDiv, floorMod, rowI]
  revert s h g
  decide +kernel

/-- The parity of a row's head. -/
theorem rowH_mod_at (s h g : Fin 4) (l : Fin 128) :
    floorMod rowH 2#32 (ix2 (row s h g) l) = BitVec.ofNat 32 (h.val % 2) := by
  pointwise [rowH, floorDiv, floorMod, rowI]
  revert s h g
  decide +kernel

/-- The sequence of a lane. -/
theorem newB_at (r : Fin 64) (l : Fin 128) : newB (ix2 r l) = BitVec.ofNat 32 (l.val / 32) := by
  pointwise [newB, floorDiv, laneI]
  revert l
  decide +kernel

/-- The token of a lane. -/
theorem newT_at (r : Fin 64) (l : Fin 128) : newT (ix2 r l) = BitVec.ofNat 32 (l.val / 8 % 4) := by
  pointwise [newT, floorDiv, floorMod, laneI]
  revert l
  decide +kernel

/-- The head of a lane. -/
theorem newH_at (r : Fin 64) (l : Fin 128) : newH (ix2 r l) = BitVec.ofNat 32 (l.val % 8) := by
  pointwise [newH, floorMod, laneI]
  revert l
  decide +kernel

/-- The half of a lane. -/
theorem laneHalf_at (r : Fin 64) (l : Fin 128) : laneHalf (ix2 r l) = BitVec.ofNat 32 (l.val / 64) := by
  pointwise [laneHalf, floorDiv, laneI]
  revert l
  decide +kernel

/-- The token of a row, over the window's lanes. -/
theorem rowS_wide_at (s h g : Fin 4) (l : Fin 1152) :
    floorDiv (iota .tc S64x1152 32 [0] iota_S64x1152_d0_w32) 16#32 (ix2 (row s h g) l) = BitVec.ofNat 32 s.val := by
  pointwise [floorDiv]
  revert s h g
  decide +kernel

end Cert.KernelIdeal.Hand

end
-- ==== Proof.KI.Scale.lean ====
module

public import proofs.«01_k».proof.Proof.KI.Points
public import Idealize.ShloMosaic.Lib.IdealHost

@[expose] public section

set_option maxRecDepth 16384

noncomputable section

/-! The kernel's `2 ^ e`, two exponent fields multiplied, is the power the reference takes. -/

namespace Cert.KernelIdeal.Hand

open Idealize.ShloMosaic Idealize.ShloMosaic.TcCoe Idealize.SL.Sem Cert.KernelIdeal Cert.KernelIdeal.Gen

/-- `2 ^ e` as the reference takes it. -/
def powE (e : BitVec 32) : EReal := Ideal.pow (Ideal.ofBits .f32 0x40000000#32) (FloatOps.sitofp (F := Ideal) .f32 e)

/-- The pattern of the constant two. -/
theorem ofBits_two : Ideal.ofBits .f32 0x40000000#32 = ((2 : ℝ) : EReal) := by
  simp [Ideal.ofBits, Ideal.ieee, -EReal.coe_mul]
  norm_num

/-- The power is the real power. -/
theorem powE_eq (e : BitVec 32) : powE e = (((2 : ℝ) ^ e.toInt : ℝ) : EReal) := by
  have h : FloatOps.sitofp (F := Ideal) .f32 e = ((e.toInt : ℝ) : EReal) := rfl
  rw [powE, ofBits_two, h]
  show ((Real.rpow 2 (e.toInt : ℝ) : ℝ) : EReal) = _
  rw [Real.rpow_eq_pow, Real.rpow_intCast]

/-- The fields of a pattern that is an exponent field alone. -/
theorem field_parts : ∀ n : Fin 256, ((BitVec.ofNat 32 n.val <<< 23).extractLsb' 23 8).toNat = n.val
    ∧ ((BitVec.ofNat 32 n.val <<< 23).extractLsb' 31 1 == 1#1) = false
    ∧ ((BitVec.ofNat 32 n.val <<< 23).extractLsb' 0 23).toNat = 0 := by decide +kernel

/-- A pattern with no sign and no fraction is a power of two. -/
theorem ieee_field (w : BitVec 32) (n : ℕ) (a : (w.extractLsb' 23 8).toNat = n) (b : (w.extractLsb' 31 1 == 1#1) = false)
    (c : (w.extractLsb' 0 23).toNat = 0) (h1 : 1 ≤ n) (h2 : n ≤ 254) :
    Ideal.ofBits .f32 w = (((2 : ℝ) ^ ((n : ℤ) - 127) : ℝ) : EReal) := by
  simp only [Ideal.ofBits, Ideal.ieee, Nat.reduceAdd, a, b, c]
  rw [if_neg (by omega), if_neg (by omega)]
  congr 1
  simp only [Bool.false_eq_true, if_false, Nat.add_zero, one_mul]
  rw [show ((n : ℤ) - (2 ^ (8 - 1) - 1) - (23 : ℕ)) = ((n : ℤ) - 127) - 23 from by norm_num,
    zpow_sub₀ (two_ne_zero), Nat.cast_pow, Nat.cast_ofNat]
  norm_num
  field_simp

/-- A pattern that is an exponent field alone is a power of two. -/
theorem ofBits_field (n : Fin 256) (h1 : 1 ≤ n.val) (h2 : n.val ≤ 254) :
    Ideal.ofBits .f32 (BitVec.ofNat 32 n.val <<< 23) = (((2 : ℝ) ^ ((n.val : ℤ) - 127) : ℝ) : EReal) :=
  ieee_field _ n.val (field_parts n).1 (field_parts n).2.1 (field_parts n).2.2 h1 h2

/-- The word of an exponent field. -/
abbrev fieldWord (e : BitVec 32) : BitVec 32 :=
  IntOp.shli ArithUnit.vector (IntOp.addi (IntOp.minsi 127#32 (IntOp.maxsi 4294967170#32 e)) 127#32) 23#32

/-- The two fields of an exponent between -252 and 252. -/
theorem fields (k : Fin 505) :
    ∃ a b : Fin 256, (1 ≤ a.val ∧ a.val ≤ 254) ∧ (1 ≤ b.val ∧ b.val ≤ 254) ∧ a.val + b.val = k.val + 2
      ∧ fieldWord (IntOp.shrsi ArithUnit.vector (BitVec.ofInt 32 ((k.val : ℤ) - 252)) 1#32) = BitVec.ofNat 32 a.val <<< 23
      ∧ fieldWord (IntOp.subi (BitVec.ofInt 32 ((k.val : ℤ) - 252)) (IntOp.shrsi ArithUnit.vector (BitVec.ofInt 32 ((k.val : ℤ) - 252)) 1#32))
        = BitVec.ofNat 32 b.val <<< 23 := by
  have h : ∀ k : Fin 505, (1 ≤ (k.val + 2) / 2 ∧ (k.val + 2) / 2 ≤ 254)
      ∧ fieldWord (IntOp.shrsi ArithUnit.vector (BitVec.ofInt 32 ((k.val : ℤ) - 252)) 1#32) = BitVec.ofNat 32 ((k.val + 2) / 2) <<< 23
      ∧ fieldWord (IntOp.subi (BitVec.ofInt 32 ((k.val : ℤ) - 252)) (IntOp.shrsi ArithUnit.vector (BitVec.ofInt 32 ((k.val : ℤ) - 252)) 1#32))
        = BitVec.ofNat 32 (k.val + 2 - (k.val + 2) / 2) <<< 23 := by decide +kernel
  obtain ⟨h1, h2, h3⟩ := h k
  exact ⟨⟨(k.val + 2) / 2, by omega⟩, ⟨k.val + 2 - (k.val + 2) / 2, by omega⟩, h1, by constructor <;> (dsimp only; omega),
    by dsimp only; omega, h2, h3⟩

/-- The product of the two halves is the power. -/
theorem halves (e : BitVec 32) (h : -252 ≤ e.toInt ∧ e.toInt ≤ 252) :
    Ideal.ofBits .f32 (fieldWord (IntOp.shrsi ArithUnit.vector e 1#32))
      * Ideal.ofBits .f32 (fieldWord (IntOp.subi e (IntOp.shrsi ArithUnit.vector e 1#32))) = powE e := by
  obtain ⟨a, b, ha, hb, hab, h1, h2⟩ := fields ⟨(e.toInt + 252).toNat, by omega⟩
  have he : BitVec.ofInt 32 (((⟨(e.toInt + 252).toNat, by omega⟩ : Fin 505).val : ℤ) - 252) = e := by
    dsimp only
    rw [Int.toNat_of_nonneg (by omega), Int.add_sub_cancel, BitVec.ofInt_toInt]
  rw [he] at h1 h2
  rw [h1, h2, ofBits_field a ha.1 ha.2, ofBits_field b hb.1 hb.2, powE_eq, ← EReal.coe_mul, ← zpow_add₀ (two_ne_zero)]
  congr 2
  dsimp only at hab
  omega

/-- The kernel's power at an index. -/
theorem pow2_at {s : Shape} (v : IVec s 32) (i : s.Idx) (h : -252 ≤ (v i).toInt ∧ (v i).toInt ≤ 252) :
    pow2 (F := Ideal) v i = powE (v i) := halves (v i) h

/-- The negative of an exponent in range is in range. -/
theorem neg_range (e : BitVec 32) (h : -252 ≤ e.toInt ∧ e.toInt ≤ 252) :
    -252 ≤ (-e).toInt ∧ (-e).toInt ≤ 252 := by
  have : (-e).toInt = -e.toInt := by
    rw [BitVec.toInt_neg]
    exact Int.bmod_eq_of_le (by omega) (by omega)
  omega

/-- One of eight words by its index. -/
abbrev sel8 (w0 w1 w2 w3 w4 w5 w6 w7 : BitVec 32) (h : Fin 8) : BitVec 32 := ![w0, w1, w2, w3, w4, w5, w6, w7] h

/-- One of four words by its index. -/
abbrev sel4 (w0 w1 w2 w3 : BitVec 32) (h : Fin 4) : BitVec 32 := ![w0, w1, w2, w3] h

/-- The kernel's choice of eight words. -/
theorem pick8_at {s : Shape} (v : IVec s 32) (i : s.Idx) (w0 w1 w2 w3 w4 w5 w6 w7 : BitVec 32) (h : Fin 8)
    (hv : v i = BitVec.ofNat 32 h.val) : pick8 v w0 w1 w2 w3 w4 w5 w6 w7 i = sel8 w0 w1 w2 w3 w4 w5 w6 w7 h := by
  pointwise [pick8, hv]
  fin_cases h <;> rfl

/-- The kernel's choice of four words. -/
theorem pick4_at (w0 w1 w2 w3 : BitVec 32) (s h g : Fin 4) (l : Fin 128) :
    pick4 w0 w1 w2 w3 (ix2 (row s h g) l) = sel4 w0 w1 w2 w3 h := by
  pointwise [pick4, rowH_at s h g l]
  fin_cases h <;> rfl

/-- The words chosen from are in range. -/
theorem sel8_range {w0 w1 w2 w3 w4 w5 w6 w7 : BitVec 32} (h : Fin 8) {P : BitVec 32 → Prop} (h0 : P w0) (h1 : P w1) (h2 : P w2) (h3 : P w3)
    (h4 : P w4) (h5 : P w5) (h6 : P w6) (h7 : P w7) : P (sel8 w0 w1 w2 w3 w4 w5 w6 w7 h) := by
  fin_cases h <;> assumption

/-- The kernel's scales. -/
theorem scaleRow_at (w0 w1 w2 w3 w4 w5 w6 w7 : BitVec 32) (h : Fin 8)
    (hr : -252 ≤ (sel8 w0 w1 w2 w3 w4 w5 w6 w7 h).toInt ∧ (sel8 w0 w1 w2 w3 w4 w5 w6 w7 h).toInt ≤ 252) :
    scaleRow (F := Ideal) w0 w1 w2 w3 w4 w5 w6 w7 (ix2 0 h) = powE (sel8 w0 w1 w2 w3 w4 w5 w6 w7 h) := by
  pointwise [scaleRow]
  have hp := pick8_at (iota .tc S1x128 32 [1] iota_S1x128_d1_w32) (ix2 0 ⟨h.val, by omega⟩) w0 w1 w2 w3 w4 w5 w6 w7 h (by pointwise)
  rw [pow2_at _ _ (by rw [hp]; exact hr), hp]

/-- The kernel's clamped tokens. -/
theorem clipped_at (w0 w1 w2 w3 w4 w5 w6 w7 : BitVec 32) (x : FVec Ideal S4x4x8x64 .bf16) (b t : Fin 4) (h : Fin 8) (d : Fin 64)
    (hr : -252 ≤ (sel8 w0 w1 w2 w3 w4 w5 w6 w7 h).toInt ∧ (sel8 w0 w1 w2 w3 w4 w5 w6 w7 h).toInt ≤ 252) :
    clipped (F := Ideal) w0 w1 w2 w3 w4 w5 w6 w7 x (ix4 b t h d)
      = min (Ideal.ofBits .f32 0x43E00000#32) (max (Ideal.ofBits .f32 0xC3E00000#32)
        (x (ix4 b t h d) * powE (-(sel8 w0 w1 w2 w3 w4 w5 w6 w7 h)))) := by
  pointwise [clipped]
  have hp := pick8_at (iota .tc S8x128 32 [0] iota_S8x128_d0_w32) (ix2 h ⟨d.val, by omega⟩) w0 w1 w2 w3 w4 w5 w6 w7 h (by pointwise)
  have hs : subi (broadcast S8x128 0#32) (pick8 (iota .tc S8x128 32 [0] iota_S8x128_d0_w32) w0 w1 w2 w3 w4 w5 w6 w7) (ix2 h ⟨d.val, by omega⟩)
      = -(sel8 w0 w1 w2 w3 w4 w5 w6 w7 h) := by
    show IntOp.subi 0#32 _ = _
    rw [hp]
    exact BitVec.zero_sub _
  rw [pow2_at _ _ (by rw [hs]; exact neg_range _ hr), hs]

end Cert.KernelIdeal.Hand

end
-- ==== Proof.V.Attend.lean ====
module

public import Idealize.ShloMosaic.Lib.Pointwise
public import Idealize.ShloMosaic.Lib.IdealHost

@[expose] public section

noncomputable section

/-! Attention over the entries that are attended to, in the extended reals, and the two ways of computing it: over a
masked array by base-two exponentials of scores scaled by `1 / log 2`, and over a masked array by exponentials. -/

namespace Attn

open Idealize.ShloMosaic

/-- The reciprocal of `log 2`. -/
def rlog2 : EReal := (((Real.log 2)⁻¹ : ℝ) : EReal)

/-- The reciprocal of `log 2` is positive. -/
theorem rlog2_pos : (0 : ℝ) < (Real.log 2)⁻¹ := inv_pos.mpr (Real.log_pos one_lt_two)

/-- A base-two exponential of a scaled value is the exponential. -/
theorem exp2_scale (w : EReal) : Ideal.exp2 (rlog2 * w) = Ideal.exp w := by
  induction w using EReal.rec with
  | bot => rw [rlog2, EReal.coe_mul_bot_of_pos rlog2_pos]; rfl
  | top => rw [rlog2, EReal.coe_mul_top_of_pos rlog2_pos]; rfl
  | coe r =>
    rw [rlog2, ← EReal.coe_mul]
    show ((Real.rpow 2 _ : ℝ) : EReal) = ((Real.exp r : ℝ) : EReal)
    rw [Real.rpow_eq_pow, Real.rpow_def_of_pos two_pos, ← mul_assoc, mul_inv_cancel₀ (Real.log_pos one_lt_two).ne', one_mul]

/-- Scaling passes through a difference. -/
theorem scale_sub (z m : EReal) : rlog2 * z - rlog2 * m = rlog2 * (z - m) := by
  have hp := rlog2_pos
  induction z using EReal.rec with
  | bot => rw [EReal.bot_sub, rlog2, EReal.coe_mul_bot_of_pos hp, EReal.bot_sub]
  | top =>
    induction m using EReal.rec with
    | bot => rw [rlog2, EReal.coe_mul_bot_of_pos hp, EReal.coe_mul_top_of_pos hp, EReal.top_sub_bot, EReal.coe_mul_top_of_pos hp]
    | top => rw [rlog2, EReal.coe_mul_top_of_pos hp, EReal.sub_top, EReal.coe_mul_bot_of_pos hp]
    | coe r => rw [rlog2, EReal.coe_mul_top_of_pos hp, ← EReal.coe_mul, EReal.top_sub_coe, EReal.top_sub_coe, EReal.coe_mul_top_of_pos hp]
  | coe x =>
    induction m using EReal.rec with
    | bot => rw [rlog2, EReal.coe_mul_bot_of_pos hp, ← EReal.coe_mul, EReal.coe_sub_bot, EReal.coe_sub_bot, EReal.coe_mul_top_of_pos hp]
    | top => rw [rlog2, EReal.coe_mul_top_of_pos hp, EReal.sub_top, EReal.sub_top, EReal.coe_mul_bot_of_pos hp]
    | coe r => rw [rlog2, ← EReal.coe_mul, ← EReal.coe_mul, ← EReal.coe_sub, ← EReal.coe_sub, ← EReal.coe_mul, mul_sub]

/-- The base-two exponential of the difference of scaled values. -/
theorem exp2_scaled (z m : EReal) : Ideal.exp2 (rlog2 * z - rlog2 * m) = Ideal.exp (z - m) := by
  rw [scale_sub, exp2_scale]

/-- The exponential is not negative. -/
theorem exp_nonneg (w : EReal) : 0 ≤ Ideal.exp w := by
  induction w using EReal.rec with
  | bot => exact le_refl _
  | top => exact le_top
  | coe r => exact EReal.coe_nonneg.mpr (Real.exp_pos r).le

/-- The exponential of nothing less anything. -/
theorem exp_bot_sub (m : EReal) : Ideal.exp (⊥ - m) = 0 := by rw [EReal.bot_sub]; rfl

/-- The base-two exponential of nothing less anything. -/
theorem exp2_bot_sub (m : EReal) : Ideal.exp2 (⊥ - m) = 0 := by rw [EReal.bot_sub]; rfl

/-- An array's entries marked by `P` are the entries of `S`, each once. -/
structure Marks {ι σ : Type} (P : ι → Prop) (ψ : ι → σ) (S : Finset σ) : Prop where
  mem : ∀ i, P i → ψ i ∈ S
  onto : ∀ p ∈ S, ∃ i, P i ∧ ψ i = p
  inj : ∀ i j, P i → P j → ψ i = ψ j → i = j

section
variable {ι κ σ τ : Type} [Fintype ι] [Fintype κ] {P : ι → Prop} [DecidablePred P] {ψ : ι → σ} {S : Finset σ}
  {Q : κ → Prop} [DecidablePred Q] {χ : κ → τ} {T : Finset τ}

/-- A sum over an array that is zero off its marks. -/
theorem Marks.sum (h : Marks P ψ S) (f : ι → EReal) (g : σ → EReal) (h0 : ∀ i, ¬ P i → f i = 0) (h1 : ∀ i, P i → f i = g (ψ i)) :
    ∑ i, f i = ∑ p ∈ S, g p := by
  rw [← Finset.sum_subset (Finset.filter_subset P Finset.univ) (fun i _ hi => h0 i (by simpa using hi))]
  refine Finset.sum_bij (fun i _ => ψ i) (fun i hi => h.mem i (Finset.mem_filter.mp hi).2)
    (fun i hi j hj e => h.inj i j (Finset.mem_filter.mp hi).2 (Finset.mem_filter.mp hj).2 e)
    (fun p hp => ?_) (fun i hi => h1 i (Finset.mem_filter.mp hi).2)
  obtain ⟨i, hi, e⟩ := h.onto p hp
  exact ⟨i, Finset.mem_filter.mpr ⟨Finset.mem_univ _, hi⟩, e⟩

/-- The largest entry of an array that is nothing off its marks. -/
theorem Marks.max (h : Marks P ψ S) (f : ι → EReal) (g : σ → EReal) (h0 : ∀ i, ¬ P i → f i = ⊥) (h1 : ∀ i, P i → f i = g (ψ i)) :
    Finset.univ.fold max ⊥ f = S.sup g := by
  show Finset.univ.sup f = S.sup g
  refine le_antisymm (Finset.sup_le fun i _ => ?_) (Finset.sup_le fun p hp => ?_)
  · by_cases hi : P i
    · rw [h1 i hi]; exact Finset.le_sup (h.mem i hi)
    · rw [h0 i hi]; exact bot_le
  · obtain ⟨i, hi, e⟩ := h.onto p hp
    rw [← e, ← h1 i hi]; exact Finset.le_sup (Finset.mem_univ i)

/-- Scaling passes through the largest entry. -/
theorem sup_scale (S : Finset σ) (z : σ → EReal) : S.sup (fun p => rlog2 * z p) = rlog2 * S.sup z := by
  have hm : Monotone fun w : EReal => rlog2 * w := fun a b hab =>
    mul_le_mul_of_nonneg_left hab (EReal.coe_nonneg.mpr rlog2_pos.le)
  have hb : rlog2 * (⊥ : EReal) = ⊥ := EReal.coe_mul_bot_of_pos rlog2_pos
  classical
  induction S using Finset.induction_on with
  | empty => rw [Finset.sup_empty, Finset.sup_empty, hb]
  | insert a s ha ih => rw [Finset.sup_insert, Finset.sup_insert, ih]; exact (hm.map_max).symm

/-- Scaling passes through the larger of two. -/
theorem max_scale (a b : EReal) : max (rlog2 * a) (rlog2 * b) = rlog2 * max a b := by
  have hm : Monotone fun w : EReal => rlog2 * w := fun a b hab =>
    mul_le_mul_of_nonneg_left hab (EReal.coe_nonneg.mpr rlog2_pos.le)
  exact (hm.map_max).symm

/-- The largest score. -/
def top (S : Finset σ) (T : Finset τ) (z : σ → EReal) (y : τ → EReal) : EReal := max (S.sup z) (T.sup y)

/-- The sum of the weights. -/
def total (S : Finset σ) (T : Finset τ) (z : σ → EReal) (y : τ → EReal) : EReal :=
  (∑ p ∈ S, Ideal.exp (z p - top S T z y)) + ∑ t ∈ T, Ideal.exp (y t - top S T z y)

/-- A weight normalised, zero where there is nothing to normalise by, times the scale of the values. -/
def prob (w tot vs : EReal) : EReal := (if tot = 0 then 0 else Ideal.div w tot) * vs

/-- Attention over the entries `S` and `T`. -/
def attend (S : Finset σ) (T : Finset τ) (z : σ → EReal) (y : τ → EReal) (v : σ → EReal) (u : τ → EReal) (vs : EReal) : EReal :=
  (∑ p ∈ S, prob (Ideal.exp (z p - top S T z y)) (total S T z y) vs * v p)
    + ∑ t ∈ T, prob (Ideal.exp (y t - top S T z y)) (total S T z y) vs * u t

/-- Applying the normaliser and the scale at once. -/
theorem norm_eq (w tot vs : EReal) (h : tot = 0 → w = 0) : w * Ideal.div vs tot = prob w tot vs := by
  unfold prob
  by_cases h0 : tot = 0
  · rw [h h0, zero_mul, if_pos h0, zero_mul]
  · rw [if_neg h0, Ideal.div, if_neg h0, Ideal.div, if_neg h0, ← mul_assoc, mul_right_comm]

/-- No weight at all means no weight anywhere. -/
theorem weight_zero (S : Finset σ) (T : Finset τ) (z : σ → EReal) (y : τ → EReal) (h : total S T z y = 0) :
    (∀ p ∈ S, Ideal.exp (z p - top S T z y) = 0) ∧ ∀ t ∈ T, Ideal.exp (y t - top S T z y) = 0 := by
  have ha : 0 ≤ ∑ p ∈ S, Ideal.exp (z p - top S T z y) := Finset.sum_nonneg fun _ _ => exp_nonneg _
  have hb : 0 ≤ ∑ t ∈ T, Ideal.exp (y t - top S T z y) := Finset.sum_nonneg fun _ _ => exp_nonneg _
  have h1 : ∑ p ∈ S, Ideal.exp (z p - top S T z y) = 0 :=
    le_antisymm ((le_add_of_nonneg_right hb).trans (le_of_eq h)) ha
  have h2 : ∑ t ∈ T, Ideal.exp (y t - top S T z y) = 0 :=
    le_antisymm ((le_add_of_nonneg_left ha).trans (le_of_eq h)) hb
  exact ⟨(Finset.sum_eq_zero_iff_of_nonneg fun _ _ => exp_nonneg _).mp h1,
    (Finset.sum_eq_zero_iff_of_nonneg fun _ _ => exp_nonneg _).mp h2⟩

variable (hP : Marks P ψ S) (hQ : Marks Q χ T) (z : σ → EReal) (y : τ → EReal) (v : σ → EReal) (u : τ → EReal) (vs : EReal)
  (sc : ι → EReal) (sn : κ → EReal) (vc : ι → EReal) (vn : κ → EReal)

include hP hQ in
/-- Scores scaled by `1 / log 2`, base-two exponentials, the scale of the values in the normaliser. -/
theorem attend_exp2
    (hc : ∀ i, sc i = if P i then rlog2 * z (ψ i) else ⊥) (hn : ∀ i, sn i = if Q i then rlog2 * y (χ i) else ⊥)
    (hv : ∀ i, P i → vc i = v (ψ i)) (hu : ∀ i, Q i → vn i = u (χ i)) (m n : EReal)
    (hm : m = max (Finset.univ.fold max ⊥ sc) (Finset.univ.fold max ⊥ sn))
    (hnorm : n = Ideal.div vs ((∑ i, Ideal.exp2 (sc i - m)) + ∑ i, Ideal.exp2 (sn i - m))) :
    (∑ i, Ideal.exp2 (sc i - m) * n * vc i) + ∑ i, Ideal.exp2 (sn i - m) * n * vn i = attend S T z y v u vs := by
  have hmax : m = rlog2 * top S T z y := by
    rw [hm, hP.max sc (fun p => rlog2 * z p) (fun i hi => by rw [hc, if_neg hi]) (fun i hi => by rw [hc, if_pos hi]),
      hQ.max sn (fun p => rlog2 * y p) (fun i hi => by rw [hn, if_neg hi]) (fun i hi => by rw [hn, if_pos hi]),
      sup_scale, sup_scale, max_scale]
    rfl
  have ec0 : ∀ i, ¬ P i → Ideal.exp2 (sc i - m) = 0 := fun i hi => by rw [hc, if_neg hi, exp2_bot_sub]
  have en0 : ∀ i, ¬ Q i → Ideal.exp2 (sn i - m) = 0 := fun i hi => by rw [hn, if_neg hi, exp2_bot_sub]
  have ec1 : ∀ i, P i → Ideal.exp2 (sc i - m) = Ideal.exp (z (ψ i) - top S T z y) := fun i hi => by
    rw [hc, if_pos hi, hmax, exp2_scaled]
  have en1 : ∀ i, Q i → Ideal.exp2 (sn i - m) = Ideal.exp (y (χ i) - top S T z y) := fun i hi => by
    rw [hn, if_pos hi, hmax, exp2_scaled]
  have htot : n = Ideal.div vs (total S T z y) := by
    rw [hnorm, hP.sum _ (fun p => Ideal.exp (z p - top S T z y)) ec0 ec1,
      hQ.sum _ (fun p => Ideal.exp (y p - top S T z y)) en0 en1]
    rfl
  unfold attend
  rw [hP.sum (fun i => Ideal.exp2 (sc i - m) * n * vc i)
      (fun p => Ideal.exp (z p - top S T z y) * n * v p)
      (fun i hi => by rw [ec0 i hi, zero_mul, zero_mul]) (fun i hi => by rw [ec1 i hi, hv i hi]),
    hQ.sum (fun i => Ideal.exp2 (sn i - m) * n * vn i)
      (fun p => Ideal.exp (y p - top S T z y) * n * u p)
      (fun i hi => by rw [en0 i hi, zero_mul, zero_mul]) (fun i hi => by rw [en1 i hi, hu i hi])]
  refine congrArg₂ (· + ·) (Finset.sum_congr rfl fun p hp => ?_) (Finset.sum_congr rfl fun p hp => ?_)
  · rw [htot, norm_eq _ _ _ fun h => (weight_zero S T z y h).1 p hp]
  · rw [htot, norm_eq _ _ _ fun h => (weight_zero S T z y h).2 p hp]

include hP hQ in
/-- Scores as they are, exponentials, the scale of the values applied to the normalised weights. -/
theorem attend_exp
    (hc : ∀ i, sc i = if P i then z (ψ i) else ⊥) (hn : ∀ i, sn i = if Q i then y (χ i) else ⊥)
    (hv : ∀ i, P i → vc i = v (ψ i)) (hu : ∀ i, Q i → vn i = u (χ i)) (m n : EReal)
    (hm : m = max (Finset.univ.fold max ⊥ sc) (Finset.univ.fold max ⊥ sn))
    (hnorm : n = (∑ i, Ideal.exp (sc i - m)) + ∑ i, Ideal.exp (sn i - m)) :
    (∑ i, vc i * prob (Ideal.exp (sc i - m)) n vs) + ∑ i, vn i * prob (Ideal.exp (sn i - m)) n vs
      = attend S T z y v u vs := by
  have hmax : m = top S T z y := by
    rw [hm, hP.max sc z (fun i hi => by rw [hc, if_neg hi]) (fun i hi => by rw [hc, if_pos hi]),
      hQ.max sn y (fun i hi => by rw [hn, if_neg hi]) (fun i hi => by rw [hn, if_pos hi])]
    rfl
  have ec0 : ∀ i, ¬ P i → Ideal.exp (sc i - m) = 0 := fun i hi => by rw [hc, if_neg hi, exp_bot_sub]
  have en0 : ∀ i, ¬ Q i → Ideal.exp (sn i - m) = 0 := fun i hi => by rw [hn, if_neg hi, exp_bot_sub]
  have ec1 : ∀ i, P i → Ideal.exp (sc i - m) = Ideal.exp (z (ψ i) - top S T z y) := fun i hi => by
    rw [hc, if_pos hi, hmax]
  have en1 : ∀ i, Q i → Ideal.exp (sn i - m) = Ideal.exp (y (χ i) - top S T z y) := fun i hi => by
    rw [hn, if_pos hi, hmax]
  have htot : n = total S T z y := by
    rw [hnorm, hP.sum _ (fun p => Ideal.exp (z p - top S T z y)) ec0 ec1,
      hQ.sum _ (fun p => Ideal.exp (y p - top S T z y)) en0 en1]
    rfl
  have p0 : prob 0 n vs = 0 := by
    unfold prob
    by_cases h0 : n = 0
    · rw [if_pos h0, zero_mul]
    · rw [if_neg h0, Ideal.div, if_neg h0, zero_mul, zero_mul]
  unfold attend
  rw [hP.sum (fun i => vc i * prob (Ideal.exp (sc i - m)) n vs)
      (fun p => prob (Ideal.exp (z p - top S T z y)) (total S T z y) vs * v p)
      (fun i hi => by rw [ec0 i hi, p0, mul_zero]) (fun i hi => by rw [ec1 i hi, hv i hi, htot, mul_comm]),
    hQ.sum (fun i => vn i * prob (Ideal.exp (sn i - m)) n vs)
      (fun p => prob (Ideal.exp (y p - top S T z y)) (total S T z y) vs * u p)
      (fun i hi => by rw [en0 i hi, p0, mul_zero]) (fun i hi => by rw [en1 i hi, hu i hi, htot, mul_comm])]

end

end Attn

end
-- ==== Proof.V.Words.lean ====
module

public import proofs.«01_k».proof.Proof.V.Attend
public import Idealize.ShloMosaic.Lib.WordCmp

@[expose] public section

noncomputable section

/-! The windows: which positions of a cache are attended to, as integers, and the first positions the two programs
read from. -/

namespace Attn

open Idealize.ShloMosaic

/-- The positions that token `s` of a sequence of length `l` attends to. -/
def InWin (l : BitVec 32) (s : ℕ) (p : ℕ) : Prop := (p : ℤ) < l.toInt ∧ l.toInt + s - 1024 < (p : ℤ)

/-- Membership in the window is decidable. -/
instance (l : BitVec 32) (s : ℕ) : DecidablePred (InWin l s) := fun p => by unfold InWin; infer_instance

/-- The positions of the cache attended to. -/
def win (l : BitVec 32) (s : ℕ) : Finset ℕ := (Finset.range 131072).filter (InWin l s)

/-- A window that starts early enough and ends late enough marks every position attended to. -/
theorem marks_win (l : BitVec 32) (s n a : ℕ) (hn : a + n ≤ 131072) (h : ∀ p, p < 131072 → InWin l s p → a ≤ p ∧ p < a + n) :
    Marks (fun i : Fin n => InWin l s (a + i.val)) (fun i => a + i.val) (win l s) where
  mem i hi := Finset.mem_filter.mpr ⟨Finset.mem_range.mpr (by omega), hi⟩
  onto p hp := by
    have h1 := Finset.mem_filter.mp hp
    have h2 := h p (Finset.mem_range.mp h1.1) h1.2
    refine ⟨⟨p - a, by omega⟩, ?_, ?_⟩
    · show InWin l s (a + (p - a))
      rw [Nat.add_sub_cancel' h2.1]; exact h1.2
    · show a + (p - a) = p
      omega
  inj i j _ _ e := Fin.ext (by have : a + i.val = a + j.val := e; omega)

/-- A sum of words that does not overflow. -/
theorem toInt_add_of (x y : BitVec 32) (h : -2147483648 ≤ x.toInt + y.toInt ∧ x.toInt + y.toInt ≤ 2147483647) :
    (x + y).toInt = x.toInt + y.toInt := by
  rw [BitVec.toInt_add]
  exact Int.bmod_eq_of_le (by omega) (by omega)

/-- A difference of words that does not overflow. -/
theorem toInt_sub_of (x y : BitVec 32) (h : -2147483648 ≤ x.toInt - y.toInt ∧ x.toInt - y.toInt ≤ 2147483647) :
    (x - y).toInt = x.toInt - y.toInt := by
  rw [BitVec.toInt_sub]
  exact Int.bmod_eq_of_le (by omega) (by omega)

/-- A small natural number as a word. -/
theorem toInt_ofNat_of (n : ℕ) (h : n ≤ 2147483647) : (BitVec.ofNat 32 n).toInt = n := by
  rw [BitVec.toInt_eq_toNat_bmod, BitVec.toNat_ofNat, Nat.mod_eq_of_lt (by omega)]
  exact Int.bmod_eq_of_le (by omega) (by omega)

/-- The smaller of two words. -/
theorem toInt_minsi (x y : BitVec 32) : (IntOp.minsi x y).toInt = min x.toInt y.toInt := by
  unfold IntOp.minsi
  by_cases h : x.slt y
  · rw [if_pos h]; rw [BitVec.slt_iff_toInt_lt] at h; omega
  · rw [if_neg h]; rw [BitVec.slt_iff_toInt_lt] at h; omega

/-- The larger of two words. -/
theorem toInt_maxsi (x y : BitVec 32) : (IntOp.maxsi x y).toInt = max x.toInt y.toInt := by
  unfold IntOp.maxsi
  by_cases h : y.slt x
  · rw [if_pos h]; rw [BitVec.slt_iff_toInt_lt] at h; omega
  · rw [if_neg h]; rw [BitVec.slt_iff_toInt_lt] at h; omega

/-- Rounding a word down to a multiple of 128. -/
theorem toInt_floor128 (x : BitVec 32) :
    (IntOp.shli .scalar (IntOp.shrsi .scalar x 7#32) 7#32).toInt = 128 * (x.toInt / 128) := by
  have h1 : IntOp.shrsi ArithUnit.scalar x 7#32 = x.sshiftRight 7 := rfl
  have h2 : ∀ y : BitVec 32, IntOp.shli ArithUnit.scalar y 7#32 = y <<< 7 := fun y => rfl
  have hz : (x.sshiftRight 7).toInt = x.toInt / 128 := by
    rw [BitVec.toInt_sshiftRight, Int.shiftRight_eq_div_pow]; rfl
  have hx := BitVec.toInt_lt (x := x)
  have hx' := BitVec.le_toInt (x := x)
  have hc := BitVec.toInt_eq_toNat_cond (x.sshiftRight 7)
  have hs : ((x.sshiftRight 7) <<< 7).toInt = (((x.sshiftRight 7).toNat : ℤ) * 128).bmod (2 ^ 32) := by
    rw [BitVec.toInt_shiftLeft, Nat.shiftLeft_eq]; rfl
  have e : (((x.sshiftRight 7).toNat : ℤ) * 128).bmod (2 ^ 32)
      = (128 * (x.sshiftRight 7).toInt).bmod (2 ^ 32) := by
    split at hc
    · rw [hc, mul_comm]
    · rw [hc, show (((x.sshiftRight 7).toNat : ℤ) * 128)
        = 128 * (((x.sshiftRight 7).toNat : ℤ) - (2 ^ 32 : ℕ)) + (2 ^ 32 : ℕ) * 128 by ring,
        Int.add_mul_bmod_self_left]
  rw [h1, h2, hs, e, hz]
  exact Int.bmod_eq_of_le (by omega) (by omega)

/-- A word that is not negative, as a natural number. -/
theorem toNat_of_nonneg (x : BitVec 32) (h : 0 ≤ x.toInt) : (x.toNat : ℤ) = x.toInt := by
  have h1 := BitVec.toInt_eq_toNat_cond x
  have h2 := x.isLt
  split at h1 <;> omega

/-- The first position the kernel reads, as an integer. -/
theorem kernel_start (l : BitVec 32) (hl : -2147482624 ≤ l.toInt ∧ l.toInt ≤ 2147483644) :
    (IntOp.minsi 129920#32 (IntOp.maxsi 0#32
      (IntOp.shli .scalar (IntOp.shrsi .scalar (IntOp.addi (IntOp.subi l 1024#32) 1#32) 7#32) 7#32))).toInt
      = min 129920 (max 0 (128 * ((l.toInt - 1023) / 128))) := by
  have e1024 : (1024#32).toInt = 1024 := by decide
  have e1 : (1#32).toInt = 1 := by decide
  have hs : (IntOp.subi l 1024#32).toInt = l.toInt - 1024 := by
    refine (toInt_sub_of l 1024#32 ?_).trans ?_ <;> rw [e1024]; omega
  have ha : (IntOp.addi (IntOp.subi l 1024#32) 1#32).toInt = l.toInt - 1023 := by
    refine (toInt_add_of _ 1#32 ?_).trans ?_ <;> rw [hs, e1] <;> omega
  rw [toInt_minsi, toInt_maxsi, toInt_floor128, ha]
  rfl

/-- The first position the reference reads, as an integer. -/
theorem reference_start (l : BitVec 32) (hl : -2147482624 ≤ l.toInt ∧ l.toInt ≤ 2147483644) :
    (IntOp.minsi 130048#32 (IntOp.maxsi 0#32 (IntOp.subi l 1024#32))).toInt = min 130048 (max 0 (l.toInt - 1024)) := by
  have e1024 : (1024#32).toInt = 1024 := by decide
  have hs : (IntOp.subi l 1024#32).toInt = l.toInt - 1024 := by
    refine (toInt_sub_of l 1024#32 ?_).trans ?_ <;> rw [e1024]; omega
  rw [toInt_minsi, toInt_maxsi, hs]
  rfl

/-- The kernel's window holds every position attended to. -/
theorem kernel_marks (l : BitVec 32) (s : Fin 4) (a : ℕ)
    (ha : (a : ℤ) = min 129920 (max 0 (128 * ((l.toInt - 1023) / 128)))) :
    Marks (fun i : Fin 1152 => InWin l s.val (a + i.val)) (fun i => a + i.val) (win l s.val) := by
  refine marks_win l s.val 1152 a (by omega) fun p hp h => ?_
  have hs := s.isLt
  unfold InWin at h
  omega

/-- The reference's window holds every position attended to. -/
theorem reference_marks (l : BitVec 32) (s : Fin 4) (a : ℕ) (ha : (a : ℤ) = min 130048 (max 0 (l.toInt - 1024))) :
    Marks (fun i : Fin 1024 => InWin l s.val (a + i.val)) (fun i => a + i.val) (win l s.val) := by
  refine marks_win l s.val 1024 a (by omega) fun p hp h => ?_
  have hs := s.isLt
  unfold InWin at h
  omega

/-- The mask of a cached position. -/
theorem mask_cached (a l : BitVec 32) (s : Fin 4) (i A : ℕ) (hA : a.toInt = A) (hA' : A ≤ 131072) (hi : i ≤ 2000)
    (hl : -2147482624 ≤ l.toInt ∧ l.toInt ≤ 2147483644) :
    IntOp.andi (IntOp.cmpi .slt (IntOp.addi a (BitVec.ofNat 32 i)) l)
      (IntOp.cmpi .sgt (IntOp.addi a (BitVec.ofNat 32 i)) (IntOp.subi (IntOp.addi l (BitVec.ofNat 32 s.val)) 1024#32))
      = BitVec.ofBool (decide (InWin l s.val (A + i))) := by
  have hs := s.isLt
  have e1024 : (1024#32).toInt = 1024 := by decide
  have h1 : (IntOp.addi a (BitVec.ofNat 32 i)).toInt = A + i := by
    refine (toInt_add_of a _ ?_).trans ?_ <;> rw [hA, toInt_ofNat_of i (by omega)]; omega
  have h2 : (IntOp.addi l (BitVec.ofNat 32 s.val)).toInt = l.toInt + s.val := by
    refine (toInt_add_of l _ ?_).trans ?_ <;> rw [toInt_ofNat_of s.val (by omega)]; omega
  have h3 : (IntOp.subi (IntOp.addi l (BitVec.ofNat 32 s.val)) 1024#32).toInt = l.toInt + s.val - 1024 := by
    refine (toInt_sub_of _ 1024#32 ?_).trans ?_ <;> rw [h2, e1024]; omega
  rw [WordCmp.cmpi_slt_eq, WordCmp.cmpi_sgt_eq, WordCmp.andi_ofBool, h1, h3, ← Bool.decide_and]
  congr 1

/-- The mask of a new token, by positions. -/
theorem mask_new (l : BitVec 32) (s t : Fin 4) (hl : -2147482624 ≤ l.toInt ∧ l.toInt ≤ 2147483644) :
    IntOp.andi (IntOp.cmpi .sle (IntOp.addi l (BitVec.ofNat 32 t.val)) (IntOp.addi l (BitVec.ofNat 32 s.val)))
      (IntOp.cmpi .sgt (IntOp.addi l (BitVec.ofNat 32 t.val)) (IntOp.subi (IntOp.addi l (BitVec.ofNat 32 s.val)) 1024#32))
      = BitVec.ofBool (decide (t ≤ s)) := by
  have hs := s.isLt
  have ht := t.isLt
  have e1024 : (1024#32).toInt = 1024 := by decide
  have h2 : ∀ s : Fin 4, (IntOp.addi l (BitVec.ofNat 32 s.val)).toInt = l.toInt + s.val := fun s => by
    have hs := s.isLt
    refine (toInt_add_of l _ ?_).trans ?_ <;> rw [toInt_ofNat_of s.val (by omega)]; omega
  have h3 : (IntOp.subi (IntOp.addi l (BitVec.ofNat 32 s.val)) 1024#32).toInt = l.toInt + s.val - 1024 := by
    refine (toInt_sub_of _ 1024#32 ?_).trans ?_ <;> rw [h2, e1024]; omega
  rw [WordCmp.cmpi_sle_eq, WordCmp.cmpi_sgt_eq, WordCmp.andi_ofBool, h2, h2, h3, ← Bool.decide_and]
  congr 1
  refine decide_eq_decide.mpr ?_
  rw [Fin.le_def]
  omega

/-- The lanes of new tokens of one sequence and one head, up to one token. -/
def lane (b : Fin 4) (j : Fin 2) (h s : Fin 4) (i : Fin 128) : Prop :=
  i.val / 32 = b.val ∧ i.val % 8 = 4 * j.val + h.val ∧ i.val / 8 % 4 ≤ s.val

/-- Being a live lane is decidable. -/
instance (b : Fin 4) (j : Fin 2) (h s : Fin 4) : DecidablePred (lane b j h s) := fun i => by unfold lane; infer_instance

/-- The mask of a lane. -/
theorem mask_lane (b : Fin 4) (j : Fin 2) (h s : Fin 4) (i : Fin 128) :
    IntOp.andi
      (IntOp.andi (IntOp.cmpi .eq (BitVec.ofNat 32 (i.val / 32)) (BitVec.ofNat 32 b.val))
        (IntOp.cmpi .eq (BitVec.ofNat 32 (i.val % 8)) (IntOp.addi (BitVec.ofNat 32 h.val) (BitVec.ofNat 32 (4 * j.val)))))
      (IntOp.cmpi .sle (BitVec.ofNat 32 (i.val / 8 % 4)) (BitVec.ofNat 32 s.val))
      = BitVec.ofBool (decide (lane b j h s i)) := by
  have hi := i.isLt
  have hb := b.isLt
  have hj := j.isLt
  have hh := h.isLt
  have hs := s.isLt
  rw [show IntOp.addi (BitVec.ofNat 32 h.val) (BitVec.ofNat 32 (4 * j.val)) = BitVec.ofNat 32 (h.val + 4 * j.val) from
      (BitVec.ofNat_add ..).symm,
    WordCmp.cmpi_eq_ofNat (by omega) (by omega), WordCmp.cmpi_eq_ofNat (by omega) (by omega),
    WordCmp.cmpi_sle_ofNat (by omega) (by omega), WordCmp.andi_ofBool, WordCmp.andi_ofBool, ← Bool.decide_and, ← Bool.decide_and]
  congr 1
  refine decide_eq_decide.mpr ?_
  unfold lane
  omega

/-- The tokens attended to. -/
def upTo (s : Fin 4) : Finset (Fin 4) := Finset.univ.filter (· ≤ s)

/-- The token of a lane. -/
def tokOf (i : Fin 128) : Fin 4 := ⟨i.val / 8 % 4, Nat.mod_lt _ (by decide)⟩

/-- The lanes attended to are the tokens attended to. -/
theorem lane_marks (b : Fin 4) (j : Fin 2) (h s : Fin 4) : Marks (lane b j h s) tokOf (upTo s) where
  mem i hi := Finset.mem_filter.mpr ⟨Finset.mem_univ _, hi.2.2⟩
  onto t ht := by
    have h1 : t.val ≤ s.val := (Finset.mem_filter.mp ht).2
    have hb := b.isLt
    have hj := j.isLt
    have hh := h.isLt
    have htt := t.isLt
    refine ⟨⟨32 * b.val + 8 * t.val + (4 * j.val + h.val), by omega⟩, ?_, ?_⟩
    · unfold lane; dsimp only; omega
    · refine Fin.ext ?_
      show (32 * b.val + 8 * t.val + (4 * j.val + h.val)) / 8 % 4 = t.val
      omega
  inj i k hi hk e := by
    have e' : i.val / 8 % 4 = k.val / 8 % 4 := congrArg Fin.val e
    unfold lane at hi hk
    exact Fin.ext (by omega)

/-- The tokens up to one, among themselves. -/
theorem token_marks (s : Fin 4) : Marks (· ≤ s) (fun t : Fin 4 => t) (upTo s) where
  mem i hi := Finset.mem_filter.mpr ⟨Finset.mem_univ _, hi⟩
  onto t ht := ⟨t, (Finset.mem_filter.mp ht).2, rfl⟩
  inj i k _ _ e := e

/-- A function on the positions of a cache, on all natural numbers. -/
def onNat (f : Fin 131072 → EReal) (p : ℕ) : EReal := if h : p < 131072 then f ⟨p, h⟩ else 0

/-- One entry of the attention: token `s` of a sequence of length `l`, its query `q` of one head, against the cached
keys `kc` and values `vc` of the window and the new keys `kn` and values `vn` up to the token itself. -/
def entry (l : BitVec 32) (s : Fin 4) (q : Fin 64 → EReal) (kc : Fin 131072 → Fin 64 → EReal) (kn : Fin 4 → Fin 64 → EReal)
    (vc : Fin 131072 → EReal) (vn : Fin 4 → EReal) (ks vs : EReal) : EReal :=
  attend (win l s.val) (upTo s) (fun p => (∑ d, onNat (fun p => kc p d) p * q d) * ks) (fun t => (∑ d, kn t d * q d) * ks)
    (onNat vc) vn vs

end Attn

end
-- ==== Proof.V.Kernel.lean ====
module

public import proofs.«01_k».proof.Proof.KI.Scale
public import proofs.«01_k».proof.Proof.V.Words

@[expose] public section

set_option maxRecDepth 16384

noncomputable section

/-! One block of the kernel's attention in the extended reals: each entry is the attention over the window. -/

namespace Cert.KernelIdeal.Hand

open Idealize.ShloMosaic Idealize.ShloMosaic.TcCoe Idealize.SL.Sem Cert.KernelIdeal Cert.KernelIdeal.Gen Attn

/-- Negative infinity's pattern. -/
theorem ofBits_neg_inf : Ideal.ofBits .f32 0xFF800000#32 = ⊥ := by
  simp [Ideal.ofBits, Ideal.ieee]

/-- A choice by a decided bit. -/
theorem select_ofBool {α : Type} (p : Prop) [Decidable p] (a b : α) :
    Scalar.select (BitVec.ofBool (decide p)) a b = if p then a else b := by
  by_cases h : p <;> simp [Scalar.select, h]

/-- The score of a position that is not attended to is negative infinity. -/
theorem maskVal_eq : maskVal (F := Ideal) = ⊥ := by
  have h1 : Named.named (F := Ideal) (φ := .f32) κ "half_mask" 0xFEFFFFFF#32 = ⊥ := IdealRules.named_const.ideal_named_scalar _ _ _ _ rfl
  have h2 : Ideal.ofBits .f32 0x40000000#32 = ((2 : ℝ) : EReal) := by simp [Ideal.ofBits, Ideal.ieee, -EReal.coe_mul]; norm_num
  show Named.named (F := Ideal) (φ := .f32) κ "half_mask" 0xFEFFFFFF#32 * Ideal.ofBits .f32 0x40000000#32 = ⊥
  rw [h1, h2]
  exact EReal.bot_mul_coe_of_pos two_pos

/-- The queries of a row. -/
theorem qRows_at (x : Vec Ideal S1x4x16x64 .bf16) (s h g : Fin 4) (d : Fin 64) :
    qRows x (ix2 (row s h g) d) = x (ix4 0 s ⟨4 * h.val + g.val, by omega⟩ d) := by
  have hs := s.isLt
  have hh := h.isLt
  have hg := g.isLt
  pointwise [qRows]
  congr 1
  congr 1 <;> exact Fin.ext (by dsimp only; omega)

/-- The queries of a row lie in its head's columns. -/
theorem qWide_at (x : Vec Ideal S1x4x16x64 .bf16) (s h g k : Fin 4) (d : Fin 64) :
    qWide x (ix2 (row s h g) ⟨k.val * 64 + d.val, by omega⟩)
      = if k = h then x (ix4 0 s ⟨4 * h.val + g.val, by omega⟩ d) else 0 := by
  have hq : ∀ q : Fin 64, q.val = d.val → qRows x (ix2 (row s h g) q) = x (ix4 0 s ⟨4 * h.val + g.val, by omega⟩ d) := fun q e => by
    rw [show q = d from Fin.ext e]; exact qRows_at x s h g d
  have hk := k.isLt
  have hh := h.isLt
  pointwise [qWide, qHalf, rowH_at s h g, laneHalf_at]
  by_cases h2 : k.val < 2
  · rw [dif_pos (show k.val * 64 + d.val < 128 by omega), show (k.val * 64 + d.val) / 64 = k.val by omega,
      show IntOp.addi (BitVec.ofNat 32 k.val) 0#32 = BitVec.ofNat 32 k.val from BitVec.add_zero _,
      WordCmp.cmpi_eq_ofNat (by omega) (by omega), select_ofBool]
    refine if_congr ⟨fun e => Fin.ext e.symm, fun e => congrArg Fin.val e.symm⟩ ?_ rfl
    by_cases h1 : k.val * 64 + d.val < 64
    · rw [dif_pos h1]; exact hq _ (by dsimp only; omega)
    · rw [dif_neg h1]; exact hq _ (by dsimp only; omega)
  · rw [dif_neg (show ¬ k.val * 64 + d.val < 128 by omega), show (k.val * 64 + d.val - 128) / 64 = k.val - 2 by omega,
      show IntOp.addi (BitVec.ofNat 32 (k.val - 2)) 2#32 = BitVec.ofNat 32 (k.val - 2 + 2) from (BitVec.ofNat_add ..).symm,
      WordCmp.cmpi_eq_ofNat (by omega) (by omega), select_ofBool]
    refine if_congr ⟨fun e => Fin.ext (by omega), fun e => by have := congrArg Fin.val e; omega⟩ ?_ rfl
    by_cases h1 : k.val * 64 + d.val - 128 < 64
    · rw [dif_pos h1]; exact hq _ (by dsimp only; omega)
    · rw [dif_neg h1]; exact hq _ (by dsimp only; omega)

/-- The scale of a row's scores. -/
theorem scoreScale_at (w0 w1 w2 w3 : BitVec 32) (s h g : Fin 4) (l : Fin 128)
    (hr : -252 ≤ (sel4 w0 w1 w2 w3 h).toInt ∧ (sel4 w0 w1 w2 w3 h).toInt ≤ 252) :
    scoreScale (F := Ideal) w0 w1 w2 w3 (ix2 (row s h g) l)
      = powE (sel4 w0 w1 w2 w3 h) * Ideal.ofBits .f32 0x3E000000#32 * rlog2 := by
  have h1 : Named.named (F := Ideal) (φ := .f32) κ "log2e" 0x3FB8AA3B#32 = rlog2 := IdealRules.named_const.ideal_named_scalar _ _ _ _ rfl
  have hp := pick4_at w0 w1 w2 w3 s h g l
  pointwise [scoreScale]
  rw [pow2_at _ _ (by rw [hp]; exact hr), hp, h1]

/-- A row's scores against the cache. -/
theorem scoresC_at (a l : BitVec 32) (A : ℕ) (hA : a.toInt = A) (hA' : A ≤ 131072)
    (hl : -2147482624 ≤ l.toInt ∧ l.toInt ≤ 2147483644)
    (k0 k1 k2 k3 : BitVec 32) (s h g : Fin 4) (hk : -252 ≤ (sel4 k0 k1 k2 k3 h).toInt ∧ (sel4 k0 k1 k2 k3 h).toInt ≤ 252)
    (x : Vec Ideal S1x4x16x64 .bf16) (kt : Vec Ideal S1x256x1152 .fp8e4m3) (i : Fin 1152) :
    scoresC a l k0 k1 k2 k3 x kt (ix2 (row s h g) i)
      = if InWin l s.val (A + i.val) then
          rlog2 * ((∑ d : Fin 64, kt (ix3 0 ⟨h.val * 64 + d.val, by omega⟩ i) * x (ix4 0 s ⟨4 * h.val + g.val, by omega⟩ d))
            * (powE (sel4 k0 k1 k2 k3 h) * Ideal.ofBits .f32 0x3E000000#32))
        else ⊥ := by
  have hm : okMask a l (ix2 (row s h g) i) = BitVec.ofBool (decide (InWin l s.val (A + i.val))) := by
    have hw := rowS_wide_at s h g i
    pointwise [okMask]
    rw [hw]
    exact mask_cached a l s i.val A hA hA' (by omega) hl
  have hsc := scoreScale_at k0 k1 k2 k3 s h g 0 hk
  pointwise [scoresC]
  rw [hm, select_ofBool, maskVal_eq, hsc, Fin.sum_univ_tiles 4 64 rfl, Finset.sum_eq_single h]
  · refine if_congr Iff.rfl ?_ rfl
    rw [mul_comm (powE _ * _) rlog2, mul_left_comm]
    refine congrArg (rlog2 * ·) (congrArg (· * _) (Finset.sum_congr rfl fun d _ => ?_))
    rw [qWide_at, if_pos rfl, mul_comm]
  · intro k _ hkh
    refine Finset.sum_eq_zero fun d _ => ?_
    rw [qWide_at, if_neg hkh, zero_mul]
  · exact fun hx => absurd (Finset.mem_univ _) hx

/-- A row's scores against the new tokens. -/
theorem scoresN_at (k0 k1 k2 k3 : BitVec 32) (s h g : Fin 4) (hk : -252 ≤ (sel4 k0 k1 k2 k3 h).toInt ∧ (sel4 k0 k1 k2 k3 h).toInt ≤ 252)
    (x : Vec Ideal S1x4x16x64 .bf16) (kn : FVec Ideal S128x64 .fp8e4m3) (b : Fin 4) (j : Fin 2) (i : Fin 128) :
    scoresN (BitVec.ofNat 32 b.val) (BitVec.ofNat 32 (4 * j.val)) k0 k1 k2 k3 x kn (ix2 (row s h g) i)
      = if lane b j h s i then
          rlog2 * ((∑ d : Fin 64, kn (ix2 i d) * x (ix4 0 s ⟨4 * h.val + g.val, by omega⟩ d))
            * (powE (sel4 k0 k1 k2 k3 h) * Ideal.ofBits .f32 0x3E000000#32))
        else ⊥ := by
  have hm : newOk (BitVec.ofNat 32 b.val) (BitVec.ofNat 32 (4 * j.val)) (ix2 (row s h g) i)
      = BitVec.ofBool (decide (lane b j h s i)) := by
    pointwise [newOk, newB_at, newH_at, rowH_at s h g, newT_at, rowS_at s h g]
    exact mask_lane b j h s i
  have hsc := scoreScale_at k0 k1 k2 k3 s h g 0 hk
  pointwise [scoresN]
  rw [hm, select_ofBool, maskVal_eq, hsc]
  refine if_congr Iff.rfl ?_ rfl
  rw [mul_comm (powE _ * _) rlog2, mul_left_comm]
  refine congrArg (rlog2 * ·) (congrArg (· * _) (Finset.sum_congr rfl fun d _ => ?_))
  rw [qRows_at, mul_comm]

/-- The largest score of a row. -/
theorem rowMax_at (sc : FVec Ideal S64x1152 .f32) (sn : FVec Ideal S64x128 .f32) (r : Fin 64) :
    rowMax sc sn (ix2 r 0) = max (Finset.univ.fold max ⊥ fun i => sc (ix2 r i)) (Finset.univ.fold max ⊥ fun i => sn (ix2 r i)) := by
  pointwise [rowMax]
  rw [ofBits_neg_inf]

/-- A row's normaliser. -/
theorem normRow_at (v0 v1 v2 v3 : BitVec 32) (s h g : Fin 4) (hv : -252 ≤ (sel4 v0 v1 v2 v3 h).toInt ∧ (sel4 v0 v1 v2 v3 h).toInt ≤ 252)
    (ec : FVec Ideal S64x1152 .f32) (en : FVec Ideal S64x128 .f32) :
    normRow v0 v1 v2 v3 ec en (ix2 (row s h g) 0)
      = Ideal.div (powE (sel4 v0 v1 v2 v3 h)) ((∑ i, ec (ix2 (row s h g) i)) + ∑ i, en (ix2 (row s h g) i)) := by
  have hp := pick4_at v0 v1 v2 v3 s h g 0
  pointwise [normRow]
  rw [pow2_at _ _ (by rw [hp]; exact hv), hp]

/-- The cached part of the output over the four heads' columns. -/
theorem outC_at (ec : FVec Ideal S64x1152 .f32) (n : FVec Ideal S64x1 .f32) (vt : Vec Ideal S1x256x1152 .fp8e4m3) (r : Fin 64) (q : Fin 256) :
    outC ec n vt (ix2 r q) = ∑ i, ec (ix2 r i) * n (ix2 r 0) * vt (ix3 0 q i) := by
  pointwise [outC]

/-- The new part of the output. -/
theorem outN_at (en : FVec Ideal S64x128 .f32) (n : FVec Ideal S64x1 .f32) (vn : FVec Ideal S128x64 .fp8e4m3) (r d : Fin 64) :
    outN en n vn (ix2 r d) = ∑ i, en (ix2 r i) * n (ix2 r 0) * vn (ix2 i d) := by
  pointwise [outN]

/-- The half of the columns of a row's head. -/
theorem selHalf_at (s h g : Fin 4) (oc : FVec Ideal S64x256 .f32) (q : Fin 128) :
    selHalf oc (ix2 (row s h g) q) = oc (ix2 (row s h g) ⟨h.val / 2 * 128 + q.val, by omega⟩) := by
  have hh := h.isLt
  have hq := q.isLt
  pointwise [selHalf, rowH_at s h g]
  rw [show (2#32) = BitVec.ofNat 32 2 from rfl, WordCmp.cmpi_slt_ofNat (by omega) (by omega), select_ofBool]
  by_cases h2 : h.val < 2
  · rw [if_pos h2]
    exact congrArg (fun q : Fin 256 => oc (ix2 (row s h g) q)) (Fin.ext (by dsimp only; omega))
  · rw [if_neg h2]
    exact congrArg (fun q : Fin 256 => oc (ix2 (row s h g) q)) (Fin.ext (by dsimp only; omega))

/-- The columns of a row's head. -/
theorem ownCols_at (s h g : Fin 4) (oc : FVec Ideal S64x256 .f32) (d : Fin 64) :
    ownCols oc (ix2 (row s h g) d) = oc (ix2 (row s h g) ⟨h.val * 64 + d.val, by omega⟩) := by
  have hm := rowH_mod_at s h g
  have hh := h.isLt
  have hd := d.isLt
  pointwise [ownCols, hm]
  rw [show (0#32) = BitVec.ofNat 32 0 from rfl, WordCmp.cmpi_eq_ofNat (by omega) (by omega), select_ofBool]
  by_cases h2 : h.val % 2 = 0
  · rw [if_pos h2]
    refine (selHalf_at s h g oc _).trans ?_
    exact congrArg (fun q : Fin 256 => oc (ix2 (row s h g) q)) (Fin.ext (by dsimp only; omega))
  · rw [if_neg h2]
    refine (selHalf_at s h g oc _).trans ?_
    exact congrArg (fun q : Fin 256 => oc (ix2 (row s h g) q)) (Fin.ext (by dsimp only; omega))

/-- The block's layout. -/
theorem outRows_at (s h g : Fin 4) (oc : FVec Ideal S64x256 .f32) (on : FVec Ideal S64x64 .f32) (d : Fin 64) :
    outRows oc on (ix4 0 s ⟨4 * h.val + g.val, by omega⟩ d) = ownCols oc (ix2 (row s h g) d) + on (ix2 (row s h g) d) := by
  have e : (⟨s.val * 16 + (4 * h.val + g.val), by omega⟩ : Fin 64) = row s h g := Fin.ext (by dsimp only; omega)
  pointwise [outRows]
  exact congrArg (fun r : Fin 64 => ownCols oc (ix2 r d) + on (ix2 r d)) e

/-- A row's weights of the cache. -/
theorem expC_at (sc : FVec Ideal S64x1152 .f32) (m : FVec Ideal S64x1 .f32) (r : Fin 64) (i : Fin 1152) :
    expC sc m (ix2 r i) = Ideal.exp2 (sc (ix2 r i) - m (ix2 r 0)) := by
  pointwise [expC]
  rfl

/-- A row's weights of the new tokens. -/
theorem expN_at (sn : FVec Ideal S64x128 .f32) (m : FVec Ideal S64x1 .f32) (r : Fin 64) (i : Fin 128) :
    expN sn m (ix2 r i) = Ideal.exp2 (sn (ix2 r i) - m (ix2 r 0)) := by
  pointwise [expN]
  rfl

/-- The kernel's block is the attention over the window. -/
theorem blk_at (a l : BitVec 32) (A : ℕ) (hA : a.toInt = A) (hA' : A ≤ 131072)
    (hl : -2147482624 ≤ l.toInt ∧ l.toInt ≤ 2147483644)
    (k0 k1 k2 k3 v0 v1 v2 v3 : BitVec 32) (s h g : Fin 4) (hk : -252 ≤ (sel4 k0 k1 k2 k3 h).toInt ∧ (sel4 k0 k1 k2 k3 h).toInt ≤ 252)
    (hv : -252 ≤ (sel4 v0 v1 v2 v3 h).toInt ∧ (sel4 v0 v1 v2 v3 h).toInt ≤ 252)
    (x : Vec Ideal S1x4x16x64 .bf16)
    (kt vt : Vec Ideal S1x256x1152 .fp8e4m3) (kn vn : FVec Ideal S128x64 .fp8e4m3)
    (hAl : (A : ℤ) = min 129920 (max 0 (128 * ((l.toInt - 1023) / 128)))) (b : Fin 4) (j : Fin 2) (d : Fin 64)
    (kc' : Fin 131072 → Fin 64 → EReal) (vc' : Fin 131072 → EReal) (kn' : Fin 4 → Fin 64 → EReal) (vn' : Fin 4 → EReal)
    (hkc : ∀ (i : Fin 1152) (h' : A + i.val < 131072) (d : Fin 64), kt (ix3 0 ⟨h.val * 64 + d.val, by omega⟩ i) = kc' ⟨A + i.val, h'⟩ d)
    (hvc : ∀ (i : Fin 1152) (h' : A + i.val < 131072), vt (ix3 0 ⟨h.val * 64 + d.val, by omega⟩ i) = vc' ⟨A + i.val, h'⟩)
    (hkn : ∀ i : Fin 128, lane b j h s i → ∀ d : Fin 64, kn (ix2 i d) = kn' (tokOf i) d)
    (hvn : ∀ i : Fin 128, lane b j h s i → vn (ix2 i d) = vn' (tokOf i)) :
    blk (BitVec.ofNat 32 b.val) (BitVec.ofNat 32 (4 * j.val)) a l k0 k1 k2 k3 v0 v1 v2 v3 x kt vt kn vn
        (ix4 0 s ⟨4 * h.val + g.val, by omega⟩ d)
      = entry l s (fun d => x (ix4 0 s ⟨4 * h.val + g.val, by omega⟩ d)) kc' kn' vc' vn'
        (powE (sel4 k0 k1 k2 k3 h) * Ideal.ofBits .f32 0x3E000000#32) (powE (sel4 v0 v1 v2 v3 h)) := by
  have hlt : ∀ i : Fin 1152, A + i.val < 131072 := fun i => by omega
  unfold blk finish entry
  rw [outRows_at, ownCols_at, outC_at, outN_at]
  simp only [expC_at, expN_at]
  exact attend_exp2 (kernel_marks l s A hAl) (lane_marks b j h s) _ _ _ _ _ _ _ _ _
    (fun i => by
      rw [scoresC_at a l A hA hA' hl k0 k1 k2 k3 s h g hk x kt i]
      refine if_congr Iff.rfl (congrArg (rlog2 * ·) (congrArg (· * _) (Finset.sum_congr rfl fun d _ => ?_))) rfl
      rw [onNat, dif_pos (hlt i), hkc i (hlt i)])
    (fun i => by
      rw [scoresN_at k0 k1 k2 k3 s h g hk x kn b j i]
      by_cases hi : lane b j h s i
      · rw [if_pos hi, if_pos hi]
        refine congrArg (rlog2 * ·) (congrArg (· * _) (Finset.sum_congr rfl fun d _ => ?_))
        rw [hkn i hi]
      · rw [if_neg hi, if_neg hi])
    (fun i _ => by rw [onNat, dif_pos (hlt i), hvc i (hlt i)]) (fun i hi => hvn i hi) _ _ (rowMax_at _ _ _)
    ((normRow_at v0 v1 v2 v3 s h g hv _ _).trans (by simp only [expC_at, expN_at]))

end Cert.KernelIdeal.Hand

end
-- ==== Proof.R.Term.lean ====
module

public import proofs.«01_k».proof.Proof.Gen.ReferenceIdeal.Frame

@[expose] public section

set_option maxRecDepth 16384

noncomputable section

/-! The reference's own operations as functions of its arguments, in any float model. -/

namespace Cert.ReferenceIdeal.Val

open Cert.ReferenceIdeal Cert.ReferenceIdeal.Gen
open Idealize.ShloMosaic Idealize.ShloMosaic.TcCoe Idealize.SL.Sem

variable {F : FTy → Type} [FloatOps F]

/-- The scales `2 ^ e`. -/
def rScale (e : IVec S8 32) : FVec F S8 .f32 :=
  Host.powf (broadcastInDim S8 ![] bcast_S_S8 (constant S_ .f32 0x40000000#32)) (sitofp .f32 e)

/-- The codes of new tokens: scaled by `2 ^ (-e)` and clamped. -/
def rCodes (e : IVec S8 32) (x : FVec F S4x4x8x64 .bf16) : FVec F S4x4x8x64 .fp8e4m3 :=
  Host.convertf .fp8e4m3
    (minimumf (broadcastInDim S4x4x8x64 ![] bcast_S_S4x4x8x64 (constant S_ .f32 0x43E00000#32))
      (maximumf (broadcastInDim S4x4x8x64 ![] bcast_S_S4x4x8x64 (constant S_ .f32 0xC3E00000#32))
        (mulf (extf .f32 x bitsLt_bf16_f32)
          (broadcastInDim S4x4x8x64 ![0, 1, 2, 3] bcast_S1x1x8x1_S4x4x8x64_0_1_2_3
            (broadcastInDim S1x1x8x1 ![2, 3] bcast_S8x1_S1x1x8x1_2_3
              (broadcastInDim S8x1 ![0] bcast_S8_S8x1_0 (rScale (negi e))))))))

/-- The scales as the row returned. -/
def rScaleRow (e : IVec S8 32) : FVec F S1x8 .f32 := broadcastInDim S1x8 ![1] bcast_S8_S1x8_1 (rScale e)

/-- The first position of each sequence's window. -/
def rStart (l : IVec S4 32) : IVec S4 32 :=
  minsi (broadcastInDim S4 ![] bcast_S_S4 (constantI S_ 32 130048#32))
    (maxsi (broadcastInDim S4 ![] bcast_S_S4 (constantI S_ 32 0#32))
      (subi l (broadcastInDim S4 ![] bcast_S_S4 (constantI S_ 32 1024#32))))

/-- A position counted from the end when it is negative. -/
def rWrap (w : IVec S_ 32) : IVec S_ 32 :=
  select (cmpi .slt w (constantI S_ 32 0#32)) (addi w (constantI S_ 32 131072#32)) w

/-- One sequence's window of a cache. -/
def rSlice (A : FVec F S4x131072x8x64 .fp8e4m3) (b : BitVec 32) (w : IVec S_ 32) : FVec F S1x1024x8x64 .fp8e4m3 :=
  Host.dynamicSlice S1x1024x8x64 A
    (fun k => ((![constantI S_ 32 b, rWrap w, constantI S_ 32 0#32, constantI S_ 32 0#32] : Fin 4 → IVec S_ 32) k
      (Shape.Idx.first h_S_)).toInt) sliceFits_S4x131072x8x64_S1x1024x8x64

/-- The four windows of a cache, stacked. -/
def rWindow (A : FVec F S4x131072x8x64 .fp8e4m3) (st : IVec S4 32) : FVec F S4x1024x8x64 .fp8e4m3 :=
  concatenate S4x1024x8x64 0
    [⟨S1x1024x8x64, rSlice A 0#32 (shapeCast S_ (extractStridedSlice S1 ![0] st slices_S4_S1_0) shapeCasts_S1_S_)⟩,
      ⟨S1x1024x8x64, rSlice A 1#32 (shapeCast S_ (extractStridedSlice S1 ![1] st slices_S4_S1_1) shapeCasts_S1_S_)⟩,
      ⟨S1x1024x8x64, rSlice A 2#32 (shapeCast S_ (extractStridedSlice S1 ![2] st slices_S4_S1_2) shapeCasts_S1_S_)⟩,
      ⟨S1x1024x8x64, rSlice A 3#32 (shapeCast S_ (extractStridedSlice S1 ![3] st slices_S4_S1_3) shapeCasts_S1_S_)⟩]
    concatenates_S1x1024x8x64_S1x1024x8x64_S1x1024x8x64_S1x1024x8x64_S4x1024x8x64_d0

/-- The position of each new token. -/
def rTok (l : IVec S4 32) : IVec S4x4 32 :=
  addi (broadcastInDim S4x4 ![0, 1] bcast_S4x1_S4x4_0_1 (broadcastInDim S4x1 ![0] bcast_S4_S4x1_0 l))
    (broadcastInDim S4x4 ![0, 1] bcast_S1x4_S4x4_0_1 (broadcastInDim S1x4 ![1] bcast_S4_S1x4_1 (iotaInDim S4 32 0)))

/-- The position of each cached token of the windows. -/
def rPos (st : IVec S4 32) : IVec S4x1x1024 32 :=
  addi (broadcastInDim S4x1x1024 ![0, 1, 2] bcast_S4x1x1_S4x1x1024_0_1_2 (broadcastInDim S4x1x1 ![0] bcast_S4_S4x1x1_0 st))
    (broadcastInDim S4x1x1024 ![0, 1, 2] bcast_S1x1x1024_S4x1x1024_0_1_2
      (broadcastInDim S1x1x1024 ![2] bcast_S1024_S1x1x1024_2 (iotaInDim S1024 32 0)))

/-- One window back from each new token. -/
def rFrom (l : IVec S4 32) : IVec S4x4x1 32 :=
  subi (broadcastInDim S4x4x1 ![0, 1] bcast_S4x4_S4x4x1_0_1 (rTok l))
    (broadcastInDim S4x4x1 ![] bcast_S_S4x4x1 (constantI S_ 32 1024#32))

/-- Which cached tokens a new token attends to. -/
def rMaskC (l st : IVec S4 32) : IVec S4x4x1024 1 :=
  andi
    (broadcastInDim S4x4x1024 ![0, 1, 2] bcast_S4x1x1024_S4x4x1024_0_1_2
      (cmpi .slt (rPos st)
        (broadcastInDim S4x1x1024 ![0, 1, 2] bcast_S4x1x1_S4x1x1024_0_1_2 (broadcastInDim S4x1x1 ![0] bcast_S4_S4x1x1_0 l))))
    (cmpi .sgt (broadcastInDim S4x4x1024 ![0, 1, 2] bcast_S4x1x1024_S4x4x1024_0_1_2 (rPos st))
      (broadcastInDim S4x4x1024 ![0, 1, 2] bcast_S4x4x1_S4x4x1024_0_1_2 (rFrom l)))

/-- Which new tokens a new token attends to. -/
def rMaskN (l : IVec S4 32) : IVec S4x4x4 1 :=
  andi
    (cmpi .sle
      (broadcastInDim S4x4x4 ![0, 1, 2] bcast_S4x1x4_S4x4x4_0_1_2 (broadcastInDim S4x1x4 ![0, 2] bcast_S4x4_S4x1x4_0_2 (rTok l)))
      (broadcastInDim S4x4x4 ![0, 1, 2] bcast_S4x4x1_S4x4x4_0_1_2 (broadcastInDim S4x4x1 ![0, 1] bcast_S4x4_S4x4x1_0_1 (rTok l))))
    (cmpi .sgt
      (broadcastInDim S4x4x4 ![0, 1, 2] bcast_S4x1x4_S4x4x4_0_1_2 (broadcastInDim S4x1x4 ![0, 2] bcast_S4x4_S4x1x4_0_2 (rTok l)))
      (broadcastInDim S4x4x4 ![0, 1, 2] bcast_S4x4x1_S4x4x4_0_1_2 (rFrom l)))

/-- The queries, one row per head of keys and group. -/
def rQ (x : FVec F S4x4x32x64 .bf16) : FVec F S4x4x8x4x64 .bf16 := shapeCast S4x4x8x4x64 x shapeCasts_S4x4x32x64_S4x4x8x4x64

/-- The factor of the scores. -/
def rScoreScale (ks : FVec F S8 .f32) : FVec F S1x8x1x1x1 .f32 :=
  broadcastInDim S1x8x1x1x1 ![1] bcast_S8_S1x8x1x1x1_1
    (mulf ks (broadcastInDim S8 ![] bcast_S_S8 (constant S_ .f32 0x3E000000#32)))

/-- The scores against the cached tokens. -/
def rScoresC (m : IVec S4x4x1024 1) (ks : FVec F S8 .f32) (kc : FVec F S4x1024x8x64 .bf16) (x : FVec F S4x4x32x64 .bf16) :
    FVec F S4x8x4x4x1024 .f32 :=
  select
    (broadcastInDim S4x8x4x4x1024 ![0, 1, 2, 3, 4] bcast_S4x1x1x4x1024_S4x8x4x4x1024_0_1_2_3_4
      (broadcastInDim S4x1x1x4x1024 ![0, 3, 4] bcast_S4x4x1024_S4x1x1x4x1024_0_3_4 m))
    (mulf
      (transpose S4x8x4x4x1024 [0, 1, 4, 3, 2]
        (Host.dotGeneral dot_S4x1024x8x64_S4x4x8x4x64_S4x8x1024x4x4_3_4_1_13_02_02 none kc (rQ x))
        transposes_S4x8x1024x4x4_S4x8x4x4x1024_0_1_4_3_2)
      (broadcastInDim S4x8x4x4x1024 ![0, 1, 2, 3, 4] bcast_S1x8x1x1x1_S4x8x4x4x1024_0_1_2_3_4 (rScoreScale ks)))
    (broadcastInDim S4x8x4x4x1024 ![] bcast_S_S4x8x4x4x1024 (constant S_ .f32 0xFF800000#32))

/-- The scores against the new tokens. -/
def rScoresN (m : IVec S4x4x4 1) (ks : FVec F S8 .f32) (kn : FVec F S4x4x8x64 .bf16) (x : FVec F S4x4x32x64 .bf16) :
    FVec F S4x8x4x4x4 .f32 :=
  select
    (broadcastInDim S4x8x4x4x4 ![0, 1, 2, 3, 4] bcast_S4x1x1x4x4_S4x8x4x4x4_0_1_2_3_4
      (broadcastInDim S4x1x1x4x4 ![0, 3, 4] bcast_S4x4x4_S4x1x1x4x4_0_3_4 m))
    (mulf
      (transpose S4x8x4x4x4 [0, 1, 4, 3, 2]
        (Host.dotGeneral dot_S4x4x8x64_S4x4x8x4x64_S4x8x4x4x4_3_4_1_13_02_02 none kn (rQ x))
        transposes_S4x8x4x4x4_S4x8x4x4x4_0_1_4_3_2)
      (broadcastInDim S4x8x4x4x4 ![0, 1, 2, 3, 4] bcast_S1x8x1x1x1_S4x8x4x4x4_0_1_2_3_4 (rScoreScale ks)))
    (broadcastInDim S4x8x4x4x4 ![] bcast_S_S4x8x4x4x4 (constant S_ .f32 0xFF800000#32))

/-- All scores of a row. -/
def rScores (sc : FVec F S4x8x4x4x1024 .f32) (sn : FVec F S4x8x4x4x4 .f32) : FVec F S4x8x4x4x1028 .f32 :=
  concatenate S4x8x4x4x1028 4 [⟨S4x8x4x4x1024, sc⟩, ⟨S4x8x4x4x4, sn⟩] concatenates_S4x8x4x4x1024_S4x8x4x4x4_S4x8x4x4x1028_d4

/-- The weights before they are normalised. -/
def rWeights (s : FVec F S4x8x4x4x1028 .f32) : FVec F S4x8x4x4x1028 .f32 :=
  Host.exp (subf s
    (broadcastInDim S4x8x4x4x1028 ![0, 1, 2, 3, 4] bcast_S4x8x4x4x1_S4x8x4x4x1028_0_1_2_3_4
      (broadcastInDim S4x8x4x4x1 ![0, 1, 2, 3] bcast_S4x8x4x4_S4x8x4x4x1_0_1_2_3
        (Host.reduce FloatOps.maximumf s (constant S_ .f32 0xFF800000#32) reducesTo_S4x8x4x4x1028_S4x8x4x4_d4 h_S_))))

/-- The sum of a row's weights. -/
def rTotal (w : FVec F S4x8x4x4x1028 .f32) : FVec F S4x8x4x4x1 .f32 :=
  broadcastInDim S4x8x4x4x1 ![0, 1, 2, 3] bcast_S4x8x4x4_S4x8x4x4x1_0_1_2_3
    (Host.reduceAdd w (constant S_ .f32 0x00000000#32) reducesTo_S4x8x4x4x1028_S4x8x4x4_d4 h_S_)

/-- The probabilities. -/
def rProbs (w : FVec F S4x8x4x4x1028 .f32) : FVec F S4x8x4x4x1028 .f32 :=
  select
    (broadcastInDim S4x8x4x4x1028 ![0, 1, 2, 3, 4] bcast_S4x8x4x4x1_S4x8x4x4x1028_0_1_2_3_4
      (cmpf .oeq (rTotal w) (broadcastInDim S4x8x4x4x1 ![] bcast_S_S4x8x4x4x1 (constant S_ .f32 0x00000000#32))))
    (broadcastInDim S4x8x4x4x1028 ![] bcast_S_S4x8x4x4x1028 (constant S_ .f32 0x00000000#32))
    (Host.divf w (broadcastInDim S4x8x4x4x1028 ![0, 1, 2, 3, 4] bcast_S4x8x4x4x1_S4x8x4x4x1028_0_1_2_3_4 (rTotal w)))

/-- The output out of the probabilities. -/
def rApply (p : FVec F S4x8x4x4x1028 .f32) (vs : FVec F S8 .f32) (vc : FVec F S4x1024x8x64 .bf16) (vn : FVec F S4x4x8x64 .bf16) :
    FVec F S4x4x32x64 .bf16 :=
  truncf .bf16
    (shapeCast S4x4x32x64
      (addf
        (transpose S4x4x8x4x64 [0, 4, 1, 3, 2]
          (Host.dotGeneral dot_S4x1024x8x64_S4x8x4x4x1024_S4x8x64x4x4_1_4_3_23_02_01 none vc
            (truncf .bf16
              (mulf (extractStridedSlice S4x8x4x4x1024 ![0, 0, 0, 0, 0] p slices_S4x8x4x4x1028_S4x8x4x4x1024_0_0_0_0_0)
                (broadcastInDim S4x8x4x4x1024 ![0, 1, 2, 3, 4] bcast_S1x8x1x1x1_S4x8x4x4x1024_0_1_2_3_4
                  (broadcastInDim S1x8x1x1x1 ![1] bcast_S8_S1x8x1x1x1_1 vs)))
              bitsLt_bf16_f32))
          transposes_S4x8x64x4x4_S4x4x8x4x64_0_4_1_3_2)
        (transpose S4x4x8x4x64 [0, 4, 1, 3, 2]
          (Host.dotGeneral dot_S4x4x8x64_S4x8x4x4x4_S4x8x64x4x4_1_4_3_23_02_01 none vn
            (truncf .bf16
              (mulf (extractStridedSlice S4x8x4x4x4 ![0, 0, 0, 0, 1024] p slices_S4x8x4x4x1028_S4x8x4x4x4_0_0_0_0_1024)
                (broadcastInDim S4x8x4x4x4 ![0, 1, 2, 3, 4] bcast_S1x8x1x1x1_S4x8x4x4x4_0_1_2_3_4
                  (broadcastInDim S1x8x1x1x1 ![1] bcast_S8_S1x8x1x1x1_1 vs)))
              bitsLt_bf16_f32))
          transposes_S4x8x64x4x4_S4x4x8x4x64_0_4_1_3_2))
      shapeCasts_S4x4x8x4x64_S4x4x32x64)
    bitsLt_bf16_f32

/-- The attention output out of the windows and codes read as bf16. -/
def rAttend (l st : IVec S4 32) (ks vs : FVec F S8 .f32) (x : FVec F S4x4x32x64 .bf16)
    (kc vc : FVec F S4x1024x8x64 .bf16) (kn vn : FVec F S4x4x8x64 .bf16) : FVec F S4x4x32x64 .bf16 :=
  rApply (rProbs (rWeights (rScores (rScoresC (rMaskC l st) ks kc x) (rScoresN (rMaskN l) ks kn x)))) vs vc vn

/-- The attention output out of the arguments. -/
def rOut (x : FVec F S4x4x32x64 .bf16) (k v : FVec F S4x4x8x64 .bf16) (A B : FVec F S4x131072x8x64 .fp8e4m3)
    (l : IVec S4 32) (e f : IVec S8 32) : FVec F S4x4x32x64 .bf16 :=
  rAttend l (rStart l) (rScale e) (rScale f) x
    (extf .bf16 (rWindow A (rStart l)) bitsLt_fp8e4m3_bf16) (extf .bf16 (rWindow B (rStart l)) bitsLt_fp8e4m3_bf16)
    (extf .bf16 (rCodes e k) bitsLt_fp8e4m3_bf16) (extf .bf16 (rCodes f v) bitsLt_fp8e4m3_bf16)

end Cert.ReferenceIdeal.Val

end
-- ==== Proof.V.Reference.lean ====
module

public import proofs.«01_k».proof.Proof.R.Term
public import proofs.«01_k».proof.Proof.V.Words
public import Idealize.ShloMosaic.Lib.DynamicIndex

@[expose] public section

set_option maxRecDepth 16384

noncomputable section

/-! The reference's output in the extended reals: each entry is the attention over the window. -/

namespace Cert.ReferenceIdeal.Val

open Cert.ReferenceIdeal Cert.ReferenceIdeal.Gen
open Idealize.ShloMosaic Idealize.ShloMosaic.TcCoe Idealize.SL.Sem Attn

/-- Negative infinity's pattern. -/
theorem ofBits_neg_inf : Ideal.ofBits .f32 0xFF800000#32 = ⊥ := by
  simp [Ideal.ofBits, Ideal.ieee]

/-- A choice by a decided bit. -/
theorem select_ofBool {α : Type} (p : Prop) [Decidable p] (a b : α) :
    Scalar.select (BitVec.ofBool (decide p)) a b = if p then a else b := by
  by_cases h : p <;> simp [Scalar.select, h]

/-- The scales at an index. -/
theorem rScale_at (e : IVec S8 32) (h : Fin 8) :
    rScale (F := Ideal) e (ix1 h) = Ideal.pow (Ideal.ofBits .f32 0x40000000#32) (FloatOps.sitofp (F := Ideal) .f32 (e (ix1 h))) := by
  pointwise [rScale]

/-- The first position of a window. -/
theorem rStart_at (l : IVec S4 32) (b : Fin 4) :
    rStart l (ix1 b) = IntOp.minsi 130048#32 (IntOp.maxsi 0#32 (IntOp.subi (l (ix1 b)) 1024#32)) := by
  pointwise [rStart]

/-- One sequence's window at an index. -/
theorem rSlice_at (A : FVec Ideal S4x131072x8x64 .fp8e4m3) (b : Fin 4) (w : IVec S_ 32) (a : ℕ) (ha : (w (Shape.Idx.first h_S_)).toInt = a)
    (ha' : a ≤ 130048) (i : Fin 1024) (h : Fin 8) (d : Fin 64) :
    rSlice A (BitVec.ofNat 32 b.val) w (ix4 0 i h d) = A (ix4 b ⟨a + i.val, by omega⟩ h d) := by
  have hw : rWrap w (Shape.Idx.first h_S_) = w (Shape.Idx.first h_S_) :=
    select_slt_zero_of_nonneg w _ w _ (by omega)
  have hb := b.isLt
  unfold rSlice
  rw [Host.dynamicSlice_eq_extractStridedSlice S1x1024x8x64 A _ ![b.val, a, 0, 0] _
    ⟨rfl, fun k => by fin_cases k <;> simp <;> omega⟩
    (fun k => by
      fin_cases k
      · show (BitVec.ofNat 32 b.val).toInt = (b.val : ℤ)
        exact toInt_ofNat_of _ (by omega)
      · show (rWrap w (Shape.Idx.first h_S_)).toInt = (a : ℤ)
        rw [hw, ha]
      · rfl
      · rfl)]
  pointwise

section
variable (l st : IVec S4 32) (b s : Fin 4) (a : ℕ) (hst : (st (ix1 b)).toInt = a) (ha : a ≤ 130048)
  (hl : -2147482624 ≤ (l (ix1 b)).toInt ∧ (l (ix1 b)).toInt ≤ 2147483644)

include hst ha hl in
/-- The mask of a cached position. -/
theorem rMaskC_at (i : Fin 1024) : rMaskC l st (ix3 b s i) = BitVec.ofBool (decide (InWin (l (ix1 b)) s.val (a + i.val))) := by
  pointwise [rMaskC, rPos, rFrom, rTok]
  exact mask_cached _ _ s i.val a hst (by omega) (by omega) hl

include hl in
/-- The mask of a new token. -/
theorem rMaskN_at (t : Fin 4) : rMaskN l (ix3 b s t) = BitVec.ofBool (decide (t ≤ s)) := by
  pointwise [rMaskN, rFrom, rTok]
  exact mask_new _ s t hl

end

/-- A maximum over 1028 entries, cut in two. -/
theorem fold_max_split (f : Fin 1028 → EReal) :
    Finset.univ.fold max ⊥ f = max (Finset.univ.fold max ⊥ fun i : Fin 1024 => f ⟨i.val, by omega⟩)
      (Finset.univ.fold max ⊥ fun t : Fin 4 => f ⟨1024 + t.val, by omega⟩) := by
  show Finset.univ.sup f = max (Finset.univ.sup fun i : Fin 1024 => f ⟨i.val, by omega⟩) (Finset.univ.sup fun t : Fin 4 => f ⟨1024 + t.val, by omega⟩)
  refine le_antisymm (Finset.sup_le fun i _ => ?_) (max_le (Finset.sup_le fun i _ => Finset.le_sup (Finset.mem_univ _)) (Finset.sup_le fun i _ => Finset.le_sup (Finset.mem_univ _)))
  by_cases hi : i.val < 1024
  · exact le_max_of_le_left (Finset.le_sup (f := fun i : Fin 1024 => f ⟨i.val, by omega⟩) (Finset.mem_univ ⟨i.val, hi⟩))
  · refine le_max_of_le_right (le_trans (le_of_eq (congrArg f (Fin.ext ?_))) (Finset.le_sup (f := fun t : Fin 4 => f ⟨1024 + t.val, by omega⟩) (Finset.mem_univ ⟨i.val - 1024, by omega⟩)))
    dsimp only; omega

/-- A sum over 1028 entries, cut in two. -/
theorem sum_split (f : Fin 1028 → EReal) :
    ∑ i, f i = (∑ i : Fin 1024, f ⟨i.val, by omega⟩) + ∑ t : Fin 4, f ⟨1024 + t.val, by omega⟩ :=
  Fin.sum_univ_two_halves 1024 4 rfl f

/-- The scores of a row, cached. -/
theorem rScores_lo (sc : FVec Ideal S4x8x4x4x1024 .f32) (sn : FVec Ideal S4x8x4x4x4 .f32) (b : Fin 4) (h : Fin 8) (g s : Fin 4) (i : Fin 1024) :
    rScores sc sn (ix5 b h g s ⟨i.val, by omega⟩) = sc (ix5 b h g s i) := by
  pointwise [rScores]

/-- The scores of a row, new. -/
theorem rScores_hi (sc : FVec Ideal S4x8x4x4x1024 .f32) (sn : FVec Ideal S4x8x4x4x4 .f32) (b : Fin 4) (h : Fin 8) (g s : Fin 4) (t : Fin 4) :
    rScores sc sn (ix5 b h g s ⟨1024 + t.val, by omega⟩) = sn (ix5 b h g s t) := by
  pointwise [rScores]

/-- The weights of a row. -/
theorem rWeights_at (sc : FVec Ideal S4x8x4x4x1028 .f32) (b : Fin 4) (h : Fin 8) (g s : Fin 4) (i : Fin 1028) :
    rWeights sc (ix5 b h g s i) = Ideal.exp (sc (ix5 b h g s i) - Finset.univ.fold max ⊥ fun k => sc (ix5 b h g s k)) := by
  pointwise [rWeights]
  rw [ofBits_neg_inf]

/-- The probabilities of a row. -/
theorem rProbs_at (w : FVec Ideal S4x8x4x4x1028 .f32) (b : Fin 4) (h : Fin 8) (g s : Fin 4) (i : Fin 1028) :
    rProbs w (ix5 b h g s i) = if ∑ k, w (ix5 b h g s k) = 0 then 0 else Ideal.div (w (ix5 b h g s i)) (∑ k, w (ix5 b h g s k)) := by
  pointwise [rProbs, rTotal]

/-- The output at an index. -/
theorem rApply_at (p : FVec Ideal S4x8x4x4x1028 .f32) (vs : FVec Ideal S8 .f32) (vc : FVec Ideal S4x1024x8x64 .bf16)
    (vn : FVec Ideal S4x4x8x64 .bf16) (b s : Fin 4) (h : Fin 8) (g : Fin 4) (d : Fin 64) :
    rApply p vs vc vn (ix4 b s ⟨4 * h.val + g.val, by omega⟩ d)
      = (∑ i : Fin 1024, vc (ix4 b i h d) * (p (ix5 b h g s ⟨i.val, by omega⟩) * vs (ix1 h)))
        + ∑ t : Fin 4, vn (ix4 b t h d) * (p (ix5 b h g s ⟨1024 + t.val, by omega⟩) * vs (ix1 h)) := by
  have hg := g.isLt
  have e1 : (⟨(4 * h.val + g.val) / 4, by omega⟩ : Fin 8) = h := Fin.ext (by dsimp only; omega)
  have e2 : (⟨(4 * h.val + g.val) % 4, by omega⟩ : Fin 4) = g := Fin.ext (by dsimp only; omega)
  pointwise [rApply]

section
variable (l st : IVec S4 32) (b s : Fin 4) (a : ℕ) (hst : (st (ix1 b)).toInt = a)
  (hast : (a : ℤ) = min 130048 (max 0 ((l (ix1 b)).toInt - 1024)))
  (hl : -2147482624 ≤ (l (ix1 b)).toInt ∧ (l (ix1 b)).toInt ≤ 2147483644) (h : Fin 8) (g : Fin 4) (d : Fin 64)
  (ks vs : FVec Ideal S8 .f32) (x : FVec Ideal S4x4x32x64 .bf16)
  (kc vc : FVec Ideal S4x1024x8x64 .bf16) (kn vn : FVec Ideal S4x4x8x64 .bf16)

include hst hast hl in
/-- A row's scores against the cache. -/
theorem rScoresC_at (i : Fin 1024) :
    rScoresC (rMaskC l st) ks kc x (ix5 b h g s i)
      = if InWin (l (ix1 b)) s.val (a + i.val) then
          (∑ d : Fin 64, kc (ix4 b i h d) * x (ix4 b s ⟨4 * h.val + g.val, by omega⟩ d)) * (ks (ix1 h) * Ideal.ofBits .f32 0x3E000000#32)
        else ⊥ := by
  have hm := rMaskC_at l st b s a hst (by omega) hl i
  have e : (⟨h.val * 4 + g.val, by omega⟩ : Fin 32) = ⟨4 * h.val + g.val, by omega⟩ := Fin.ext (by dsimp only; omega)
  pointwise [rScoresC, rScoreScale, rQ]
  rw [hm, select_ofBool, ofBits_neg_inf]
  exact if_congr Iff.rfl (congrArg (· * _) (Finset.sum_congr rfl fun d _ =>
    congrArg (fun q : Fin 32 => kc (ix4 b i h d) * x (ix4 b s q d)) e)) rfl

include hl in
/-- A row's scores against the new tokens. -/
theorem rScoresN_at (t : Fin 4) :
    rScoresN (rMaskN l) ks kn x (ix5 b h g s t)
      = if t ≤ s then
          (∑ d : Fin 64, kn (ix4 b t h d) * x (ix4 b s ⟨4 * h.val + g.val, by omega⟩ d)) * (ks (ix1 h) * Ideal.ofBits .f32 0x3E000000#32)
        else ⊥ := by
  have hm := rMaskN_at l b s hl t
  have e : (⟨h.val * 4 + g.val, by omega⟩ : Fin 32) = ⟨4 * h.val + g.val, by omega⟩ := Fin.ext (by dsimp only; omega)
  pointwise [rScoresN, rScoreScale, rQ]
  rw [hm, select_ofBool, ofBits_neg_inf]
  exact if_congr Iff.rfl (congrArg (· * _) (Finset.sum_congr rfl fun d _ =>
    congrArg (fun q : Fin 32 => kn (ix4 b t h d) * x (ix4 b s q d)) e)) rfl

include hst hast hl in
/-- The reference's output is the attention over the window. -/
theorem rAttend_at (kc' : Fin 131072 → Fin 64 → EReal) (vc' : Fin 131072 → EReal)
    (hkc : ∀ (i : Fin 1024) (h' : a + i.val < 131072) d, kc (ix4 b i h d) = kc' ⟨a + i.val, h'⟩ d)
    (hvc : ∀ (i : Fin 1024) (h' : a + i.val < 131072), vc (ix4 b i h d) = vc' ⟨a + i.val, h'⟩) :
    rAttend l st ks vs x kc vc kn vn (ix4 b s ⟨4 * h.val + g.val, by omega⟩ d)
      = entry (l (ix1 b)) s (fun d => x (ix4 b s ⟨4 * h.val + g.val, by omega⟩ d)) kc' (fun t d => kn (ix4 b t h d)) vc'
        (fun t => vn (ix4 b t h d)) (ks (ix1 h) * Ideal.ofBits .f32 0x3E000000#32) (vs (ix1 h)) := by
  have hlt : ∀ i : Fin 1024, a + i.val < 131072 := fun i => by omega
  unfold rAttend entry
  rw [rApply_at]
  simp only [rProbs_at, sum_split, rWeights_at, fold_max_split, rScores_lo, rScores_hi]
  exact attend_exp (reference_marks (l (ix1 b)) s a hast) (token_marks s) _ _ _ _ _ _ _ _ _
    (fun i => by
      rw [rScoresC_at l st b s a hst hast hl h g ks x kc i]
      refine if_congr Iff.rfl (congrArg (· * _) (Finset.sum_congr rfl fun d _ => ?_)) rfl
      rw [onNat, dif_pos (hlt i), hkc i (hlt i)])
    (fun t => rScoresN_at l st b s a hl h g ks x kn t)
    (fun i _ => by rw [onNat, dif_pos (hlt i), hvc i (hlt i)]) (fun _ _ => rfl) _ _ rfl rfl

end

end Cert.ReferenceIdeal.Val

end
-- ==== Proof.V.Result.lean ====
module

public import proofs.«01_k».proof.Proof.KI.Loads
public import proofs.«01_k».proof.Proof.KI.Frame
public import proofs.«01_k».proof.Proof.V.Kernel
public import proofs.«01_k».proof.Proof.V.Reference

@[expose] public section

set_option maxRecDepth 16384

noncomputable section

/-! The kernel's results are the reference's, as functions of the arguments in the extended reals. -/

namespace Cert.Result

open Idealize.ShloMosaic Idealize.ShloMosaic.TcCoe Idealize.SL.Sem Attn
open Cert.KernelIdeal (S4 S8 S1x8 S4x4x8x64 S4x4x32x64 S4x512x131072 S1x4x16x64 S1x256x1152 S128x64)
open Cert.ReferenceIdeal (S4x131072x8x64)
open Cert.KernelIdeal.Hand Cert.ReferenceIdeal.Val

/-- The exponents the two powers agree on. -/
def ExpOk (e : IVec S8 32) : Prop := ∀ h : Fin 8, -252 ≤ (e (ix1 h)).toInt ∧ (e (ix1 h)).toInt ≤ 252

/-- The lengths no sum of positions overflows on. -/
def LenOk (l : IVec S4 32) : Prop := ∀ b : Fin 4, -2147482624 ≤ (l (ix1 b)).toInt ∧ (l (ix1 b)).toInt ≤ 2147483644

/-- Choosing among the eight words of a vector. -/
theorem sel8_vec (e : IVec S8 32) (h : Fin 8) :
    sel8 (e (ix1 0)) (e (ix1 1)) (e (ix1 2)) (e (ix1 3)) (e (ix1 4)) (e (ix1 5)) (e (ix1 6)) (e (ix1 7)) h = e (ix1 h) := by
  fin_cases h <;> rfl

/-- Choosing among four consecutive words of a vector. -/
theorem sel4_vec (e : IVec S8 32) (j : Fin 2) (h : Fin 4) :
    sel4 (e (ix1 ⟨4 * j.val + 0, by omega⟩)) (e (ix1 ⟨4 * j.val + 1, by omega⟩)) (e (ix1 ⟨4 * j.val + 2, by omega⟩))
      (e (ix1 ⟨4 * j.val + 3, by omega⟩)) h = e (ix1 ⟨4 * j.val + h.val, by omega⟩) := by
  fin_cases h <;> rfl

/-- The word chosen among four is in range. -/
theorem sel4_ok (e : IVec S8 32) (he : ExpOk e) (j : Fin 2) (h : Fin 4) :
    -252 ≤ (sel4 (e (ix1 ⟨4 * j.val + 0, by omega⟩)) (e (ix1 ⟨4 * j.val + 1, by omega⟩)) (e (ix1 ⟨4 * j.val + 2, by omega⟩))
        (e (ix1 ⟨4 * j.val + 3, by omega⟩)) h).toInt
      ∧ (sel4 (e (ix1 ⟨4 * j.val + 0, by omega⟩)) (e (ix1 ⟨4 * j.val + 1, by omega⟩)) (e (ix1 ⟨4 * j.val + 2, by omega⟩))
        (e (ix1 ⟨4 * j.val + 3, by omega⟩)) h).toInt ≤ 252 := by
  rw [sel4_vec]
  exact he _

/-- One code. -/
def code (e : IVec S8 32) (x : FVec Ideal S4x4x8x64 .bf16) (b t : Fin 4) (h : Fin 8) (d : Fin 64) : EReal :=
  min (Ideal.ofBits .f32 0x43E00000#32) (max (Ideal.ofBits .f32 0xC3E00000#32) (x (ix4 b t h d) * powE (-(e (ix1 h)))))

/-- The kernel's code. -/
theorem outCodes_at (e : IVec S8 32) (he : ExpOk e) (x : FVec Ideal S4x4x8x64 .bf16) (b t : Fin 4) (h : Fin 8) (d : Fin 64) :
    outCodes (F := Ideal) e x (ix4 b t h d) = code e x b t h d := by
  have hc := clipped_at (e (ix1 0)) (e (ix1 1)) (e (ix1 2)) (e (ix1 3)) (e (ix1 4)) (e (ix1 5)) (e (ix1 6)) (e (ix1 7)) x b t h d
    (by rw [sel8_vec]; exact he h)
  rw [sel8_vec] at hc
  exact hc

/-- The reference's code. -/
theorem rCodes_at (e : IVec S8 32) (x : FVec Ideal S4x4x8x64 .bf16) (b t : Fin 4) (h : Fin 8) (d : Fin 64) :
    rCodes (F := Ideal) e x (ix4 b t h d) = code e x b t h d := by
  pointwise [rCodes, rScale, code, powE]

/-- The codes are the reference's. -/
theorem codes_eq (e : IVec S8 32) (he : ExpOk e) (x : FVec Ideal S4x4x8x64 .bf16) : outCodes e x = rCodes e x := by
  funext i
  idx_vars i
  rw [rCodes_at]
  exact outCodes_at e he x _ _ _ _

/-- The scales are the reference's. -/
theorem scale_eq (e : IVec S8 32) (he : ExpOk e) : outScale (F := Ideal) e = rScaleRow e := by
  funext i
  idx_vars i
  have e0 : i0 = 0 := Subsingleton.elim _ _
  subst e0
  have hs := scaleRow_at (e (ix1 0)) (e (ix1 1)) (e (ix1 2)) (e (ix1 3)) (e (ix1 4)) (e (ix1 5)) (e (ix1 6)) (e (ix1 7)) i1
    (by rw [sel8_vec]; exact he i1)
  rw [sel8_vec] at hs
  refine Eq.trans hs ?_
  pointwise [rScaleRow, rScale, powE]

/-- The kernel's codes, one row per sequence, token and head. -/
theorem codes2_at (e : IVec S8 32) (he : ExpOk e) (x : FVec Ideal S4x4x8x64 .bf16) (i : Fin 128) (d : Fin 64) :
    codes2 (F := Ideal) (e (ix1 0)) (e (ix1 1)) (e (ix1 2)) (e (ix1 3)) (e (ix1 4)) (e (ix1 5)) (e (ix1 6)) (e (ix1 7)) x (ix2 i d)
      = code e x ⟨i.val / 32, by omega⟩ (tokOf i) ⟨i.val % 8, by omega⟩ d := by
  have hc := clipped_at (e (ix1 0)) (e (ix1 1)) (e (ix1 2)) (e (ix1 3)) (e (ix1 4)) (e (ix1 5)) (e (ix1 6)) (e (ix1 7)) x
    ⟨i.val / 32, by omega⟩ (tokOf i) ⟨i.val % 8, by omega⟩ d (by rw [sel8_vec]; exact he _)
  rw [sel8_vec] at hc
  refine Eq.trans ?_ hc
  pointwise [codes2]
  rfl

/-- One entry of a window's copy in the kernel. -/
theorem cacheRd_at (A : Vec Ideal S4x512x131072 .fp8e4m3) (C : FVec Ideal S4x131072x8x64 .fp8e4m3)
    (hA : ∀ (b : Fin 4) (r : Fin 512) (p : Fin 131072), A (ix3 b r p) = C (ix4 b p ⟨r.val / 64, by omega⟩ ⟨r.val % 64, by omega⟩))
    (b : Fin 4) (j : Fin 2) (h : Fin 4) (a : ℕ) (i : Fin 1152) (h' : a + i.val < 131072) (d : Fin 64) :
    cacheRd A b.val (256 * j.val) a (ix3 0 ⟨h.val * 64 + d.val, by omega⟩ i)
      = C (ix4 b ⟨a + i.val, h'⟩ ⟨4 * j.val + h.val, by omega⟩ d) := by
  have hb := b.isLt
  have hj := j.isLt
  have hh := h.isLt
  have hd := d.isLt
  have e0 : (⟨b.val % 4, Nat.mod_lt _ (by decide)⟩ : Fin 4) = b := Fin.ext (by dsimp only; omega)
  have e1 : (⟨(256 * j.val + (h.val * 64 + d.val)) % 512, Nat.mod_lt _ (by decide)⟩ : Fin 512)
      = ⟨256 * j.val + (h.val * 64 + d.val), by omega⟩ := Fin.ext (by dsimp only; omega)
  have e2 : (⟨(a + i.val) % 131072, Nat.mod_lt _ (by decide)⟩ : Fin 131072) = ⟨a + i.val, h'⟩ := Fin.ext (by dsimp only; omega)
  have e3 : (⟨(256 * j.val + (h.val * 64 + d.val)) / 64, by omega⟩ : Fin 8) = ⟨4 * j.val + h.val, by omega⟩ := Fin.ext (by dsimp only; omega)
  have e4 : (⟨(256 * j.val + (h.val * 64 + d.val)) % 64, by omega⟩ : Fin 64) = d := Fin.ext (by dsimp only; omega)
  have e := hA b ⟨256 * j.val + (h.val * 64 + d.val), by omega⟩ ⟨a + i.val, h'⟩
  dsimp only at e
  rw [e3, e4] at e
  refine Eq.trans ?_ e
  rw [← e1, ← e2]
  conv_rhs => rw [← e0]
  rfl

/-- The first position of the kernel's window, as an integer. -/
theorem startW_toInt (l : BitVec 32) (hl : -2147482624 ≤ l.toInt ∧ l.toInt ≤ 2147483644) :
    (startW l).toInt = min 129920 (max 0 (128 * ((l.toInt - 1023) / 128))) := by
  have e : startW l = IntOp.minsi 129920#32 (IntOp.maxsi 0#32
      (IntOp.shli .scalar (IntOp.shrsi .scalar (IntOp.addi (IntOp.subi l 1024#32) 1#32) 7#32) 7#32)) := by
    simp only [startW, Scalar.minsi, Scalar.maxsi, Scalar.shli, Scalar.shrsi, Scalar.addi, Scalar.subi]
  rw [e]
  exact kernel_start l hl

section
variable (x : FVec Ideal S4x4x32x64 .bf16) (k v : FVec Ideal S4x4x8x64 .bf16) (C D : FVec Ideal S4x131072x8x64 .fp8e4m3)
  (l : IVec S4 32) (e f : IVec S8 32)

/-- One entry of the output, by what it attends to. -/
def outEntry (b s : Fin 4) (H : Fin 8) (g : Fin 4) (d : Fin 64) : EReal :=
  entry (l (ix1 b)) s (fun d => x (ix4 b s ⟨4 * H.val + g.val, by omega⟩ d)) (fun p d => C (ix4 b p H d))
    (fun t d => code e k b t H d) (fun p => D (ix4 b p H d)) (fun t => code f v b t H d)
    (powE (e (ix1 H)) * Ideal.ofBits .f32 0x3E000000#32) (powE (f (ix1 H)))

/-- Equal queries and scales give equal entries. -/
theorem entry_congr {w : BitVec 32} {s : Fin 4} {q q' : Fin 64 → EReal} {kc : Fin 131072 → Fin 64 → EReal} {kn : Fin 4 → Fin 64 → EReal}
    {vc : Fin 131072 → EReal} {vn : Fin 4 → EReal} {ks ks' vs vs' : EReal} (hq : q = q') (hk : ks = ks') (hv : vs = vs') :
    entry w s q kc kn vc vn ks vs = entry w s q' kc kn vc vn ks' vs' := by
  rw [hq, hk, hv]

/-- A kernel block's entry. -/
theorem outBlk_at (hl : LenOk l) (he : ExpOk e) (hf : ExpOk f) (A B : Vec Ideal S4x512x131072 .fp8e4m3)
    (hA : ∀ (b : Fin 4) (r : Fin 512) (p : Fin 131072), A (ix3 b r p) = C (ix4 b p ⟨r.val / 64, by omega⟩ ⟨r.val % 64, by omega⟩))
    (hB : ∀ (b : Fin 4) (r : Fin 512) (p : Fin 131072), B (ix3 b r p) = D (ix4 b p ⟨r.val / 64, by omega⟩ ⟨r.val % 64, by omega⟩))
    (b : Fin 4) (j : Fin 2) (s h g : Fin 4) (d : Fin 64) :
    outBlk l e f x k v A B b j (ix4 0 s ⟨4 * h.val + g.val, by omega⟩ d)
      = outEntry x k v C D l e f b s ⟨4 * j.val + h.val, by omega⟩ g d := by
  have hs : (startW (l (ix1 b))).toInt = min 129920 (max 0 (128 * (((l (ix1 b)).toInt - 1023) / 128))) := startW_toInt _ (hl b)
  have hn := toNat_of_nonneg (startW (l (ix1 b))) (by omega)
  have hle := startW_le (l (ix1 b))
  have hln : ∀ i : Fin 128, lane b j h s i → (⟨i.val / 32, by omega⟩ : Fin 4) = b ∧ (⟨i.val % 8, by omega⟩ : Fin 8) = ⟨4 * j.val + h.val, by omega⟩ :=
    fun i hi => ⟨Fin.ext hi.1, Fin.ext hi.2.1⟩
  have hx : ∀ d, xRd (F := Ideal) x b.val (16 * j.val) (ix4 0 s ⟨4 * h.val + g.val, by omega⟩ d)
      = x (ix4 b s ⟨4 * (4 * j.val + h.val) + g.val, by omega⟩ d) := fun d => by
    have e0 : (⟨b.val % 4, Nat.mod_lt _ (by decide)⟩ : Fin 4) = b := Fin.ext (by dsimp only; omega)
    have e1 : (⟨(16 * j.val + (4 * h.val + g.val)) % 32, Nat.mod_lt _ (by decide)⟩ : Fin 32) = ⟨4 * (4 * j.val + h.val) + g.val, by omega⟩ :=
      Fin.ext (by dsimp only; omega)
    rw [← e1]
    conv_rhs => rw [← e0]
    rfl
  unfold outBlk outEntry
  refine (blk_at (startW (l (ix1 b))) (l (ix1 b)) (startW (l (ix1 b))).toNat hn.symm (by omega) (hl b) _ _ _ _ _ _ _ _ s h g
    (sel4_ok e he j h) (sel4_ok f hf j h) _ _ _ _ _ (hn.trans hs) b j d
    (fun p d => C (ix4 b p ⟨4 * j.val + h.val, by omega⟩ d)) (fun p => D (ix4 b p ⟨4 * j.val + h.val, by omega⟩ d))
    (fun t d => code e k b t ⟨4 * j.val + h.val, by omega⟩ d) (fun t => code f v b t ⟨4 * j.val + h.val, by omega⟩ d)
    (fun i h' d => cacheRd_at A C hA b j h _ i h' d) (fun i h' => cacheRd_at B D hB b j h _ i h' d)
    (fun i hi d => (codes2_at e he k i d).trans (by rw [(hln i hi).1, (hln i hi).2]))
    (fun i hi => (codes2_at f hf v i d).trans (by rw [(hln i hi).1, (hln i hi).2]))).trans ?_
  exact entry_congr (funext hx) (congrArg (powE · * Ideal.ofBits .f32 0x3E000000#32) (sel4_vec e j h)) (congrArg powE (sel4_vec f j h))

/-- One entry of a window in the reference. -/
theorem rWindow_at (st : IVec S4 32) (a : Fin 4 → ℕ) (ha : ∀ b, (st (ix1 b)).toInt = a b) (ha' : ∀ b, a b ≤ 130048)
    (b : Fin 4) (i : Fin 1024) (h' : a b + i.val < 131072) (h : Fin 8) (d : Fin 64) :
    rWindow C st (ix4 b i h d) = C (ix4 b ⟨a b + i.val, h'⟩ h d) := by
  have e : ∀ (w : IVec Cert.ReferenceIdeal.S_ 32) (hw : w (Shape.Idx.first Cert.ReferenceIdeal.Gen.h_S_) = st (ix1 b)),
      rSlice C (BitVec.ofNat 32 b.val) w (ix4 0 i h d) = C (ix4 b ⟨a b + i.val, h'⟩ h d) := fun w hw =>
    rSlice_at C b w (a b) (by rw [hw]; exact ha b) (ha' b) i h d
  fin_cases b
  · refine Eq.trans ?_ (e (shapeCast Cert.ReferenceIdeal.S_ (extractStridedSlice Cert.ReferenceIdeal.S1 ![0] st
      Cert.ReferenceIdeal.Gen.slices_S4_S1_0) Cert.ReferenceIdeal.Gen.shapeCasts_S1_S_) ?_)
    · pointwise [rWindow]
    · rw [show Shape.Idx.first Cert.ReferenceIdeal.Gen.h_S_ = ix0 from Subsingleton.elim _ _]
      pointwise
  · refine Eq.trans ?_ (e (shapeCast Cert.ReferenceIdeal.S_ (extractStridedSlice Cert.ReferenceIdeal.S1 ![1] st
      Cert.ReferenceIdeal.Gen.slices_S4_S1_1) Cert.ReferenceIdeal.Gen.shapeCasts_S1_S_) ?_)
    · pointwise [rWindow]
    · rw [show Shape.Idx.first Cert.ReferenceIdeal.Gen.h_S_ = ix0 from Subsingleton.elim _ _]
      pointwise
  · refine Eq.trans ?_ (e (shapeCast Cert.ReferenceIdeal.S_ (extractStridedSlice Cert.ReferenceIdeal.S1 ![2] st
      Cert.ReferenceIdeal.Gen.slices_S4_S1_2) Cert.ReferenceIdeal.Gen.shapeCasts_S1_S_) ?_)
    · pointwise [rWindow]
    · rw [show Shape.Idx.first Cert.ReferenceIdeal.Gen.h_S_ = ix0 from Subsingleton.elim _ _]
      pointwise
  · refine Eq.trans ?_ (e (shapeCast Cert.ReferenceIdeal.S_ (extractStridedSlice Cert.ReferenceIdeal.S1 ![3] st
      Cert.ReferenceIdeal.Gen.slices_S4_S1_3) Cert.ReferenceIdeal.Gen.shapeCasts_S1_S_) ?_)
    · pointwise [rWindow]
    · rw [show Shape.Idx.first Cert.ReferenceIdeal.Gen.h_S_ = ix0 from Subsingleton.elim _ _]
      pointwise

/-- An entry of the reference's output. -/
theorem rOut_at (hl : LenOk l) (b s : Fin 4) (H : Fin 8) (g : Fin 4) (d : Fin 64) :
    rOut x k v C D l e f (ix4 b s ⟨4 * H.val + g.val, by omega⟩ d) = outEntry x k v C D l e f b s H g d := by
  have hs : ∀ b, (rStart l (ix1 b)).toInt = min 130048 (max 0 ((l (ix1 b)).toInt - 1024)) := fun b => by
    rw [rStart_at]; exact reference_start _ (hl b)
  have hn := fun b => toNat_of_nonneg (rStart l (ix1 b)) (by have := hs b; omega)
  have hle : ∀ b, (rStart l (ix1 b)).toNat ≤ 130048 := fun b => by have := hs b; have := hn b; omega
  unfold rOut outEntry
  refine (rAttend_at l (rStart l) b s (rStart l (ix1 b)).toNat (hn b).symm ((hn b).trans (hs b)) (hl b) H g d _ _ _ _ _ _ _
    (fun p d => C (ix4 b p H d)) (fun p => D (ix4 b p H d))
    (fun i h' d => rWindow_at C (rStart l) (fun b => (rStart l (ix1 b)).toNat) (fun b => (hn b).symm) hle b i h' H d)
    (fun i h' => rWindow_at D (rStart l) (fun b => (rStart l (ix1 b)).toNat) (fun b => (hn b).symm) hle b i h' H d)).trans ?_
  rw [rScale_at, rScale_at]
  have hk : ∀ t d, (extf .bf16 (rCodes e k) Cert.ReferenceIdeal.Gen.bitsLt_fp8e4m3_bf16 : FVec Ideal S4x4x8x64 .bf16) (ix4 b t H d) = code e k b t H d :=
    fun t d => rCodes_at e k b t H d
  have hv : ∀ t d, (extf .bf16 (rCodes f v) Cert.ReferenceIdeal.Gen.bitsLt_fp8e4m3_bf16 : FVec Ideal S4x4x8x64 .bf16) (ix4 b t H d) = code f v b t H d :=
    fun t d => rCodes_at f v b t H d
  simp only [hk, hv]
  rfl

/-- The output is the reference's. -/
theorem out_eq (hl : LenOk l) (he : ExpOk e) (hf : ExpOk f) (A B : Vec Ideal S4x512x131072 .fp8e4m3)
    (hA : ∀ (b : Fin 4) (r : Fin 512) (p : Fin 131072), A (ix3 b r p) = C (ix4 b p ⟨r.val / 64, by omega⟩ ⟨r.val % 64, by omega⟩))
    (hB : ∀ (b : Fin 4) (r : Fin 512) (p : Fin 131072), B (ix3 b r p) = D (ix4 b p ⟨r.val / 64, by omega⟩ ⟨r.val % 64, by omega⟩)) :
    outFull l e f x k v A B = rOut x k v C D l e f := by
  funext i
  idx_vars i
  have hq := i2.isLt
  have h1 := outBlk_at x k v C D l e f hl he hf A B hA hB i0 ⟨i2.val / 16, by omega⟩ i1 ⟨i2.val % 16 / 4, by omega⟩ ⟨i2.val % 4, by omega⟩ i3
  have h2 := rOut_at x k v C D l e f hl i0 i1 ⟨4 * (i2.val / 16) + i2.val % 16 / 4, by omega⟩ ⟨i2.val % 4, by omega⟩ i3
  have eq : (⟨4 * (4 * (i2.val / 16) + i2.val % 16 / 4) + i2.val % 4, by omega⟩ : Fin 32) = i2 := Fin.ext (by dsimp only; omega)
  refine Eq.trans (Eq.symm (outFull_at l e f x k v A B i0 ⟨i2.val / 16, by omega⟩ (ix4 i0 i1 i2 i3) _ rfl rfl ?_ rfl)) ((h1.trans h2.symm).trans ?_)
  · show i2.val = 16 * (i2.val / 16) + (4 * (i2.val % 16 / 4) + i2.val % 4)
    omega
  · exact congrArg (fun q : Fin 32 => rOut x k v C D l e f (ix4 i0 i1 q i3)) eq

end

end Cert.Result

end
-- ==== Proof.V.Entry.lean ====
module

public import proofs.«01_k».proof.Proof.V.Result
public import Idealize.ShloMosaic.Lib.Claim

@[expose] public section

set_option maxRecDepth 16384

noncomputable section

/-! The two caches as the kernel's region finds them: the positions last, the head and the coordinate in one axis. -/

namespace Cert.Result

open Cert.KernelIdeal Cert.KernelIdeal.Gen
open Idealize.ShloMosaic Idealize.ShloMosaic.TcCoe Idealize.SL.Sem

variable (m : (ℓ : Loc nD τ sig) → Buf (Elt Ideal) ℓ) (c : Dev nD)

/-- An entry of the keys' cache. -/
theorem keys_at (b : Fin 4) (r : Fin 512) (p : Fin 131072) :
    (Cert.KernelIdeal.Hand.V m c main_v1 : Vec Ideal S4x512x131072 .fp8e4m3) (ix3 b r p)
      = (m ((c.tc : Thread nD τ).loc main_arg3) : Vec Ideal S4x131072x8x64 .fp8e4m3) (ix4 b p ⟨r.val / 64, by omega⟩ ⟨r.val % 64, by omega⟩) := by
  entry_read
  pointwise

/-- An entry of the values' cache. -/
theorem values_at (b : Fin 4) (r : Fin 512) (p : Fin 131072) :
    (Cert.KernelIdeal.Hand.V m c main_v3 : Vec Ideal S4x512x131072 .fp8e4m3) (ix3 b r p)
      = (m ((c.tc : Thread nD τ).loc main_arg4) : Vec Ideal S4x131072x8x64 .fp8e4m3) (ix4 b p ⟨r.val / 64, by omega⟩ ⟨r.val % 64, by omega⟩) := by
  entry_read
  pointwise

end Cert.Result

end
-- ==== Proof.V.Pre.lean ====
module

public import proofs.«01_k».proof.Defs
public import proofs.«01_k».proof.Proof.V.Result
public import Idealize.ShloMosaic.Lib.ReduceAll
public import Idealize.ShloMosaic.Lib.Affine
public import Idealize.ShloMosaic.Lib.Decide

@[expose] public section

set_option maxRecDepth 16384

noncomputable section

/-! What the precondition says of the lengths and of the exponents. -/

namespace Cert.Pre_representable

open Idealize.ShloMosaic

/-- The shape relations the precondition states. -/
theorem facts : Facts where
  bcast_S_S4 := by decide
  bcast_S_S8 := by decide
  reducesTo_S4_S_d0 := by decide
  h_S_ := by decide
  reducesTo_S8_S_d0 := by decide

end Cert.Pre_representable

namespace Cert.Result

open Idealize.ShloMosaic Idealize.ShloMosaic.TcCoe Idealize.SL.Sem
open Cert.KernelIdeal (S4 S8 S4x4x8x64 S4x4x32x64)
open Cert.ReferenceIdeal (S4x131072x8x64)

/-- Under the precondition the lengths and the exponents are in range. -/
theorem pre_ok [h : Cert.Pre_representable.Facts] (x0 : FVec Ideal S4x4x32x64 .bf16) (x1 x2 : FVec Ideal S4x4x8x64 .bf16)
    (x3 x4 : FVec Ideal S4x131072x8x64 .fp8e4m3) (l : IVec S4 32) (e f : IVec S8 32)
    (hp : Cert.Pre_representable.fn x0 x1 x2 x3 x4 l e f = fun _ => 1#1) : LenOk l ∧ ExpOk e ∧ ExpOk f := by
  have h0 := congrFun hp ix0
  dsimp only [Cert.Pre_representable.fn, Cert.Pre_representable.fn_part1] at h0
  have h1 := IntOp.andi_eq_one.1 h0
  have hl := fun b : Fin 4 => IntOp.andi_eq_one.1 (Host.reduce_andi_all _ _ _ _ _ h1.1 (ix1 b))
  have he := fun b : Fin 8 => IntOp.andi_eq_one.1 (Host.reduce_andi_all _ _ _ _ _ h1.2 (ix1 b))
  refine ⟨fun b => ⟨IntOp.cmpi_sge.1 (hl b).1, IntOp.cmpi_sle.1 (hl b).2⟩, fun b => ?_, fun b => ?_⟩
  · have h2 := IntOp.andi_eq_one.1 (he b).1
    have h3 := IntOp.andi_eq_one.1 h2.1
    exact ⟨IntOp.cmpi_sge.1 h3.1, IntOp.cmpi_sle.1 h3.2⟩
  · have h2 := IntOp.andi_eq_one.1 (he b).1
    exact ⟨IntOp.cmpi_sge.1 h2.2, IntOp.cmpi_sle.1 (he b).2⟩

end Cert.Result

end
-- ==== Proof.R.Eval.lean ====
module

public import proofs.«01_k».proof.Proof.R.Term
public import Idealize.ShloMosaic.Lib.Claim
public import Idealize.ShloMosaic.Lib.StableHlo.RunClose
public import Idealize.ShloMosaic.Lib.Pipeline.FrameTail

@[expose] public section

set_option maxRecDepth 16384

noncomputable section

/-! What the reference's host operations leave, as the functions of `Term`. -/

namespace Cert.ReferenceIdeal.Val

open Cert.ReferenceIdeal Cert.ReferenceIdeal.Gen
open Idealize.ShloMosaic Idealize.ShloMosaic.TcCoe Idealize.SL.Sem

variable {F : FTy → Type} [FloatOps F]

/-- The operations before the region. -/
abbrev preOps : List (HloOp τ sig (Elt F)) :=
  List.flatten [hostOps0, hostOps0_1, hostOps0_2, hostOps0_3, hostOps0_4, hostOps0_5, hostOps0_6]

/-- The operations after the region. -/
abbrev postOps : List (HloOp τ sig (Elt F)) :=
  List.flatten [hostOps1, hostOps1_1, hostOps1_2, hostOps1_3, hostOps1_4, hostOps1_5, hostOps1_6]

variable (W : Valuation τ sig (Elt F))

set_option maxHeartbeats 4000000 in
/-- The codes of the keys. -/
theorem pre_kCodes : StableHlo.after preOps W (Proc.devRef .tc main_v14_0) = rCodes (W (Proc.devRef .tc main_arg6)) (W (Proc.devRef .tc main_arg1)) := by
  simp only [preOps, hostOps0, hostOps0_1, hostOps0_2, hostOps0_3, hostOps0_4, hostOps0_5, hostOps0_6, List.flatten_cons, List.flatten_nil, List.append_nil, List.cons_append,
    List.nil_append]
  simp only [StableHlo.after_cons, StableHlo.after_nil]
  after_results_simp
  all_goals rfl

set_option maxHeartbeats 4000000 in
/-- The codes of the values. -/
theorem pre_vCodes : StableHlo.after preOps W (Proc.devRef .tc main_v29_0) = rCodes (W (Proc.devRef .tc main_arg7)) (W (Proc.devRef .tc main_arg2)) := by
  simp only [preOps, hostOps0, hostOps0_1, hostOps0_2, hostOps0_3, hostOps0_4, hostOps0_5, hostOps0_6, List.flatten_cons, List.flatten_nil, List.append_nil, List.cons_append,
    List.nil_append]
  simp only [StableHlo.after_cons, StableHlo.after_nil]
  after_results_simp
  all_goals rfl

set_option maxHeartbeats 4000000 in
/-- The scales of the keys. -/
theorem pre_kScale : StableHlo.after preOps W (Proc.devRef .tc main_v14_1) = rScale (W (Proc.devRef .tc main_arg6)) := by
  simp only [preOps, hostOps0, hostOps0_1, hostOps0_2, hostOps0_3, hostOps0_4, hostOps0_5, hostOps0_6, List.flatten_cons, List.flatten_nil, List.append_nil, List.cons_append,
    List.nil_append]
  simp only [StableHlo.after_cons, StableHlo.after_nil]
  after_results_simp
  all_goals rfl

set_option maxHeartbeats 4000000 in
/-- The scales of the values. -/
theorem pre_vScale : StableHlo.after preOps W (Proc.devRef .tc main_v29_1) = rScale (W (Proc.devRef .tc main_arg7)) := by
  simp only [preOps, hostOps0, hostOps0_1, hostOps0_2, hostOps0_3, hostOps0_4, hostOps0_5, hostOps0_6, List.flatten_cons, List.flatten_nil, List.append_nil, List.cons_append,
    List.nil_append]
  simp only [StableHlo.after_cons, StableHlo.after_nil]
  after_results_simp
  all_goals rfl

set_option maxHeartbeats 4000000 in
/-- The first positions of the windows. -/
theorem pre_start : StableHlo.after preOps W (Proc.devRef .tc main_v32) = rStart (W (Proc.devRef .tc main_arg5)) := by
  simp only [preOps, hostOps0, hostOps0_1, hostOps0_2, hostOps0_3, hostOps0_4, hostOps0_5, hostOps0_6, List.flatten_cons, List.flatten_nil, List.append_nil, List.cons_append,
    List.nil_append]
  simp only [StableHlo.after_cons, StableHlo.after_nil]
  after_results_simp
  all_goals rfl

set_option maxHeartbeats 4000000 in
/-- The attention output. -/
theorem post_out : StableHlo.after postOps W (Proc.devRef .tc main_v163) = rAttend (W (Proc.devRef .tc main_arg5)) (W (Proc.devRef .tc main_v32)) (W (Proc.devRef .tc main_v14_1)) (W (Proc.devRef .tc main_v29_1)) (W (Proc.devRef .tc main_arg0)) (W (Proc.devRef .tc main_v83_0)) (W (Proc.devRef .tc main_v83_1)) (W (Proc.devRef .tc main_v83_2)) (W (Proc.devRef .tc main_v83_3)) := by
  simp only [postOps, hostOps1, hostOps1_1, hostOps1_2, hostOps1_3, hostOps1_4, hostOps1_5, hostOps1_6, List.flatten_cons, List.flatten_nil, List.append_nil, List.cons_append,
    List.nil_append]
  simp only [StableHlo.after_cons, StableHlo.after_nil]
  after_results_simp
  all_goals rfl

set_option maxHeartbeats 4000000 in
/-- The row of the keys' scales. -/
theorem post_kScale : StableHlo.after postOps W (Proc.devRef .tc main_v164) = broadcastInDim S1x8 ![1] bcast_S8_S1x8_1 (W (Proc.devRef .tc main_v14_1)) := by
  simp only [postOps, hostOps1, hostOps1_1, hostOps1_2, hostOps1_3, hostOps1_4, hostOps1_5, hostOps1_6, List.flatten_cons, List.flatten_nil, List.append_nil, List.cons_append,
    List.nil_append]
  simp only [StableHlo.after_cons, StableHlo.after_nil]
  after_results_simp
  all_goals rfl

set_option maxHeartbeats 4000000 in
/-- The row of the values' scales. -/
theorem post_vScale : StableHlo.after postOps W (Proc.devRef .tc main_v165) = broadcastInDim S1x8 ![1] bcast_S8_S1x8_1 (W (Proc.devRef .tc main_v29_1)) := by
  simp only [postOps, hostOps1, hostOps1_1, hostOps1_2, hostOps1_3, hostOps1_4, hostOps1_5, hostOps1_6, List.flatten_cons, List.flatten_nil, List.append_nil, List.cons_append,
    List.nil_append]
  simp only [StableHlo.after_cons, StableHlo.after_nil]
  after_results_simp
  all_goals rfl

/-- Four stacked windows are equal when each is. -/
theorem cat4 {x0 x1 x2 x3 y0 y1 y2 y3 : FVec F S1x1024x8x64 .fp8e4m3} (h0 : x0 = y0) (h1 : x1 = y1) (h2 : x2 = y2) (h3 : x3 = y3) :
    concatenate S4x1024x8x64 0 [⟨S1x1024x8x64, x0⟩, ⟨S1x1024x8x64, x1⟩, ⟨S1x1024x8x64, x2⟩, ⟨S1x1024x8x64, x3⟩]
      concatenates_S1x1024x8x64_S1x1024x8x64_S1x1024x8x64_S1x1024x8x64_S4x1024x8x64_d0
    = concatenate S4x1024x8x64 0 [⟨S1x1024x8x64, y0⟩, ⟨S1x1024x8x64, y1⟩, ⟨S1x1024x8x64, y2⟩, ⟨S1x1024x8x64, y3⟩]
      concatenates_S1x1024x8x64_S1x1024x8x64_S1x1024x8x64_S1x1024x8x64_S4x1024x8x64_d0 := by
  subst h0 h1 h2 h3; rfl

set_option maxHeartbeats 400000 in
/-- The windows of the keys. -/
theorem pre_kWindow : StableHlo.after preOps W (Proc.devRef .tc main_v57) = rWindow (W (Proc.devRef .tc main_arg3)) (rStart (W (Proc.devRef .tc main_arg5))) := by
  simp only [preOps, hostOps0, hostOps0_1, hostOps0_2, hostOps0_3, hostOps0_4, hostOps0_5, hostOps0_6, List.flatten_cons, List.flatten_nil, List.append_nil, List.cons_append,
    List.nil_append]
  simp only [StableHlo.after_cons, StableHlo.after_nil]
  after_results_simp_entrywise
  refine cat4 ?_ ?_ ?_ ?_
  all_goals dsimp only [Matrix.cons_val]
  all_goals after_results_simp_entrywise
  all_goals rfl

set_option maxHeartbeats 400000 in
/-- The windows of the values. -/
theorem pre_vWindow : StableHlo.after preOps W (Proc.devRef .tc main_v82) = rWindow (W (Proc.devRef .tc main_arg4)) (rStart (W (Proc.devRef .tc main_arg5))) := by
  simp only [preOps, hostOps0, hostOps0_1, hostOps0_2, hostOps0_3, hostOps0_4, hostOps0_5, hostOps0_6, List.flatten_cons, List.flatten_nil, List.append_nil, List.cons_append,
    List.nil_append]
  simp only [StableHlo.after_cons, StableHlo.after_nil]
  after_results_simp_entrywise
  refine cat4 ?_ ?_ ?_ ?_
  all_goals dsimp only [Matrix.cons_val]
  all_goals after_results_simp_entrywise
  all_goals rfl

end Cert.ReferenceIdeal.Val

end
-- ==== Proof.R.Run.lean ====
module

public import proofs.«01_k».proof.Proof.R.Eval
public import Idealize.ShloMosaic.Lib.Pipeline.ValueKit

@[expose] public section

set_option maxRecDepth 16384

noncomputable section

/-! The reference's run: its results as the functions of `Term`, its arguments unchanged. -/

namespace Cert.ReferenceIdeal.Val

open Cert.ReferenceIdeal Cert.ReferenceIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The region's windows are whole arrays. -/
theorem idx : ∀ t : Fin cfg0.N, win0_0.index t = ![0, 0, 0, 0] ∧ win0_1.index t = ![0, 0, 0, 0] ∧ win0_2.index t = ![0, 0, 0, 0] ∧ win0_3.index t = ![0, 0, 0, 0]
    ∧ win0_4.index t = ![0, 0, 0, 0] ∧ win0_5.index t = ![0, 0, 0, 0] ∧ win0_6.index t = ![0, 0, 0, 0] ∧ win0_7.index t = ![0, 0, 0, 0] :=
  (by decide +kernel : ∀ t : Fin grid0.N, _)

/-- The one block of window 0 is its array. -/
theorem iblk0 (c : Dev nD) (t : Fin cfg0.N) : (iblk m c 0 t : FVec F S4x1024x8x64 .fp8e4m3) = V m c main_v57 := by
  funext y
  blk_ext [iblk, idx t]

/-- The one block of window 1 is its array. -/
theorem iblk1 (c : Dev nD) (t : Fin cfg0.N) : (iblk m c 1 t : FVec F S4x1024x8x64 .fp8e4m3) = V m c main_v82 := by
  funext y
  blk_ext [iblk, idx t]

/-- The one block of window 2 is its array. -/
theorem iblk2 (c : Dev nD) (t : Fin cfg0.N) : (iblk m c 2 t : FVec F S4x4x8x64 .fp8e4m3) = V m c main_v14_0 := by
  funext y
  blk_ext [iblk, idx t]

/-- The one block of window 3 is its array. -/
theorem iblk3 (c : Dev nD) (t : Fin cfg0.N) : (iblk m c 3 t : FVec F S4x4x8x64 .fp8e4m3) = V m c main_v29_0 := by
  funext y
  blk_ext [iblk, idx t]

/-- The region widens the array of window 0. -/
theorem final4 (c : Dev nD) : (dats m 0 c).arrAt 4 (cfgs 0).N = (extf .bf16 (V m c main_v57 : FVec F S4x1024x8x64 .fp8e4m3) bitsLt_fp8e4m3_bf16 : FVec F S4x1024x8x64 .bf16) := by
  refine (dats m 0 c).arrAt_eq_of_after_last 4 t0_0 (by decide +kernel) _ fun j => ?_
  blk_simp
  rw [after0_4, iblk0]
  frame_out
  pointwise [k0_pay1]

/-- The region widens the array of window 1. -/
theorem final5 (c : Dev nD) : (dats m 0 c).arrAt 5 (cfgs 0).N = (extf .bf16 (V m c main_v82 : FVec F S4x1024x8x64 .fp8e4m3) bitsLt_fp8e4m3_bf16 : FVec F S4x1024x8x64 .bf16) := by
  refine (dats m 0 c).arrAt_eq_of_after_last 5 t0_0 (by decide +kernel) _ fun j => ?_
  blk_simp
  rw [after0_5, iblk1]
  frame_out
  pointwise [k0_pay2]

/-- The region widens the array of window 2. -/
theorem final6 (c : Dev nD) : (dats m 0 c).arrAt 6 (cfgs 0).N = (extf .bf16 (V m c main_v14_0 : FVec F S4x4x8x64 .fp8e4m3) bitsLt_fp8e4m3_bf16 : FVec F S4x4x8x64 .bf16) := by
  refine (dats m 0 c).arrAt_eq_of_after_last 6 t0_0 (by decide +kernel) _ fun j => ?_
  blk_simp
  rw [after0_6, iblk2]
  frame_out
  pointwise [k0_pay3]

/-- The region widens the array of window 3. -/
theorem final7 (c : Dev nD) : (dats m 0 c).arrAt 7 (cfgs 0).N = (extf .bf16 (V m c main_v29_0 : FVec F S4x4x8x64 .fp8e4m3) bitsLt_fp8e4m3_bf16 : FVec F S4x4x8x64 .bf16) := by
  refine (dats m 0 c).arrAt_eq_of_after_last 7 t0_0 (by decide +kernel) _ fun j => ?_
  blk_simp
  rw [after0_7, iblk3]
  frame_out
  pointwise [k0_pay4]

/-- What the buffer held before the region is there after it. -/
theorem keep_v13 (c : Dev nD) : Pipeline.withArrays (cfgs 0).spec c (V0 m c) (fun w => (dats m 0 c).arrAt w (cfgs 0).N) (Proc.devRef .tc main_v14_1) = V m c main_v14_1 :=
  Pipeline.withArrays_of_ne _ c (V0 m c) _ main_v14_1 (by exact (by decide : ∀ w, Pipeline.arrRef spec0 w ≠ main_v14_1))

/-- What the buffer held before the region is there after it. -/
theorem keep_v27 (c : Dev nD) : Pipeline.withArrays (cfgs 0).spec c (V0 m c) (fun w => (dats m 0 c).arrAt w (cfgs 0).N) (Proc.devRef .tc main_v29_1) = V m c main_v29_1 :=
  Pipeline.withArrays_of_ne _ c (V0 m c) _ main_v29_1 (by exact (by decide : ∀ w, Pipeline.arrRef spec0 w ≠ main_v29_1))

/-- What the buffer held before the region is there after it. -/
theorem keep_v30 (c : Dev nD) : Pipeline.withArrays (cfgs 0).spec c (V0 m c) (fun w => (dats m 0 c).arrAt w (cfgs 0).N) (Proc.devRef .tc main_v32) = V m c main_v32 :=
  Pipeline.withArrays_of_ne _ c (V0 m c) _ main_v32 (by exact (by decide : ∀ w, Pipeline.arrRef spec0 w ≠ main_v32))

/-- What the buffer held before the region is there after it. -/
theorem keep_arg0 (c : Dev nD) : Pipeline.withArrays (cfgs 0).spec c (V0 m c) (fun w => (dats m 0 c).arrAt w (cfgs 0).N) (Proc.devRef .tc main_arg0) = V m c main_arg0 :=
  Pipeline.withArrays_of_ne _ c (V0 m c) _ main_arg0 (by exact (by decide : ∀ w, Pipeline.arrRef spec0 w ≠ main_arg0))

/-- What the buffer held before the region is there after it. -/
theorem keep_arg5 (c : Dev nD) : Pipeline.withArrays (cfgs 0).spec c (V0 m c) (fun w => (dats m 0 c).arrAt w (cfgs 0).N) (Proc.devRef .tc main_arg5) = V m c main_arg5 :=
  Pipeline.withArrays_of_ne _ c (V0 m c) _ main_arg5 (by exact (by decide : ∀ w, Pipeline.arrRef spec0 w ≠ main_arg5))

/-- After the region window 4's array is what the region wrote. -/
theorem arr_v81_0 (c : Dev nD) : Pipeline.withArrays (cfgs 0).spec c (V0 m c) (fun w => (dats m 0 c).arrAt w (cfgs 0).N) (Proc.devRef .tc main_v83_0) = (dats m 0 c).arrAt 4 (cfgs 0).N :=
  Pipeline.withArrays_arr (cfgs 0).spec winFacts0.arr_inj c (V0 m c) _ 4

/-- After the region window 5's array is what the region wrote. -/
theorem arr_v81_1 (c : Dev nD) : Pipeline.withArrays (cfgs 0).spec c (V0 m c) (fun w => (dats m 0 c).arrAt w (cfgs 0).N) (Proc.devRef .tc main_v83_1) = (dats m 0 c).arrAt 5 (cfgs 0).N :=
  Pipeline.withArrays_arr (cfgs 0).spec winFacts0.arr_inj c (V0 m c) _ 5

/-- After the region window 6's array is what the region wrote. -/
theorem arr_v81_2 (c : Dev nD) : Pipeline.withArrays (cfgs 0).spec c (V0 m c) (fun w => (dats m 0 c).arrAt w (cfgs 0).N) (Proc.devRef .tc main_v83_2) = (dats m 0 c).arrAt 6 (cfgs 0).N :=
  Pipeline.withArrays_arr (cfgs 0).spec winFacts0.arr_inj c (V0 m c) _ 6

/-- After the region window 7's array is what the region wrote. -/
theorem arr_v81_3 (c : Dev nD) : Pipeline.withArrays (cfgs 0).spec c (V0 m c) (fun w => (dats m 0 c).arrAt w (cfgs 0).N) (Proc.devRef .tc main_v83_3) = (dats m 0 c).arrAt 7 (cfgs 0).N :=
  Pipeline.withArrays_arr (cfgs 0).spec winFacts0.arr_inj c (V0 m c) _ 7

/-- The buffer before the region. -/
theorem V_v10 (c : Dev nD) : V m c main_v14_0 = rCodes (m ((c.tc : Thread nD τ).loc main_arg6)) (m ((c.tc : Thread nD τ).loc main_arg1)) := pre_kCodes _

/-- The buffer before the region. -/
theorem V_v24 (c : Dev nD) : V m c main_v29_0 = rCodes (m ((c.tc : Thread nD τ).loc main_arg7)) (m ((c.tc : Thread nD τ).loc main_arg2)) := pre_vCodes _

/-- The buffer before the region. -/
theorem V_v13 (c : Dev nD) : V m c main_v14_1 = rScale (m ((c.tc : Thread nD τ).loc main_arg6)) := pre_kScale _

/-- The buffer before the region. -/
theorem V_v27 (c : Dev nD) : V m c main_v29_1 = rScale (m ((c.tc : Thread nD τ).loc main_arg7)) := pre_vScale _

/-- The buffer before the region. -/
theorem V_v30 (c : Dev nD) : V m c main_v32 = rStart (m ((c.tc : Thread nD τ).loc main_arg5)) := pre_start _

/-- The buffer before the region. -/
theorem V_v55 (c : Dev nD) : V m c main_v57 = rWindow (m ((c.tc : Thread nD τ).loc main_arg3)) (rStart (m ((c.tc : Thread nD τ).loc main_arg5))) := pre_kWindow _

/-- The buffer before the region. -/
theorem V_v80 (c : Dev nD) : V m c main_v82 = rWindow (m ((c.tc : Thread nD τ).loc main_arg4)) (rStart (m ((c.tc : Thread nD τ).loc main_arg5))) := pre_vWindow _

/-- The attention output. -/
theorem out_v161 (c : Dev nD) : Pipeline.afterTail₀ cfgs (dats m) 0 (V0 m) [hostOps1, hostOps1_1, hostOps1_2, hostOps1_3, hostOps1_4, hostOps1_5, hostOps1_6] c main_v163 = rOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (post_out _).trans ?_
  rw [keep_v13, keep_v27, keep_v30, keep_arg0, keep_arg5, arr_v81_0, arr_v81_1, arr_v81_2, arr_v81_3, final4, final5, final6, final7,
    V_v10, V_v24, V_v13, V_v27, V_v30, V_v55, V_v80, V_main_arg0, V_main_arg5]
  rfl

/-- The row of the keys' scales. -/
theorem out_v162 (c : Dev nD) : Pipeline.afterTail₀ cfgs (dats m) 0 (V0 m) [hostOps1, hostOps1_1, hostOps1_2, hostOps1_3, hostOps1_4, hostOps1_5, hostOps1_6] c main_v164 = rScaleRow (m ((c.tc : Thread nD τ).loc main_arg6)) := by
  refine (post_kScale _).trans ?_
  rw [keep_v13, V_v13]
  rfl

/-- The row of the values' scales. -/
theorem out_v163 (c : Dev nD) : Pipeline.afterTail₀ cfgs (dats m) 0 (V0 m) [hostOps1, hostOps1_1, hostOps1_2, hostOps1_3, hostOps1_4, hostOps1_5, hostOps1_6] c main_v165 = rScaleRow (m ((c.tc : Thread nD τ).loc main_arg7)) := by
  refine (post_vScale _).trans ?_
  rw [keep_v27, V_v27]
  rfl

/-- The keys' codes are read, not written, by the region. -/
theorem out_v10 (c : Dev nD) : (dats m 0 c).arrAt 2 (cfgs 0).N = rCodes (m ((c.tc : Thread nD τ).loc main_arg6)) (m ((c.tc : Thread nD τ).loc main_arg1)) :=
  ((dats m 0 c).arrAt_in 2 rfl _).trans ((A_eq m c 2).trans (V_v10 m c))

/-- The values' codes are read, not written, by the region. -/
theorem out_v24 (c : Dev nD) : (dats m 0 c).arrAt 3 (cfgs 0).N = rCodes (m ((c.tc : Thread nD τ).loc main_arg7)) (m ((c.tc : Thread nD τ).loc main_arg2)) :=
  ((dats m 0 c).arrAt_in 3 rfl _).trans ((A_eq m c 3).trans (V_v24 m c))

/-- The reference's run. -/
theorem run : θ_run defs (onTc (τ := τ) (main (F := F))) ⟨m, fun _ => 0, ρ⟩ (fun r => ∀ c : Dev nD,
    r.2.mem ((c.tc : Thread nD τ).loc main_v163) = rOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
    ∧ r.2.mem ((c.tc : Thread nD τ).loc main_v14_0) = rCodes (m ((c.tc : Thread nD τ).loc main_arg6)) (m ((c.tc : Thread nD τ).loc main_arg1))
    ∧ r.2.mem ((c.tc : Thread nD τ).loc main_v164) = rScaleRow (m ((c.tc : Thread nD τ).loc main_arg6))
    ∧ r.2.mem ((c.tc : Thread nD τ).loc main_v29_0) = rCodes (m ((c.tc : Thread nD τ).loc main_arg7)) (m ((c.tc : Thread nD τ).loc main_arg2))
    ∧ r.2.mem ((c.tc : Thread nD τ).loc main_v165) = rScaleRow (m ((c.tc : Thread nD τ).loc main_arg7))) := by
  refine (θ_run defs _ _).mono (fun r h c => ?_) (run_main m ρ)
  refine ⟨((h c).2 main_v163 (Pipeline.mem_restRefs_of main_v163 (by decide) (by decide))).trans (out_v161 m c),
    ((h c).1 2).trans (out_v10 m c),
    ((h c).2 main_v164 (Pipeline.mem_restRefs_of main_v164 (by decide) (by decide))).trans (out_v162 m c),
    ((h c).1 3).trans (out_v24 m c),
    ((h c).2 main_v165 (Pipeline.mem_restRefs_of main_v165 (by decide) (by decide))).trans (out_v163 m c)⟩

end Cert.ReferenceIdeal.Val

end
-- ==== Proof.V.Algebraic.lean ====
module

public import proofs.«01_k».proof.Defs
public import proofs.«01_k».proof.Proof.Checks
public import proofs.«01_k».proof.Proof.V.Entry
public import proofs.«01_k».proof.Proof.V.Pre
public import proofs.«01_k».proof.Proof.R.Run
public import proofs.«01_k».proof.Proof.Gen.ReferenceIdeal.Frame

@[expose] public section

set_option maxRecDepth 16384

noncomputable section

/-! The two runs, and the value claim. -/

namespace Cert.Result

open Cert.KernelIdeal Cert.KernelIdeal.Gen Cert.KernelIdeal.Hand
open Idealize.ShloMosaic Idealize.ShloMosaic.TcCoe Idealize.SL.Sem

/-- The kernel's run: its five results as functions of its arguments, and its arguments unchanged. -/
theorem kernel_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v4_0) = outFull (m ((c.tc : Thread nD τ).loc main_arg5)) (m ((c.tc : Thread nD τ).loc main_arg6)) (m ((c.tc : Thread nD τ).loc main_arg7)) (m ((c.tc : Thread nD τ).loc main_arg0)) (m ((c.tc : Thread nD τ).loc main_arg1)) (m ((c.tc : Thread nD τ).loc main_arg2)) (V m c main_v1) (V m c main_v3)
      ∧ r.2.mem ((c.tc : Thread nD τ).loc main_v4_1) = outCodes (F := Ideal) (m ((c.tc : Thread nD τ).loc main_arg6)) (m ((c.tc : Thread nD τ).loc main_arg1))
      ∧ r.2.mem ((c.tc : Thread nD τ).loc main_v4_2) = outScale (F := Ideal) (m ((c.tc : Thread nD τ).loc main_arg6))
      ∧ r.2.mem ((c.tc : Thread nD τ).loc main_v4_3) = outCodes (F := Ideal) (m ((c.tc : Thread nD τ).loc main_arg7)) (m ((c.tc : Thread nD τ).loc main_arg2))
      ∧ r.2.mem ((c.tc : Thread nD τ).loc main_v4_4) = outScale (F := Ideal) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  have hH := Cert.Checks.kernelIdeal_hyps m
  refine (θ_run defs _ _).mono (fun r h c => ?_) (θ_run_and (run_main m g hH) (unchanged m g hH))
  have hc := (h.1 c).1
  exact ⟨(hc 6).trans (final6 m hH c), (hc 7).trans (final7 m hH c), (hc 8).trans (final8 m hH c), (hc 9).trans (final9 m hH c),
    (hc 10).trans (final10 m hH c), h.2 c⟩

/-- At equal arguments in range, the kernel's five results are the reference's. -/
theorem algebraic [hP : Cert.Pre_representable.Facts] :
    Cert.algebraic_KernelIdeal_ReferenceIdeal_pre_representable := by
  intro m g m' g' hpre ha
  refine ⟨_, _, _, _, _, kernel_run m g, ?_⟩
  refine (θ_run Cert.ReferenceIdeal.defs _ _).mono (fun r h c => ?_)
    (θ_run_and (Cert.ReferenceIdeal.Val.run m' g') (Cert.ReferenceIdeal.Gen.unchanged m' g'))
  obtain ⟨hl, he, hf⟩ := pre_ok _ _ _ _ _ _ _ _ (hpre c)
  obtain ⟨a0, a1, a2, a3, a4, a5, a6, a7⟩ := ha c
  obtain ⟨r0, r1, r2, r3, r4⟩ := h.1 c
  rw [a0, a1, a2, a3, a4, a5, a6, a7] at r0
  rw [a6, a1] at r1
  rw [a6] at r2
  rw [a7, a2] at r3
  rw [a7] at r4
  exact ⟨r0.trans (out_eq _ _ _ _ _ _ _ _ hl he hf _ _ (keys_at m c) (values_at m c)).symm,
    r1.trans (codes_eq _ he _).symm, r2.trans (scale_eq _ he).symm, r3.trans (codes_eq _ hf _).symm,
    r4.trans (scale_eq _ hf).symm, h.2 c⟩

end Cert.Result

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.K.Frame
public import proofs.«01_k».proof.Proof.KI.Frame
public import proofs.«01_k».proof.Proof.Checks
public import proofs.«01_k».proof.Proof.V.Algebraic
public import Idealize.ShloMosaic.Adequacy
public import Idealize.ShloMosaic.Init

@[expose] public section

noncomputable section

namespace Cert.Proof

open Idealize.ShloMosaic Idealize.SL.Sem Cert.Kernel

/-- The frames of the kernel, of its idealization and of the reference, what the idealization rewrites, and the equality of
    the kernel's five results with the reference's in the extended reals. -/
theorem claim : Cert.Claim :=
  ⟨Cert.Kernel.Gen.facts, Cert.KernelIdeal.Gen.facts, Cert.ReferenceIdeal.Gen.facts, Cert.Pre_representable.facts,
    fun m ρ _ => Cert.Kernel.Hand.frame m ρ (Cert.Checks.kernel_hyps m),
    fun m ρ _ => Cert.KernelIdeal.Hand.frame m ρ (Cert.Checks.kernelIdeal_hyps m),
    fun m ρ _ => Cert.KernelIdeal.Hand.frame m ρ (Cert.Checks.kernelIdeal_hyps m),
    fun m ρ _ => Cert.ReferenceIdeal.Gen.frame m ρ,
    fun m ρ _ => Cert.ReferenceIdeal.Gen.frame m ρ,
    ⟨IdealRules.named_const.statement Cert.KernelIdeal.κ "log2e" .f32 0x3FB8AA3B#32 (((Real.log 2)⁻¹ : ℝ) : EReal) rfl,
      IdealRules.named_const.statement Cert.KernelIdeal.κ "half_mask" .f32 0xFEFFFFFF#32 ⊥ rfl⟩,
    Cert.Result.algebraic (hP := Cert.Pre_representable.facts)⟩

end Cert.Proof

end
